-- ==== Defs.lean ====
def Pre_Kernel [hPre_idx_in_rows : Cert.Pre_idx_in_rows.Facts] (m : (ℓ : Loc Cert.Kernel.nD Cert.Kernel.τ Cert.Kernel.sig) → Buf (Elt Bits) ℓ) : Prop :=
  ∀ c : Dev Cert.Kernel.nD,
    (Cert.Pre_idx_in_rows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_idx_in_rows : Cert.Pre_idx_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_in_rows [hPre_idx_in_rows : Cert.Pre_idx_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Points (m : (ℓ : Loc Cert.Points.nD Cert.Points.τ Cert.Points.sig) → Buf (Elt Bits) ℓ) : Prop :=
  True

def Pre_PointsIdeal (m : (ℓ : Loc Cert.PointsIdeal.nD Cert.PointsIdeal.τ Cert.PointsIdeal.sig) → Buf (Elt Ideal) ℓ) : Prop :=
  True

def Pre_PointsIdeal_points_finite [hPre_points_finite : Cert.Pre_points_finite.Facts] (m : (ℓ : Loc Cert.PointsIdeal.nD Cert.PointsIdeal.τ Cert.PointsIdeal.sig) → Buf (Elt Ideal) ℓ) : Prop :=
  ∀ c : Dev Cert.PointsIdeal.nD,
    (Cert.Pre_points_finite.fn (F := Ideal) (m ((c.tc : Thread Cert.PointsIdeal.nD Cert.PointsIdeal.τ).loc Cert.PointsIdeal.main_arg0)) (m ((c.tc : Thread Cert.PointsIdeal.nD Cert.PointsIdeal.τ).loc Cert.PointsIdeal.main_arg1)) (m ((c.tc : Thread Cert.PointsIdeal.nD Cert.PointsIdeal.τ).loc Cert.PointsIdeal.main_arg2)) (m ((c.tc : Thread Cert.PointsIdeal.nD Cert.PointsIdeal.τ).loc Cert.PointsIdeal.main_arg3)) (m ((c.tc : Thread Cert.PointsIdeal.nD Cert.PointsIdeal.τ).loc Cert.PointsIdeal.main_arg4))) = (fun _ => 1#1)

def Pre_PointsRefIdeal (m : (ℓ : Loc Cert.PointsRefIdeal.nD Cert.PointsRefIdeal.τ Cert.PointsRefIdeal.sig) → Buf (Elt Ideal) ℓ) : Prop :=
  True

def Pre_PointsRefIdeal_points_finite [hPre_points_finite : Cert.Pre_points_finite.Facts] (m : (ℓ : Loc Cert.PointsRefIdeal.nD Cert.PointsRefIdeal.τ Cert.PointsRefIdeal.sig) → Buf (Elt Ideal) ℓ) : Prop :=
  ∀ c : Dev Cert.PointsRefIdeal.nD,
    (Cert.Pre_points_finite.fn (F := Ideal) (m ((c.tc : Thread Cert.PointsRefIdeal.nD Cert.PointsRefIdeal.τ).loc Cert.PointsRefIdeal.main_arg0)) (m ((c.tc : Thread Cert.PointsRefIdeal.nD Cert.PointsRefIdeal.τ).loc Cert.PointsRefIdeal.main_arg1)) (m ((c.tc : Thread Cert.PointsRefIdeal.nD Cert.PointsRefIdeal.τ).loc Cert.PointsRefIdeal.main_arg2)) (m ((c.tc : Thread Cert.PointsRefIdeal.nD Cert.PointsRefIdeal.τ).loc Cert.PointsRefIdeal.main_arg3)) (m ((c.tc : Thread Cert.PointsRefIdeal.nD Cert.PointsRefIdeal.τ).loc Cert.PointsRefIdeal.main_arg4))) = (fun _ => 1#1)

def Pre_Knn (m : (ℓ : Loc Cert.Knn.nD Cert.Knn.τ Cert.Knn.sig) → Buf (Elt Bits) ℓ) : Prop :=
  True

def Pre_KnnIdeal (m : (ℓ : Loc Cert.KnnIdeal.nD Cert.KnnIdeal.τ Cert.KnnIdeal.sig) → Buf (Elt Ideal) ℓ) : Prop :=
  True

def Pre_KnnIdeal_knn_finite [hPre_knn_finite : Cert.Pre_knn_finite.Facts] (m : (ℓ : Loc Cert.KnnIdeal.nD Cert.KnnIdeal.τ Cert.KnnIdeal.sig) → Buf (Elt Ideal) ℓ) : Prop :=
  ∀ c : Dev Cert.KnnIdeal.nD,
    (Cert.Pre_knn_finite.fn (F := Ideal) (m ((c.tc : Thread Cert.KnnIdeal.nD Cert.KnnIdeal.τ).loc Cert.KnnIdeal.main_arg0)) (m ((c.tc : Thread Cert.KnnIdeal.nD Cert.KnnIdeal.τ).loc Cert.KnnIdeal.main_arg1))) = (fun _ => 1#1)

def Pre_KnnRefIdeal (m : (ℓ : Loc Cert.KnnRefIdeal.nD Cert.KnnRefIdeal.τ Cert.KnnRefIdeal.sig) → Buf (Elt Ideal) ℓ) : Prop :=
  True

def Pre_KnnRefIdeal_knn_finite [hPre_knn_finite : Cert.Pre_knn_finite.Facts] (m : (ℓ : Loc Cert.KnnRefIdeal.nD Cert.KnnRefIdeal.τ Cert.KnnRefIdeal.sig) → Buf (Elt Ideal) ℓ) : Prop :=
  ∀ c : Dev Cert.KnnRefIdeal.nD,
    (Cert.Pre_knn_finite.fn (F := Ideal) (m ((c.tc : Thread Cert.KnnRefIdeal.nD Cert.KnnRefIdeal.τ).loc Cert.KnnRefIdeal.main_arg0)) (m ((c.tc : Thread Cert.KnnRefIdeal.nD Cert.KnnRefIdeal.τ).loc Cert.KnnRefIdeal.main_arg1))) = (fun _ => 1#1)

def Pre_Ann (m : (ℓ : Loc Cert.Ann.nD Cert.Ann.τ Cert.Ann.sig) → Buf (Elt Bits) ℓ) : Prop :=
  True

def Pre_AnnIdeal (m : (ℓ : Loc Cert.AnnIdeal.nD Cert.AnnIdeal.τ Cert.AnnIdeal.sig) → Buf (Elt Ideal) ℓ) : Prop :=
  True

def Pre_AnnIdeal_ann_finite [hPre_ann_finite : Cert.Pre_ann_finite.Facts] (m : (ℓ : Loc Cert.AnnIdeal.nD Cert.AnnIdeal.τ Cert.AnnIdeal.sig) → Buf (Elt Ideal) ℓ) : Prop :=
  ∀ c : Dev Cert.AnnIdeal.nD,
    (Cert.Pre_ann_finite.fn (F := Ideal) (m ((c.tc : Thread Cert.AnnIdeal.nD Cert.AnnIdeal.τ).loc Cert.AnnIdeal.main_arg0)) (m ((c.tc : Thread Cert.AnnIdeal.nD Cert.AnnIdeal.τ).loc Cert.AnnIdeal.main_arg1)) (m ((c.tc : Thread Cert.AnnIdeal.nD Cert.AnnIdeal.τ).loc Cert.AnnIdeal.main_arg2)) (m ((c.tc : Thread Cert.AnnIdeal.nD Cert.AnnIdeal.τ).loc Cert.AnnIdeal.main_arg3)) (m ((c.tc : Thread Cert.AnnIdeal.nD Cert.AnnIdeal.τ).loc Cert.AnnIdeal.main_arg4)) (m ((c.tc : Thread Cert.AnnIdeal.nD Cert.AnnIdeal.τ).loc Cert.AnnIdeal.main_arg5)) (m ((c.tc : Thread Cert.AnnIdeal.nD Cert.AnnIdeal.τ).loc Cert.AnnIdeal.main_arg6)) (m ((c.tc : Thread Cert.AnnIdeal.nD Cert.AnnIdeal.τ).loc Cert.AnnIdeal.main_arg7))) = (fun _ => 1#1)

def Pre_AnnRefIdeal (m : (ℓ : Loc Cert.AnnRefIdeal.nD Cert.AnnRefIdeal.τ Cert.AnnRefIdeal.sig) → Buf (Elt Ideal) ℓ) : Prop :=
  True

def Pre_AnnRefIdeal_ann_finite [hPre_ann_finite : Cert.Pre_ann_finite.Facts] (m : (ℓ : Loc Cert.AnnRefIdeal.nD Cert.AnnRefIdeal.τ Cert.AnnRefIdeal.sig) → Buf (Elt Ideal) ℓ) : Prop :=
  ∀ c : Dev Cert.AnnRefIdeal.nD,
    (Cert.Pre_ann_finite.fn (F := Ideal) (m ((c.tc : Thread Cert.AnnRefIdeal.nD Cert.AnnRefIdeal.τ).loc Cert.AnnRefIdeal.main_arg0)) (m ((c.tc : Thread Cert.AnnRefIdeal.nD Cert.AnnRefIdeal.τ).loc Cert.AnnRefIdeal.main_arg1)) (m ((c.tc : Thread Cert.AnnRefIdeal.nD Cert.AnnRefIdeal.τ).loc Cert.AnnRefIdeal.main_arg2)) (m ((c.tc : Thread Cert.AnnRefIdeal.nD Cert.AnnRefIdeal.τ).loc Cert.AnnRefIdeal.main_arg3)) (m ((c.tc : Thread Cert.AnnRefIdeal.nD Cert.AnnRefIdeal.τ).loc Cert.AnnRefIdeal.main_arg4)) (m ((c.tc : Thread Cert.AnnRefIdeal.nD Cert.AnnRefIdeal.τ).loc Cert.AnnRefIdeal.main_arg5)) (m ((c.tc : Thread Cert.AnnRefIdeal.nD Cert.AnnRefIdeal.τ).loc Cert.AnnRefIdeal.main_arg6)) (m ((c.tc : Thread Cert.AnnRefIdeal.nD Cert.AnnRefIdeal.τ).loc Cert.AnnRefIdeal.main_arg7))) = (fun _ => 1#1)

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def quiescent_Kernel [hKernel : Cert.Kernel.Facts] [hPre_idx_in_rows : Cert.Pre_idx_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_idx_in_rows [hReferenceIdeal : Cert.ReferenceIdeal.Facts] [hPre_idx_in_rows : Cert.Pre_idx_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_in_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Points [hPoints : Cert.Points.Facts] : Prop :=
  ∀ (m : (ℓ : Loc Cert.Points.nD Cert.Points.τ Cert.Points.sig) → Buf (Elt Bits) ℓ) (g : Dev Cert.Points.nD → PrngReg), Pre_Points m →
    θ_run (Cert.Points.defs (F := Bits)) (onTc (τ := Cert.Points.τ) (Cert.Points.main (F := Bits))) ⟨m, fun _ => 0, g⟩ (fun r => (∀ c : Dev Cert.Points.nD,
      r.2.mem ((c.tc : Thread Cert.Points.nD Cert.Points.τ).loc Cert.Points.main_arg0) = m ((c.tc : Thread Cert.Points.nD Cert.Points.τ).loc Cert.Points.main_arg0)
      ∧ r.2.mem ((c.tc : Thread Cert.Points.nD Cert.Points.τ).loc Cert.Points.main_arg1) = m ((c.tc : Thread Cert.Points.nD Cert.Points.τ).loc Cert.Points.main_arg1)
      ∧ r.2.mem ((c.tc : Thread Cert.Points.nD Cert.Points.τ).loc Cert.Points.main_arg2) = m ((c.tc : Thread Cert.Points.nD Cert.Points.τ).loc Cert.Points.main_arg2)
      ∧ r.2.mem ((c.tc : Thread Cert.Points.nD Cert.Points.τ).loc Cert.Points.main_arg3) = m ((c.tc : Thread Cert.Points.nD Cert.Points.τ).loc Cert.Points.main_arg3)
      ∧ r.2.mem ((c.tc : Thread Cert.Points.nD Cert.Points.τ).loc Cert.Points.main_arg4) = m ((c.tc : Thread Cert.Points.nD Cert.Points.τ).loc Cert.Points.main_arg4))
      ∧ r.2.sem = fun _ => 0)

def quiescent_PointsIdeal [hPointsIdeal : Cert.PointsIdeal.Facts] : Prop :=
  ∀ (m : (ℓ : Loc Cert.PointsIdeal.nD Cert.PointsIdeal.τ Cert.PointsIdeal.sig) → Buf (Elt Ideal) ℓ) (g : Dev Cert.PointsIdeal.nD → PrngReg), Pre_PointsIdeal m →
    θ_run (Cert.PointsIdeal.defs (F := Ideal)) (onTc (τ := Cert.PointsIdeal.τ) (Cert.PointsIdeal.main (F := Ideal))) ⟨m, fun _ => 0, g⟩ (fun r => (∀ c : Dev Cert.PointsIdeal.nD,
      r.2.mem ((c.tc : Thread Cert.PointsIdeal.nD Cert.PointsIdeal.τ).loc Cert.PointsIdeal.main_arg0) = m ((c.tc : Thread Cert.PointsIdeal.nD Cert.PointsIdeal.τ).loc Cert.PointsIdeal.main_arg0)
      ∧ r.2.mem ((c.tc : Thread Cert.PointsIdeal.nD Cert.PointsIdeal.τ).loc Cert.PointsIdeal.main_arg1) = m ((c.tc : Thread Cert.PointsIdeal.nD Cert.PointsIdeal.τ).loc Cert.PointsIdeal.main_arg1)
      ∧ r.2.mem ((c.tc : Thread Cert.PointsIdeal.nD Cert.PointsIdeal.τ).loc Cert.PointsIdeal.main_arg2) = m ((c.tc : Thread Cert.PointsIdeal.nD Cert.PointsIdeal.τ).loc Cert.PointsIdeal.main_arg2)
      ∧ r.2.mem ((c.tc : Thread Cert.PointsIdeal.nD Cert.PointsIdeal.τ).loc Cert.PointsIdeal.main_arg3) = m ((c.tc : Thread Cert.PointsIdeal.nD Cert.PointsIdeal.τ).loc Cert.PointsIdeal.main_arg3)
      ∧ r.2.mem ((c.tc : Thread Cert.PointsIdeal.nD Cert.PointsIdeal.τ).loc Cert.PointsIdeal.main_arg4) = m ((c.tc : Thread Cert.PointsIdeal.nD Cert.PointsIdeal.τ).loc Cert.PointsIdeal.main_arg4))
      ∧ r.2.sem = fun _ => 0)

def quiescent_PointsIdeal_pre_points_finite [hPointsIdeal : Cert.PointsIdeal.Facts] [hPre_points_finite : Cert.Pre_points_finite.Facts] : Prop :=
  ∀ (m : (ℓ : Loc Cert.PointsIdeal.nD Cert.PointsIdeal.τ Cert.PointsIdeal.sig) → Buf (Elt Ideal) ℓ) (g : Dev Cert.PointsIdeal.nD → PrngReg), Pre_PointsIdeal_points_finite m →
    θ_run (Cert.PointsIdeal.defs (F := Ideal)) (onTc (τ := Cert.PointsIdeal.τ) (Cert.PointsIdeal.main (F := Ideal))) ⟨m, fun _ => 0, g⟩ (fun r => (∀ c : Dev Cert.PointsIdeal.nD,
      r.2.mem ((c.tc : Thread Cert.PointsIdeal.nD Cert.PointsIdeal.τ).loc Cert.PointsIdeal.main_arg0) = m ((c.tc : Thread Cert.PointsIdeal.nD Cert.PointsIdeal.τ).loc Cert.PointsIdeal.main_arg0)
      ∧ r.2.mem ((c.tc : Thread Cert.PointsIdeal.nD Cert.PointsIdeal.τ).loc Cert.PointsIdeal.main_arg1) = m ((c.tc : Thread Cert.PointsIdeal.nD Cert.PointsIdeal.τ).loc Cert.PointsIdeal.main_arg1)
      ∧ r.2.mem ((c.tc : Thread Cert.PointsIdeal.nD Cert.PointsIdeal.τ).loc Cert.PointsIdeal.main_arg2) = m ((c.tc : Thread Cert.PointsIdeal.nD Cert.PointsIdeal.τ).loc Cert.PointsIdeal.main_arg2)
      ∧ r.2.mem ((c.tc : Thread Cert.PointsIdeal.nD Cert.PointsIdeal.τ).loc Cert.PointsIdeal.main_arg3) = m ((c.tc : Thread Cert.PointsIdeal.nD Cert.PointsIdeal.τ).loc Cert.PointsIdeal.main_arg3)
      ∧ r.2.mem ((c.tc : Thread Cert.PointsIdeal.nD Cert.PointsIdeal.τ).loc Cert.PointsIdeal.main_arg4) = m ((c.tc : Thread Cert.PointsIdeal.nD Cert.PointsIdeal.τ).loc Cert.PointsIdeal.main_arg4))
      ∧ r.2.sem = fun _ => 0)

def quiescent_PointsRefIdeal [hPointsRefIdeal : Cert.PointsRefIdeal.Facts] : Prop :=
  ∀ (m : (ℓ : Loc Cert.PointsRefIdeal.nD Cert.PointsRefIdeal.τ Cert.PointsRefIdeal.sig) → Buf (Elt Ideal) ℓ) (g : Dev Cert.PointsRefIdeal.nD → PrngReg), Pre_PointsRefIdeal m →
    θ_run (Cert.PointsRefIdeal.defs (F := Ideal)) (onTc (τ := Cert.PointsRefIdeal.τ) (Cert.PointsRefIdeal.main (F := Ideal))) ⟨m, fun _ => 0, g⟩ (fun r => (∀ c : Dev Cert.PointsRefIdeal.nD,
      r.2.mem ((c.tc : Thread Cert.PointsRefIdeal.nD Cert.PointsRefIdeal.τ).loc Cert.PointsRefIdeal.main_arg0) = m ((c.tc : Thread Cert.PointsRefIdeal.nD Cert.PointsRefIdeal.τ).loc Cert.PointsRefIdeal.main_arg0)
      ∧ r.2.mem ((c.tc : Thread Cert.PointsRefIdeal.nD Cert.PointsRefIdeal.τ).loc Cert.PointsRefIdeal.main_arg1) = m ((c.tc : Thread Cert.PointsRefIdeal.nD Cert.PointsRefIdeal.τ).loc Cert.PointsRefIdeal.main_arg1)
      ∧ r.2.mem ((c.tc : Thread Cert.PointsRefIdeal.nD Cert.PointsRefIdeal.τ).loc Cert.PointsRefIdeal.main_arg2) = m ((c.tc : Thread Cert.PointsRefIdeal.nD Cert.PointsRefIdeal.τ).loc Cert.PointsRefIdeal.main_arg2)
      ∧ r.2.mem ((c.tc : Thread Cert.PointsRefIdeal.nD Cert.PointsRefIdeal.τ).loc Cert.PointsRefIdeal.main_arg3) = m ((c.tc : Thread Cert.PointsRefIdeal.nD Cert.PointsRefIdeal.τ).loc Cert.PointsRefIdeal.main_arg3)
      ∧ r.2.mem ((c.tc : Thread Cert.PointsRefIdeal.nD Cert.PointsRefIdeal.τ).loc Cert.PointsRefIdeal.main_arg4) = m ((c.tc : Thread Cert.PointsRefIdeal.nD Cert.PointsRefIdeal.τ).loc Cert.PointsRefIdeal.main_arg4))
      ∧ r.2.sem = fun _ => 0)

def quiescent_PointsRefIdeal_pre_points_finite [hPointsRefIdeal : Cert.PointsRefIdeal.Facts] [hPre_points_finite : Cert.Pre_points_finite.Facts] : Prop :=
  ∀ (m : (ℓ : Loc Cert.PointsRefIdeal.nD Cert.PointsRefIdeal.τ Cert.PointsRefIdeal.sig) → Buf (Elt Ideal) ℓ) (g : Dev Cert.PointsRefIdeal.nD → PrngReg), Pre_PointsRefIdeal_points_finite m →
    θ_run (Cert.PointsRefIdeal.defs (F := Ideal)) (onTc (τ := Cert.PointsRefIdeal.τ) (Cert.PointsRefIdeal.main (F := Ideal))) ⟨m, fun _ => 0, g⟩ (fun r => (∀ c : Dev Cert.PointsRefIdeal.nD,
      r.2.mem ((c.tc : Thread Cert.PointsRefIdeal.nD Cert.PointsRefIdeal.τ).loc Cert.PointsRefIdeal.main_arg0) = m ((c.tc : Thread Cert.PointsRefIdeal.nD Cert.PointsRefIdeal.τ).loc Cert.PointsRefIdeal.main_arg0)
      ∧ r.2.mem ((c.tc : Thread Cert.PointsRefIdeal.nD Cert.PointsRefIdeal.τ).loc Cert.PointsRefIdeal.main_arg1) = m ((c.tc : Thread Cert.PointsRefIdeal.nD Cert.PointsRefIdeal.τ).loc Cert.PointsRefIdeal.main_arg1)
      ∧ r.2.mem ((c.tc : Thread Cert.PointsRefIdeal.nD Cert.PointsRefIdeal.τ).loc Cert.PointsRefIdeal.main_arg2) = m ((c.tc : Thread Cert.PointsRefIdeal.nD Cert.PointsRefIdeal.τ).loc Cert.PointsRefIdeal.main_arg2)
      ∧ r.2.mem ((c.tc : Thread Cert.PointsRefIdeal.nD Cert.PointsRefIdeal.τ).loc Cert.PointsRefIdeal.main_arg3) = m ((c.tc : Thread Cert.PointsRefIdeal.nD Cert.PointsRefIdeal.τ).loc Cert.PointsRefIdeal.main_arg3)
      ∧ r.2.mem ((c.tc : Thread Cert.PointsRefIdeal.nD Cert.PointsRefIdeal.τ).loc Cert.PointsRefIdeal.main_arg4) = m ((c.tc : Thread Cert.PointsRefIdeal.nD Cert.PointsRefIdeal.τ).loc Cert.PointsRefIdeal.main_arg4))
      ∧ r.2.sem = fun _ => 0)

def quiescent_Knn [hKnn : Cert.Knn.Facts] : Prop :=
  ∀ (m : (ℓ : Loc Cert.Knn.nD Cert.Knn.τ Cert.Knn.sig) → Buf (Elt Bits) ℓ) (g : Dev Cert.Knn.nD → PrngReg), Pre_Knn m →
    θ_run (Cert.Knn.defs (F := Bits)) (onTc (τ := Cert.Knn.τ) (Cert.Knn.main (F := Bits))) ⟨m, fun _ => 0, g⟩ (fun r => (∀ c : Dev Cert.Knn.nD,
      r.2.mem ((c.tc : Thread Cert.Knn.nD Cert.Knn.τ).loc Cert.Knn.main_arg0) = m ((c.tc : Thread Cert.Knn.nD Cert.Knn.τ).loc Cert.Knn.main_arg0)
      ∧ r.2.mem ((c.tc : Thread Cert.Knn.nD Cert.Knn.τ).loc Cert.Knn.main_arg1) = m ((c.tc : Thread Cert.Knn.nD Cert.Knn.τ).loc Cert.Knn.main_arg1))
      ∧ r.2.sem = fun _ => 0)

def quiescent_KnnIdeal [hKnnIdeal : Cert.KnnIdeal.Facts] : Prop :=
  ∀ (m : (ℓ : Loc Cert.KnnIdeal.nD Cert.KnnIdeal.τ Cert.KnnIdeal.sig) → Buf (Elt Ideal) ℓ) (g : Dev Cert.KnnIdeal.nD → PrngReg), Pre_KnnIdeal m →
    θ_run (Cert.KnnIdeal.defs (F := Ideal)) (onTc (τ := Cert.KnnIdeal.τ) (Cert.KnnIdeal.main (F := Ideal))) ⟨m, fun _ => 0, g⟩ (fun r => (∀ c : Dev Cert.KnnIdeal.nD,
      r.2.mem ((c.tc : Thread Cert.KnnIdeal.nD Cert.KnnIdeal.τ).loc Cert.KnnIdeal.main_arg0) = m ((c.tc : Thread Cert.KnnIdeal.nD Cert.KnnIdeal.τ).loc Cert.KnnIdeal.main_arg0)
      ∧ r.2.mem ((c.tc : Thread Cert.KnnIdeal.nD Cert.KnnIdeal.τ).loc Cert.KnnIdeal.main_arg1) = m ((c.tc : Thread Cert.KnnIdeal.nD Cert.KnnIdeal.τ).loc Cert.KnnIdeal.main_arg1))
      ∧ r.2.sem = fun _ => 0)

def quiescent_KnnIdeal_pre_knn_finite [hKnnIdeal : Cert.KnnIdeal.Facts] [hPre_knn_finite : Cert.Pre_knn_finite.Facts] : Prop :=
  ∀ (m : (ℓ : Loc Cert.KnnIdeal.nD Cert.KnnIdeal.τ Cert.KnnIdeal.sig) → Buf (Elt Ideal) ℓ) (g : Dev Cert.KnnIdeal.nD → PrngReg), Pre_KnnIdeal_knn_finite m →
    θ_run (Cert.KnnIdeal.defs (F := Ideal)) (onTc (τ := Cert.KnnIdeal.τ) (Cert.KnnIdeal.main (F := Ideal))) ⟨m, fun _ => 0, g⟩ (fun r => (∀ c : Dev Cert.KnnIdeal.nD,
      r.2.mem ((c.tc : Thread Cert.KnnIdeal.nD Cert.KnnIdeal.τ).loc Cert.KnnIdeal.main_arg0) = m ((c.tc : Thread Cert.KnnIdeal.nD Cert.KnnIdeal.τ).loc Cert.KnnIdeal.main_arg0)
      ∧ r.2.mem ((c.tc : Thread Cert.KnnIdeal.nD Cert.KnnIdeal.τ).loc Cert.KnnIdeal.main_arg1) = m ((c.tc : Thread Cert.KnnIdeal.nD Cert.KnnIdeal.τ).loc Cert.KnnIdeal.main_arg1))
      ∧ r.2.sem = fun _ => 0)

def quiescent_KnnRefIdeal [hKnnRefIdeal : Cert.KnnRefIdeal.Facts] : Prop :=
  ∀ (m : (ℓ : Loc Cert.KnnRefIdeal.nD Cert.KnnRefIdeal.τ Cert.KnnRefIdeal.sig) → Buf (Elt Ideal) ℓ) (g : Dev Cert.KnnRefIdeal.nD → PrngReg), Pre_KnnRefIdeal m →
    θ_run (Cert.KnnRefIdeal.defs (F := Ideal)) (onTc (τ := Cert.KnnRefIdeal.τ) (Cert.KnnRefIdeal.main (F := Ideal))) ⟨m, fun _ => 0, g⟩ (fun r => (∀ c : Dev Cert.KnnRefIdeal.nD,
      r.2.mem ((c.tc : Thread Cert.KnnRefIdeal.nD Cert.KnnRefIdeal.τ).loc Cert.KnnRefIdeal.main_arg0) = m ((c.tc : Thread Cert.KnnRefIdeal.nD Cert.KnnRefIdeal.τ).loc Cert.KnnRefIdeal.main_arg0)
      ∧ r.2.mem ((c.tc : Thread Cert.KnnRefIdeal.nD Cert.KnnRefIdeal.τ).loc Cert.KnnRefIdeal.main_arg1) = m ((c.tc : Thread Cert.KnnRefIdeal.nD Cert.KnnRefIdeal.τ).loc Cert.KnnRefIdeal.main_arg1))
      ∧ r.2.sem = fun _ => 0)

def quiescent_KnnRefIdeal_pre_knn_finite [hKnnRefIdeal : Cert.KnnRefIdeal.Facts] [hPre_knn_finite : Cert.Pre_knn_finite.Facts] : Prop :=
  ∀ (m : (ℓ : Loc Cert.KnnRefIdeal.nD Cert.KnnRefIdeal.τ Cert.KnnRefIdeal.sig) → Buf (Elt Ideal) ℓ) (g : Dev Cert.KnnRefIdeal.nD → PrngReg), Pre_KnnRefIdeal_knn_finite m →
    θ_run (Cert.KnnRefIdeal.defs (F := Ideal)) (onTc (τ := Cert.KnnRefIdeal.τ) (Cert.KnnRefIdeal.main (F := Ideal))) ⟨m, fun _ => 0, g⟩ (fun r => (∀ c : Dev Cert.KnnRefIdeal.nD,
      r.2.mem ((c.tc : Thread Cert.KnnRefIdeal.nD Cert.KnnRefIdeal.τ).loc Cert.KnnRefIdeal.main_arg0) = m ((c.tc : Thread Cert.KnnRefIdeal.nD Cert.KnnRefIdeal.τ).loc Cert.KnnRefIdeal.main_arg0)
      ∧ r.2.mem ((c.tc : Thread Cert.KnnRefIdeal.nD Cert.KnnRefIdeal.τ).loc Cert.KnnRefIdeal.main_arg1) = m ((c.tc : Thread Cert.KnnRefIdeal.nD Cert.KnnRefIdeal.τ).loc Cert.KnnRefIdeal.main_arg1))
      ∧ r.2.sem = fun _ => 0)

def quiescent_Ann [hAnn : Cert.Ann.Facts] : Prop :=
  ∀ (m : (ℓ : Loc Cert.Ann.nD Cert.Ann.τ Cert.Ann.sig) → Buf (Elt Bits) ℓ) (g : Dev Cert.Ann.nD → PrngReg), Pre_Ann m →
    θ_run (Cert.Ann.defs (F := Bits)) (onTc (τ := Cert.Ann.τ) (Cert.Ann.main (F := Bits))) ⟨m, fun _ => 0, g⟩ (fun r => (∀ c : Dev Cert.Ann.nD,
      r.2.mem ((c.tc : Thread Cert.Ann.nD Cert.Ann.τ).loc Cert.Ann.main_arg0) = m ((c.tc : Thread Cert.Ann.nD Cert.Ann.τ).loc Cert.Ann.main_arg0)
      ∧ r.2.mem ((c.tc : Thread Cert.Ann.nD Cert.Ann.τ).loc Cert.Ann.main_arg1) = m ((c.tc : Thread Cert.Ann.nD Cert.Ann.τ).loc Cert.Ann.main_arg1)
      ∧ r.2.mem ((c.tc : Thread Cert.Ann.nD Cert.Ann.τ).loc Cert.Ann.main_arg2) = m ((c.tc : Thread Cert.Ann.nD Cert.Ann.τ).loc Cert.Ann.main_arg2)
      ∧ r.2.mem ((c.tc : Thread Cert.Ann.nD Cert.Ann.τ).loc Cert.Ann.main_arg3) = m ((c.tc : Thread Cert.Ann.nD Cert.Ann.τ).loc Cert.Ann.main_arg3)
      ∧ r.2.mem ((c.tc : Thread Cert.Ann.nD Cert.Ann.τ).loc Cert.Ann.main_arg4) = m ((c.tc : Thread Cert.Ann.nD Cert.Ann.τ).loc Cert.Ann.main_arg4)
      ∧ r.2.mem ((c.tc : Thread Cert.Ann.nD Cert.Ann.τ).loc Cert.Ann.main_arg5) = m ((c.tc : Thread Cert.Ann.nD Cert.Ann.τ).loc Cert.Ann.main_arg5)
      ∧ r.2.mem ((c.tc : Thread Cert.Ann.nD Cert.Ann.τ).loc Cert.Ann.main_arg6) = m ((c.tc : Thread Cert.Ann.nD Cert.Ann.τ).loc Cert.Ann.main_arg6)
      ∧ r.2.mem ((c.tc : Thread Cert.Ann.nD Cert.Ann.τ).loc Cert.Ann.main_arg7) = m ((c.tc : Thread Cert.Ann.nD Cert.Ann.τ).loc Cert.Ann.main_arg7))
      ∧ r.2.sem = fun _ => 0)

def quiescent_AnnIdeal [hAnnIdeal : Cert.AnnIdeal.Facts] : Prop :=
  ∀ (m : (ℓ : Loc Cert.AnnIdeal.nD Cert.AnnIdeal.τ Cert.AnnIdeal.sig) → Buf (Elt Ideal) ℓ) (g : Dev Cert.AnnIdeal.nD → PrngReg), Pre_AnnIdeal m →
    θ_run (Cert.AnnIdeal.defs (F := Ideal)) (onTc (τ := Cert.AnnIdeal.τ) (Cert.AnnIdeal.main (F := Ideal))) ⟨m, fun _ => 0, g⟩ (fun r => (∀ c : Dev Cert.AnnIdeal.nD,
      r.2.mem ((c.tc : Thread Cert.AnnIdeal.nD Cert.AnnIdeal.τ).loc Cert.AnnIdeal.main_arg0) = m ((c.tc : Thread Cert.AnnIdeal.nD Cert.AnnIdeal.τ).loc Cert.AnnIdeal.main_arg0)
      ∧ r.2.mem ((c.tc : Thread Cert.AnnIdeal.nD Cert.AnnIdeal.τ).loc Cert.AnnIdeal.main_arg1) = m ((c.tc : Thread Cert.AnnIdeal.nD Cert.AnnIdeal.τ).loc Cert.AnnIdeal.main_arg1)
      ∧ r.2.mem ((c.tc : Thread Cert.AnnIdeal.nD Cert.AnnIdeal.τ).loc Cert.AnnIdeal.main_arg2) = m ((c.tc : Thread Cert.AnnIdeal.nD Cert.AnnIdeal.τ).loc Cert.AnnIdeal.main_arg2)
      ∧ r.2.mem ((c.tc : Thread Cert.AnnIdeal.nD Cert.AnnIdeal.τ).loc Cert.AnnIdeal.main_arg3) = m ((c.tc : Thread Cert.AnnIdeal.nD Cert.AnnIdeal.τ).loc Cert.AnnIdeal.main_arg3)
      ∧ r.2.mem ((c.tc : Thread Cert.AnnIdeal.nD Cert.AnnIdeal.τ).loc Cert.AnnIdeal.main_arg4) = m ((c.tc : Thread Cert.AnnIdeal.nD Cert.AnnIdeal.τ).loc Cert.AnnIdeal.main_arg4)
      ∧ r.2.mem ((c.tc : Thread Cert.AnnIdeal.nD Cert.AnnIdeal.τ).loc Cert.AnnIdeal.main_arg5) = m ((c.tc : Thread Cert.AnnIdeal.nD Cert.AnnIdeal.τ).loc Cert.AnnIdeal.main_arg5)
      ∧ r.2.mem ((c.tc : Thread Cert.AnnIdeal.nD Cert.AnnIdeal.τ).loc Cert.AnnIdeal.main_arg6) = m ((c.tc : Thread Cert.AnnIdeal.nD Cert.AnnIdeal.τ).loc Cert.AnnIdeal.main_arg6)
      ∧ r.2.mem ((c.tc : Thread Cert.AnnIdeal.nD Cert.AnnIdeal.τ).loc Cert.AnnIdeal.main_arg7) = m ((c.tc : Thread Cert.AnnIdeal.nD Cert.AnnIdeal.τ).loc Cert.AnnIdeal.main_arg7))
      ∧ r.2.sem = fun _ => 0)

def quiescent_AnnIdeal_pre_ann_finite [hAnnIdeal : Cert.AnnIdeal.Facts] [hPre_ann_finite : Cert.Pre_ann_finite.Facts] : Prop :=
  ∀ (m : (ℓ : Loc Cert.AnnIdeal.nD Cert.AnnIdeal.τ Cert.AnnIdeal.sig) → Buf (Elt Ideal) ℓ) (g : Dev Cert.AnnIdeal.nD → PrngReg), Pre_AnnIdeal_ann_finite m →
    θ_run (Cert.AnnIdeal.defs (F := Ideal)) (onTc (τ := Cert.AnnIdeal.τ) (Cert.AnnIdeal.main (F := Ideal))) ⟨m, fun _ => 0, g⟩ (fun r => (∀ c : Dev Cert.AnnIdeal.nD,
      r.2.mem ((c.tc : Thread Cert.AnnIdeal.nD Cert.AnnIdeal.τ).loc Cert.AnnIdeal.main_arg0) = m ((c.tc : Thread Cert.AnnIdeal.nD Cert.AnnIdeal.τ).loc Cert.AnnIdeal.main_arg0)
      ∧ r.2.mem ((c.tc : Thread Cert.AnnIdeal.nD Cert.AnnIdeal.τ).loc Cert.AnnIdeal.main_arg1) = m ((c.tc : Thread Cert.AnnIdeal.nD Cert.AnnIdeal.τ).loc Cert.AnnIdeal.main_arg1)
      ∧ r.2.mem ((c.tc : Thread Cert.AnnIdeal.nD Cert.AnnIdeal.τ).loc Cert.AnnIdeal.main_arg2) = m ((c.tc : Thread Cert.AnnIdeal.nD Cert.AnnIdeal.τ).loc Cert.AnnIdeal.main_arg2)
      ∧ r.2.mem ((c.tc : Thread Cert.AnnIdeal.nD Cert.AnnIdeal.τ).loc Cert.AnnIdeal.main_arg3) = m ((c.tc : Thread Cert.AnnIdeal.nD Cert.AnnIdeal.τ).loc Cert.AnnIdeal.main_arg3)
      ∧ r.2.mem ((c.tc : Thread Cert.AnnIdeal.nD Cert.AnnIdeal.τ).loc Cert.AnnIdeal.main_arg4) = m ((c.tc : Thread Cert.AnnIdeal.nD Cert.AnnIdeal.τ).loc Cert.AnnIdeal.main_arg4)
      ∧ r.2.mem ((c.tc : Thread Cert.AnnIdeal.nD Cert.AnnIdeal.τ).loc Cert.AnnIdeal.main_arg5) = m ((c.tc : Thread Cert.AnnIdeal.nD Cert.AnnIdeal.τ).loc Cert.AnnIdeal.main_arg5)
      ∧ r.2.mem ((c.tc : Thread Cert.AnnIdeal.nD Cert.AnnIdeal.τ).loc Cert.AnnIdeal.main_arg6) = m ((c.tc : Thread Cert.AnnIdeal.nD Cert.AnnIdeal.τ).loc Cert.AnnIdeal.main_arg6)
      ∧ r.2.mem ((c.tc : Thread Cert.AnnIdeal.nD Cert.AnnIdeal.τ).loc Cert.AnnIdeal.main_arg7) = m ((c.tc : Thread Cert.AnnIdeal.nD Cert.AnnIdeal.τ).loc Cert.AnnIdeal.main_arg7))
      ∧ r.2.sem = fun _ => 0)

def quiescent_AnnRefIdeal [hAnnRefIdeal : Cert.AnnRefIdeal.Facts] : Prop :=
  ∀ (m : (ℓ : Loc Cert.AnnRefIdeal.nD Cert.AnnRefIdeal.τ Cert.AnnRefIdeal.sig) → Buf (Elt Ideal) ℓ) (g : Dev Cert.AnnRefIdeal.nD → PrngReg), Pre_AnnRefIdeal m →
    θ_run (Cert.AnnRefIdeal.defs (F := Ideal)) (onTc (τ := Cert.AnnRefIdeal.τ) (Cert.AnnRefIdeal.main (F := Ideal))) ⟨m, fun _ => 0, g⟩ (fun r => (∀ c : Dev Cert.AnnRefIdeal.nD,
      r.2.mem ((c.tc : Thread Cert.AnnRefIdeal.nD Cert.AnnRefIdeal.τ).loc Cert.AnnRefIdeal.main_arg0) = m ((c.tc : Thread Cert.AnnRefIdeal.nD Cert.AnnRefIdeal.τ).loc Cert.AnnRefIdeal.main_arg0)
      ∧ r.2.mem ((c.tc : Thread Cert.AnnRefIdeal.nD Cert.AnnRefIdeal.τ).loc Cert.AnnRefIdeal.main_arg1) = m ((c.tc : Thread Cert.AnnRefIdeal.nD Cert.AnnRefIdeal.τ).loc Cert.AnnRefIdeal.main_arg1)
      ∧ r.2.mem ((c.tc : Thread Cert.AnnRefIdeal.nD Cert.AnnRefIdeal.τ).loc Cert.AnnRefIdeal.main_arg2) = m ((c.tc : Thread Cert.AnnRefIdeal.nD Cert.AnnRefIdeal.τ).loc Cert.AnnRefIdeal.main_arg2)
      ∧ r.2.mem ((c.tc : Thread Cert.AnnRefIdeal.nD Cert.AnnRefIdeal.τ).loc Cert.AnnRefIdeal.main_arg3) = m ((c.tc : Thread Cert.AnnRefIdeal.nD Cert.AnnRefIdeal.τ).loc Cert.AnnRefIdeal.main_arg3)
      ∧ r.2.mem ((c.tc : Thread Cert.AnnRefIdeal.nD Cert.AnnRefIdeal.τ).loc Cert.AnnRefIdeal.main_arg4) = m ((c.tc : Thread Cert.AnnRefIdeal.nD Cert.AnnRefIdeal.τ).loc Cert.AnnRefIdeal.main_arg4)
      ∧ r.2.mem ((c.tc : Thread Cert.AnnRefIdeal.nD Cert.AnnRefIdeal.τ).loc Cert.AnnRefIdeal.main_arg5) = m ((c.tc : Thread Cert.AnnRefIdeal.nD Cert.AnnRefIdeal.τ).loc Cert.AnnRefIdeal.main_arg5)
      ∧ r.2.mem ((c.tc : Thread Cert.AnnRefIdeal.nD Cert.AnnRefIdeal.τ).loc Cert.AnnRefIdeal.main_arg6) = m ((c.tc : Thread Cert.AnnRefIdeal.nD Cert.AnnRefIdeal.τ).loc Cert.AnnRefIdeal.main_arg6)
      ∧ r.2.mem ((c.tc : Thread Cert.AnnRefIdeal.nD Cert.AnnRefIdeal.τ).loc Cert.AnnRefIdeal.main_arg7) = m ((c.tc : Thread Cert.AnnRefIdeal.nD Cert.AnnRefIdeal.τ).loc Cert.AnnRefIdeal.main_arg7))
      ∧ r.2.sem = fun _ => 0)

def quiescent_AnnRefIdeal_pre_ann_finite [hAnnRefIdeal : Cert.AnnRefIdeal.Facts] [hPre_ann_finite : Cert.Pre_ann_finite.Facts] : Prop :=
  ∀ (m : (ℓ : Loc Cert.AnnRefIdeal.nD Cert.AnnRefIdeal.τ Cert.AnnRefIdeal.sig) → Buf (Elt Ideal) ℓ) (g : Dev Cert.AnnRefIdeal.nD → PrngReg), Pre_AnnRefIdeal_ann_finite m →
    θ_run (Cert.AnnRefIdeal.defs (F := Ideal)) (onTc (τ := Cert.AnnRefIdeal.τ) (Cert.AnnRefIdeal.main (F := Ideal))) ⟨m, fun _ => 0, g⟩ (fun r => (∀ c : Dev Cert.AnnRefIdeal.nD,
      r.2.mem ((c.tc : Thread Cert.AnnRefIdeal.nD Cert.AnnRefIdeal.τ).loc Cert.AnnRefIdeal.main_arg0) = m ((c.tc : Thread Cert.AnnRefIdeal.nD Cert.AnnRefIdeal.τ).loc Cert.AnnRefIdeal.main_arg0)
      ∧ r.2.mem ((c.tc : Thread Cert.AnnRefIdeal.nD Cert.AnnRefIdeal.τ).loc Cert.AnnRefIdeal.main_arg1) = m ((c.tc : Thread Cert.AnnRefIdeal.nD Cert.AnnRefIdeal.τ).loc Cert.AnnRefIdeal.main_arg1)
      ∧ r.2.mem ((c.tc : Thread Cert.AnnRefIdeal.nD Cert.AnnRefIdeal.τ).loc Cert.AnnRefIdeal.main_arg2) = m ((c.tc : Thread Cert.AnnRefIdeal.nD Cert.AnnRefIdeal.τ).loc Cert.AnnRefIdeal.main_arg2)
      ∧ r.2.mem ((c.tc : Thread Cert.AnnRefIdeal.nD Cert.AnnRefIdeal.τ).loc Cert.AnnRefIdeal.main_arg3) = m ((c.tc : Thread Cert.AnnRefIdeal.nD Cert.AnnRefIdeal.τ).loc Cert.AnnRefIdeal.main_arg3)
      ∧ r.2.mem ((c.tc : Thread Cert.AnnRefIdeal.nD Cert.AnnRefIdeal.τ).loc Cert.AnnRefIdeal.main_arg4) = m ((c.tc : Thread Cert.AnnRefIdeal.nD Cert.AnnRefIdeal.τ).loc Cert.AnnRefIdeal.main_arg4)
      ∧ r.2.mem ((c.tc : Thread Cert.AnnRefIdeal.nD Cert.AnnRefIdeal.τ).loc Cert.AnnRefIdeal.main_arg5) = m ((c.tc : Thread Cert.AnnRefIdeal.nD Cert.AnnRefIdeal.τ).loc Cert.AnnRefIdeal.main_arg5)
      ∧ r.2.mem ((c.tc : Thread Cert.AnnRefIdeal.nD Cert.AnnRefIdeal.τ).loc Cert.AnnRefIdeal.main_arg6) = m ((c.tc : Thread Cert.AnnRefIdeal.nD Cert.AnnRefIdeal.τ).loc Cert.AnnRefIdeal.main_arg6)
      ∧ r.2.mem ((c.tc : Thread Cert.AnnRefIdeal.nD Cert.AnnRefIdeal.τ).loc Cert.AnnRefIdeal.main_arg7) = m ((c.tc : Thread Cert.AnnRefIdeal.nD Cert.AnnRefIdeal.τ).loc Cert.AnnRefIdeal.main_arg7))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3)
      ∧ r.2.mem ((c.tc : Thread Cert.Final.nD Cert.Final.τ).loc Cert.Final.main_arg4) = m ((c.tc : Thread Cert.Final.nD Cert.Final.τ).loc Cert.Final.main_arg4)
      ∧ r.2.mem ((c.tc : Thread Cert.Final.nD Cert.Final.τ).loc Cert.Final.main_arg5) = m ((c.tc : Thread Cert.Final.nD Cert.Final.τ).loc Cert.Final.main_arg5)
      ∧ r.2.mem ((c.tc : Thread Cert.Final.nD Cert.Final.τ).loc Cert.Final.main_arg6) = m ((c.tc : Thread Cert.Final.nD Cert.Final.τ).loc Cert.Final.main_arg6)
      ∧ r.2.mem ((c.tc : Thread Cert.Final.nD Cert.Final.τ).loc Cert.Final.main_arg7) = m ((c.tc : Thread Cert.Final.nD Cert.Final.τ).loc Cert.Final.main_arg7))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
      ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5)
      ∧ r.2.mem ((c.tc : Thread Cert.FinalIdeal.nD Cert.FinalIdeal.τ).loc Cert.FinalIdeal.main_arg6) = m ((c.tc : Thread Cert.FinalIdeal.nD Cert.FinalIdeal.τ).loc Cert.FinalIdeal.main_arg6)
      ∧ r.2.mem ((c.tc : Thread Cert.FinalIdeal.nD Cert.FinalIdeal.τ).loc Cert.FinalIdeal.main_arg7) = m ((c.tc : Thread Cert.FinalIdeal.nD Cert.FinalIdeal.τ).loc Cert.FinalIdeal.main_arg7))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3)
      ∧ r.2.mem ((c.tc : Thread Cert.FinalRefIdeal.nD Cert.FinalRefIdeal.τ).loc Cert.FinalRefIdeal.main_arg4) = m ((c.tc : Thread Cert.FinalRefIdeal.nD Cert.FinalRefIdeal.τ).loc Cert.FinalRefIdeal.main_arg4)
      ∧ r.2.mem ((c.tc : Thread Cert.FinalRefIdeal.nD Cert.FinalRefIdeal.τ).loc Cert.FinalRefIdeal.main_arg5) = m ((c.tc : Thread Cert.FinalRefIdeal.nD Cert.FinalRefIdeal.τ).loc Cert.FinalRefIdeal.main_arg5)
      ∧ r.2.mem ((c.tc : Thread Cert.FinalRefIdeal.nD Cert.FinalRefIdeal.τ).loc Cert.FinalRefIdeal.main_arg6) = m ((c.tc : Thread Cert.FinalRefIdeal.nD Cert.FinalRefIdeal.τ).loc Cert.FinalRefIdeal.main_arg6)
      ∧ r.2.mem ((c.tc : Thread Cert.FinalRefIdeal.nD Cert.FinalRefIdeal.τ).loc Cert.FinalRefIdeal.main_arg7) = m ((c.tc : Thread Cert.FinalRefIdeal.nD Cert.FinalRefIdeal.τ).loc Cert.FinalRefIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Points_PointsIdeal : Prop :=
  True

def algebraic_PointsIdeal_PointsRefIdeal_pre_points_finite [hPointsIdeal : Cert.PointsIdeal.Facts] [hPointsRefIdeal : Cert.PointsRefIdeal.Facts] [hPre_points_finite : Cert.Pre_points_finite.Facts] : Prop :=
  ∀ (m : (ℓ : Loc Cert.PointsIdeal.nD Cert.PointsIdeal.τ Cert.PointsIdeal.sig) → Buf (Elt Ideal) ℓ) (g : Dev Cert.PointsIdeal.nD → PrngReg)
    (m' : (ℓ : Loc Cert.PointsRefIdeal.nD Cert.PointsRefIdeal.τ Cert.PointsRefIdeal.sig) → Buf (Elt Ideal) ℓ) (g' : Dev Cert.PointsRefIdeal.nD → PrngReg), Pre_PointsIdeal_points_finite m →
    (∀ c : Dev Cert.PointsIdeal.nD,
      m' ((c.tc : Thread Cert.PointsRefIdeal.nD Cert.PointsRefIdeal.τ).loc Cert.PointsRefIdeal.main_arg0) = m ((c.tc : Thread Cert.PointsIdeal.nD Cert.PointsIdeal.τ).loc Cert.PointsIdeal.main_arg0)
      ∧ m' ((c.tc : Thread Cert.PointsRefIdeal.nD Cert.PointsRefIdeal.τ).loc Cert.PointsRefIdeal.main_arg1) = m ((c.tc : Thread Cert.PointsIdeal.nD Cert.PointsIdeal.τ).loc Cert.PointsIdeal.main_arg1)
      ∧ m' ((c.tc : Thread Cert.PointsRefIdeal.nD Cert.PointsRefIdeal.τ).loc Cert.PointsRefIdeal.main_arg2) = m ((c.tc : Thread Cert.PointsIdeal.nD Cert.PointsIdeal.τ).loc Cert.PointsIdeal.main_arg2)
      ∧ m' ((c.tc : Thread Cert.PointsRefIdeal.nD Cert.PointsRefIdeal.τ).loc Cert.PointsRefIdeal.main_arg3) = m ((c.tc : Thread Cert.PointsIdeal.nD Cert.PointsIdeal.τ).loc Cert.PointsIdeal.main_arg3)
      ∧ m' ((c.tc : Thread Cert.PointsRefIdeal.nD Cert.PointsRefIdeal.τ).loc Cert.PointsRefIdeal.main_arg4) = m ((c.tc : Thread Cert.PointsIdeal.nD Cert.PointsIdeal.τ).loc Cert.PointsIdeal.main_arg4)) →
    ∃ (v0 : (c : Dev Cert.PointsIdeal.nD) → Buf (Elt Ideal) ((c.tc : Thread Cert.PointsIdeal.nD Cert.PointsIdeal.τ).loc Cert.PointsIdeal.main_v20_0)) (v1 : (c : Dev Cert.PointsIdeal.nD) → Buf (Elt Ideal) ((c.tc : Thread Cert.PointsIdeal.nD Cert.PointsIdeal.τ).loc Cert.PointsIdeal.main_v20_1)),
      θ_run (Cert.PointsIdeal.defs (F := Ideal)) (onTc (τ := Cert.PointsIdeal.τ) (Cert.PointsIdeal.main (F := Ideal))) ⟨m, fun _ => 0, g⟩ (fun r => ∀ c : Dev Cert.PointsIdeal.nD,
          r.2.mem ((c.tc : Thread Cert.PointsIdeal.nD Cert.PointsIdeal.τ).loc Cert.PointsIdeal.main_v20_0) = v0 c
          ∧ r.2.mem ((c.tc : Thread Cert.PointsIdeal.nD Cert.PointsIdeal.τ).loc Cert.PointsIdeal.main_v20_1) = v1 c
          ∧ r.2.mem ((c.tc : Thread Cert.PointsIdeal.nD Cert.PointsIdeal.τ).loc Cert.PointsIdeal.main_arg0) = m ((c.tc : Thread Cert.PointsIdeal.nD Cert.PointsIdeal.τ).loc Cert.PointsIdeal.main_arg0)
          ∧ r.2.mem ((c.tc : Thread Cert.PointsIdeal.nD Cert.PointsIdeal.τ).loc Cert.PointsIdeal.main_arg1) = m ((c.tc : Thread Cert.PointsIdeal.nD Cert.PointsIdeal.τ).loc Cert.PointsIdeal.main_arg1)
          ∧ r.2.mem ((c.tc : Thread Cert.PointsIdeal.nD Cert.PointsIdeal.τ).loc Cert.PointsIdeal.main_arg2) = m ((c.tc : Thread Cert.PointsIdeal.nD Cert.PointsIdeal.τ).loc Cert.PointsIdeal.main_arg2)
          ∧ r.2.mem ((c.tc : Thread Cert.PointsIdeal.nD Cert.PointsIdeal.τ).loc Cert.PointsIdeal.main_arg3) = m ((c.tc : Thread Cert.PointsIdeal.nD Cert.PointsIdeal.τ).loc Cert.PointsIdeal.main_arg3)
          ∧ r.2.mem ((c.tc : Thread Cert.PointsIdeal.nD Cert.PointsIdeal.τ).loc Cert.PointsIdeal.main_arg4) = m ((c.tc : Thread Cert.PointsIdeal.nD Cert.PointsIdeal.τ).loc Cert.PointsIdeal.main_arg4))
      ∧ θ_run (Cert.PointsRefIdeal.defs (F := Ideal)) (onTc (τ := Cert.PointsRefIdeal.τ) (Cert.PointsRefIdeal.main (F := Ideal))) ⟨m', fun _ => 0, g'⟩ (fun r => ∀ c : Dev Cert.PointsRefIdeal.nD,
          r.2.mem ((c.tc : Thread Cert.PointsRefIdeal.nD Cert.PointsRefIdeal.τ).loc Cert.PointsRefIdeal.main_v32) = v0 c
          ∧ r.2.mem ((c.tc : Thread Cert.PointsRefIdeal.nD Cert.PointsRefIdeal.τ).loc Cert.PointsRefIdeal.main_v35) = v1 c
          ∧ r.2.mem ((c.tc : Thread Cert.PointsRefIdeal.nD Cert.PointsRefIdeal.τ).loc Cert.PointsRefIdeal.main_arg0) = m' ((c.tc : Thread Cert.PointsRefIdeal.nD Cert.PointsRefIdeal.τ).loc Cert.PointsRefIdeal.main_arg0)
          ∧ r.2.mem ((c.tc : Thread Cert.PointsRefIdeal.nD Cert.PointsRefIdeal.τ).loc Cert.PointsRefIdeal.main_arg1) = m' ((c.tc : Thread Cert.PointsRefIdeal.nD Cert.PointsRefIdeal.τ).loc Cert.PointsRefIdeal.main_arg1)
          ∧ r.2.mem ((c.tc : Thread Cert.PointsRefIdeal.nD Cert.PointsRefIdeal.τ).loc Cert.PointsRefIdeal.main_arg2) = m' ((c.tc : Thread Cert.PointsRefIdeal.nD Cert.PointsRefIdeal.τ).loc Cert.PointsRefIdeal.main_arg2)
          ∧ r.2.mem ((c.tc : Thread Cert.PointsRefIdeal.nD Cert.PointsRefIdeal.τ).loc Cert.PointsRefIdeal.main_arg3) = m' ((c.tc : Thread Cert.PointsRefIdeal.nD Cert.PointsRefIdeal.τ).loc Cert.PointsRefIdeal.main_arg3)
          ∧ r.2.mem ((c.tc : Thread Cert.PointsRefIdeal.nD Cert.PointsRefIdeal.τ).loc Cert.PointsRefIdeal.main_arg4) = m' ((c.tc : Thread Cert.PointsRefIdeal.nD Cert.PointsRefIdeal.τ).loc Cert.PointsRefIdeal.main_arg4))

def preserves_Knn_KnnIdeal : Prop :=
  True

def algebraic_KnnIdeal_KnnRefIdeal_pre_knn_finite [hKnnIdeal : Cert.KnnIdeal.Facts] [hKnnRefIdeal : Cert.KnnRefIdeal.Facts] [hPre_knn_finite : Cert.Pre_knn_finite.Facts] : Prop :=
  ∀ (m : (ℓ : Loc Cert.KnnIdeal.nD Cert.KnnIdeal.τ Cert.KnnIdeal.sig) → Buf (Elt Ideal) ℓ) (g : Dev Cert.KnnIdeal.nD → PrngReg)
    (m' : (ℓ : Loc Cert.KnnRefIdeal.nD Cert.KnnRefIdeal.τ Cert.KnnRefIdeal.sig) → Buf (Elt Ideal) ℓ) (g' : Dev Cert.KnnRefIdeal.nD → PrngReg), Pre_KnnIdeal_knn_finite m →
    (∀ c : Dev Cert.KnnIdeal.nD,
      m' ((c.tc : Thread Cert.KnnRefIdeal.nD Cert.KnnRefIdeal.τ).loc Cert.KnnRefIdeal.main_arg0) = m ((c.tc : Thread Cert.KnnIdeal.nD Cert.KnnIdeal.τ).loc Cert.KnnIdeal.main_arg0)
      ∧ m' ((c.tc : Thread Cert.KnnRefIdeal.nD Cert.KnnRefIdeal.τ).loc Cert.KnnRefIdeal.main_arg1) = m ((c.tc : Thread Cert.KnnIdeal.nD Cert.KnnIdeal.τ).loc Cert.KnnIdeal.main_arg1)) →
    ∃ (v0 : (c : Dev Cert.KnnIdeal.nD) → Buf (Elt Ideal) ((c.tc : Thread Cert.KnnIdeal.nD Cert.KnnIdeal.τ).loc Cert.KnnIdeal.main_v1)),
      θ_run (Cert.KnnIdeal.defs (F := Ideal)) (onTc (τ := Cert.KnnIdeal.τ) (Cert.KnnIdeal.main (F := Ideal))) ⟨m, fun _ => 0, g⟩ (fun r => ∀ c : Dev Cert.KnnIdeal.nD,
          r.2.mem ((c.tc : Thread Cert.KnnIdeal.nD Cert.KnnIdeal.τ).loc Cert.KnnIdeal.main_v1) = v0 c
          ∧ r.2.mem ((c.tc : Thread Cert.KnnIdeal.nD Cert.KnnIdeal.τ).loc Cert.KnnIdeal.main_arg0) = m ((c.tc : Thread Cert.KnnIdeal.nD Cert.KnnIdeal.τ).loc Cert.KnnIdeal.main_arg0)
          ∧ r.2.mem ((c.tc : Thread Cert.KnnIdeal.nD Cert.KnnIdeal.τ).loc Cert.KnnIdeal.main_arg1) = m ((c.tc : Thread Cert.KnnIdeal.nD Cert.KnnIdeal.τ).loc Cert.KnnIdeal.main_arg1))
      ∧ θ_run (Cert.KnnRefIdeal.defs (F := Ideal)) (onTc (τ := Cert.KnnRefIdeal.τ) (Cert.KnnRefIdeal.main (F := Ideal))) ⟨m', fun _ => 0, g'⟩ (fun r => ∀ c : Dev Cert.KnnRefIdeal.nD,
          r.2.mem ((c.tc : Thread Cert.KnnRefIdeal.nD Cert.KnnRefIdeal.τ).loc Cert.KnnRefIdeal.main_v18) = v0 c
          ∧ r.2.mem ((c.tc : Thread Cert.KnnRefIdeal.nD Cert.KnnRefIdeal.τ).loc Cert.KnnRefIdeal.main_arg0) = m' ((c.tc : Thread Cert.KnnRefIdeal.nD Cert.KnnRefIdeal.τ).loc Cert.KnnRefIdeal.main_arg0)
          ∧ r.2.mem ((c.tc : Thread Cert.KnnRefIdeal.nD Cert.KnnRefIdeal.τ).loc Cert.KnnRefIdeal.main_arg1) = m' ((c.tc : Thread Cert.KnnRefIdeal.nD Cert.KnnRefIdeal.τ).loc Cert.KnnRefIdeal.main_arg1))

def preserves_Ann_AnnIdeal : Prop :=
  True

def algebraic_AnnIdeal_AnnRefIdeal_pre_ann_finite [hAnnIdeal : Cert.AnnIdeal.Facts] [hAnnRefIdeal : Cert.AnnRefIdeal.Facts] [hPre_ann_finite : Cert.Pre_ann_finite.Facts] : Prop :=
  ∀ (m : (ℓ : Loc Cert.AnnIdeal.nD Cert.AnnIdeal.τ Cert.AnnIdeal.sig) → Buf (Elt Ideal) ℓ) (g : Dev Cert.AnnIdeal.nD → PrngReg)
    (m' : (ℓ : Loc Cert.AnnRefIdeal.nD Cert.AnnRefIdeal.τ Cert.AnnRefIdeal.sig) → Buf (Elt Ideal) ℓ) (g' : Dev Cert.AnnRefIdeal.nD → PrngReg), Pre_AnnIdeal_ann_finite m →
    (∀ c : Dev Cert.AnnIdeal.nD,
      m' ((c.tc : Thread Cert.AnnRefIdeal.nD Cert.AnnRefIdeal.τ).loc Cert.AnnRefIdeal.main_arg0) = m ((c.tc : Thread Cert.AnnIdeal.nD Cert.AnnIdeal.τ).loc Cert.AnnIdeal.main_arg0)
      ∧ m' ((c.tc : Thread Cert.AnnRefIdeal.nD Cert.AnnRefIdeal.τ).loc Cert.AnnRefIdeal.main_arg1) = m ((c.tc : Thread Cert.AnnIdeal.nD Cert.AnnIdeal.τ).loc Cert.AnnIdeal.main_arg1)
      ∧ m' ((c.tc : Thread Cert.AnnRefIdeal.nD Cert.AnnRefIdeal.τ).loc Cert.AnnRefIdeal.main_arg2) = m ((c.tc : Thread Cert.AnnIdeal.nD Cert.AnnIdeal.τ).loc Cert.AnnIdeal.main_arg2)
      ∧ m' ((c.tc : Thread Cert.AnnRefIdeal.nD Cert.AnnRefIdeal.τ).loc Cert.AnnRefIdeal.main_arg3) = m ((c.tc : Thread Cert.AnnIdeal.nD Cert.AnnIdeal.τ).loc Cert.AnnIdeal.main_arg3)
      ∧ m' ((c.tc : Thread Cert.AnnRefIdeal.nD Cert.AnnRefIdeal.τ).loc Cert.AnnRefIdeal.main_arg4) = m ((c.tc : Thread Cert.AnnIdeal.nD Cert.AnnIdeal.τ).loc Cert.AnnIdeal.main_arg4)
      ∧ m' ((c.tc : Thread Cert.AnnRefIdeal.nD Cert.AnnRefIdeal.τ).loc Cert.AnnRefIdeal.main_arg5) = m ((c.tc : Thread Cert.AnnIdeal.nD Cert.AnnIdeal.τ).loc Cert.AnnIdeal.main_arg5)
      ∧ m' ((c.tc : Thread Cert.AnnRefIdeal.nD Cert.AnnRefIdeal.τ).loc Cert.AnnRefIdeal.main_arg6) = m ((c.tc : Thread Cert.AnnIdeal.nD Cert.AnnIdeal.τ).loc Cert.AnnIdeal.main_arg6)
      ∧ m' ((c.tc : Thread Cert.AnnRefIdeal.nD Cert.AnnRefIdeal.τ).loc Cert.AnnRefIdeal.main_arg7) = m ((c.tc : Thread Cert.AnnIdeal.nD Cert.AnnIdeal.τ).loc Cert.AnnIdeal.main_arg7)) →
    ∃ (v0 : (c : Dev Cert.AnnIdeal.nD) → Buf (Elt Ideal) ((c.tc : Thread Cert.AnnIdeal.nD Cert.AnnIdeal.τ).loc Cert.AnnIdeal.main_v44_0)) (v1 : (c : Dev Cert.AnnIdeal.nD) → Buf (Elt Ideal) ((c.tc : Thread Cert.AnnIdeal.nD Cert.AnnIdeal.τ).loc Cert.AnnIdeal.main_v48)) (v2 : (c : Dev Cert.AnnIdeal.nD) → Buf (Elt Ideal) ((c.tc : Thread Cert.AnnIdeal.nD Cert.AnnIdeal.τ).loc Cert.AnnIdeal.main_v54)),
      θ_run (Cert.AnnIdeal.defs (F := Ideal)) (onTc (τ := Cert.AnnIdeal.τ) (Cert.AnnIdeal.main (F := Ideal))) ⟨m, fun _ => 0, g⟩ (fun r => ∀ c : Dev Cert.AnnIdeal.nD,
          r.2.mem ((c.tc : Thread Cert.AnnIdeal.nD Cert.AnnIdeal.τ).loc Cert.AnnIdeal.main_v44_0) = v0 c
          ∧ r.2.mem ((c.tc : Thread Cert.AnnIdeal.nD Cert.AnnIdeal.τ).loc Cert.AnnIdeal.main_v48) = v1 c
          ∧ r.2.mem ((c.tc : Thread Cert.AnnIdeal.nD Cert.AnnIdeal.τ).loc Cert.AnnIdeal.main_v54) = v2 c
          ∧ r.2.mem ((c.tc : Thread Cert.AnnIdeal.nD Cert.AnnIdeal.τ).loc Cert.AnnIdeal.main_arg0) = m ((c.tc : Thread Cert.AnnIdeal.nD Cert.AnnIdeal.τ).loc Cert.AnnIdeal.main_arg0)
          ∧ r.2.mem ((c.tc : Thread Cert.AnnIdeal.nD Cert.AnnIdeal.τ).loc Cert.AnnIdeal.main_arg1) = m ((c.tc : Thread Cert.AnnIdeal.nD Cert.AnnIdeal.τ).loc Cert.AnnIdeal.main_arg1)
          ∧ r.2.mem ((c.tc : Thread Cert.AnnIdeal.nD Cert.AnnIdeal.τ).loc Cert.AnnIdeal.main_arg2) = m ((c.tc : Thread Cert.AnnIdeal.nD Cert.AnnIdeal.τ).loc Cert.AnnIdeal.main_arg2)
          ∧ r.2.mem ((c.tc : Thread Cert.AnnIdeal.nD Cert.AnnIdeal.τ).loc Cert.AnnIdeal.main_arg3) = m ((c.tc : Thread Cert.AnnIdeal.nD Cert.AnnIdeal.τ).loc Cert.AnnIdeal.main_arg3)
          ∧ r.2.mem ((c.tc : Thread Cert.AnnIdeal.nD Cert.AnnIdeal.τ).loc Cert.AnnIdeal.main_arg4) = m ((c.tc : Thread Cert.AnnIdeal.nD Cert.AnnIdeal.τ).loc Cert.AnnIdeal.main_arg4)
          ∧ r.2.mem ((c.tc : Thread Cert.AnnIdeal.nD Cert.AnnIdeal.τ).loc Cert.AnnIdeal.main_arg5) = m ((c.tc : Thread Cert.AnnIdeal.nD Cert.AnnIdeal.τ).loc Cert.AnnIdeal.main_arg5)
          ∧ r.2.mem ((c.tc : Thread Cert.AnnIdeal.nD Cert.AnnIdeal.τ).loc Cert.AnnIdeal.main_arg6) = m ((c.tc : Thread Cert.AnnIdeal.nD Cert.AnnIdeal.τ).loc Cert.AnnIdeal.main_arg6)
          ∧ r.2.mem ((c.tc : Thread Cert.AnnIdeal.nD Cert.AnnIdeal.τ).loc Cert.AnnIdeal.main_arg7) = m ((c.tc : Thread Cert.AnnIdeal.nD Cert.AnnIdeal.τ).loc Cert.AnnIdeal.main_arg7))
      ∧ θ_run (Cert.AnnRefIdeal.defs (F := Ideal)) (onTc (τ := Cert.AnnRefIdeal.τ) (Cert.AnnRefIdeal.main (F := Ideal))) ⟨m', fun _ => 0, g'⟩ (fun r => ∀ c : Dev Cert.AnnRefIdeal.nD,
          r.2.mem ((c.tc : Thread Cert.AnnRefIdeal.nD Cert.AnnRefIdeal.τ).loc Cert.AnnRefIdeal.main_v43) = v0 c
          ∧ r.2.mem ((c.tc : Thread Cert.AnnRefIdeal.nD Cert.AnnRefIdeal.τ).loc Cert.AnnRefIdeal.main_v46) = v1 c
          ∧ r.2.mem ((c.tc : Thread Cert.AnnRefIdeal.nD Cert.AnnRefIdeal.τ).loc Cert.AnnRefIdeal.main_v53) = v2 c
          ∧ r.2.mem ((c.tc : Thread Cert.AnnRefIdeal.nD Cert.AnnRefIdeal.τ).loc Cert.AnnRefIdeal.main_arg0) = m' ((c.tc : Thread Cert.AnnRefIdeal.nD Cert.AnnRefIdeal.τ).loc Cert.AnnRefIdeal.main_arg0)
          ∧ r.2.mem ((c.tc : Thread Cert.AnnRefIdeal.nD Cert.AnnRefIdeal.τ).loc Cert.AnnRefIdeal.main_arg1) = m' ((c.tc : Thread Cert.AnnRefIdeal.nD Cert.AnnRefIdeal.τ).loc Cert.AnnRefIdeal.main_arg1)
          ∧ r.2.mem ((c.tc : Thread Cert.AnnRefIdeal.nD Cert.AnnRefIdeal.τ).loc Cert.AnnRefIdeal.main_arg2) = m' ((c.tc : Thread Cert.AnnRefIdeal.nD Cert.AnnRefIdeal.τ).loc Cert.AnnRefIdeal.main_arg2)
          ∧ r.2.mem ((c.tc : Thread Cert.AnnRefIdeal.nD Cert.AnnRefIdeal.τ).loc Cert.AnnRefIdeal.main_arg3) = m' ((c.tc : Thread Cert.AnnRefIdeal.nD Cert.AnnRefIdeal.τ).loc Cert.AnnRefIdeal.main_arg3)
          ∧ r.2.mem ((c.tc : Thread Cert.AnnRefIdeal.nD Cert.AnnRefIdeal.τ).loc Cert.AnnRefIdeal.main_arg4) = m' ((c.tc : Thread Cert.AnnRefIdeal.nD Cert.AnnRefIdeal.τ).loc Cert.AnnRefIdeal.main_arg4)
          ∧ r.2.mem ((c.tc : Thread Cert.AnnRefIdeal.nD Cert.AnnRefIdeal.τ).loc Cert.AnnRefIdeal.main_arg5) = m' ((c.tc : Thread Cert.AnnRefIdeal.nD Cert.AnnRefIdeal.τ).loc Cert.AnnRefIdeal.main_arg5)
          ∧ r.2.mem ((c.tc : Thread Cert.AnnRefIdeal.nD Cert.AnnRefIdeal.τ).loc Cert.AnnRefIdeal.main_arg6) = m' ((c.tc : Thread Cert.AnnRefIdeal.nD Cert.AnnRefIdeal.τ).loc Cert.AnnRefIdeal.main_arg6)
          ∧ r.2.mem ((c.tc : Thread Cert.AnnRefIdeal.nD Cert.AnnRefIdeal.τ).loc Cert.AnnRefIdeal.main_arg7) = m' ((c.tc : Thread Cert.AnnRefIdeal.nD Cert.AnnRefIdeal.τ).loc Cert.AnnRefIdeal.main_arg7))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)
      ∧ m' ((c.tc : Thread Cert.FinalRefIdeal.nD Cert.FinalRefIdeal.τ).loc Cert.FinalRefIdeal.main_arg3) = m ((c.tc : Thread Cert.FinalIdeal.nD Cert.FinalIdeal.τ).loc Cert.FinalIdeal.main_arg3)
      ∧ m' ((c.tc : Thread Cert.FinalRefIdeal.nD Cert.FinalRefIdeal.τ).loc Cert.FinalRefIdeal.main_arg4) = m ((c.tc : Thread Cert.FinalIdeal.nD Cert.FinalIdeal.τ).loc Cert.FinalIdeal.main_arg4)
      ∧ m' ((c.tc : Thread Cert.FinalRefIdeal.nD Cert.FinalRefIdeal.τ).loc Cert.FinalRefIdeal.main_arg5) = m ((c.tc : Thread Cert.FinalIdeal.nD Cert.FinalIdeal.τ).loc Cert.FinalIdeal.main_arg5)
      ∧ m' ((c.tc : Thread Cert.FinalRefIdeal.nD Cert.FinalRefIdeal.τ).loc Cert.FinalRefIdeal.main_arg6) = m ((c.tc : Thread Cert.FinalIdeal.nD Cert.FinalIdeal.τ).loc Cert.FinalIdeal.main_arg6)
      ∧ m' ((c.tc : Thread Cert.FinalRefIdeal.nD Cert.FinalRefIdeal.τ).loc Cert.FinalRefIdeal.main_arg7) = m ((c.tc : Thread Cert.FinalIdeal.nD Cert.FinalIdeal.τ).loc Cert.FinalIdeal.main_arg7)) →
    ∃ (v0 : (c : Dev Cert.FinalIdeal.nD) → Buf (Elt Ideal) ((c.tc : Thread Cert.FinalIdeal.nD Cert.FinalIdeal.τ).loc Cert.FinalIdeal.main_v9)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v9) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
          ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
          ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5)
          ∧ r.2.mem ((c.tc : Thread Cert.FinalIdeal.nD Cert.FinalIdeal.τ).loc Cert.FinalIdeal.main_arg6) = m ((c.tc : Thread Cert.FinalIdeal.nD Cert.FinalIdeal.τ).loc Cert.FinalIdeal.main_arg6)
          ∧ r.2.mem ((c.tc : Thread Cert.FinalIdeal.nD Cert.FinalIdeal.τ).loc Cert.FinalIdeal.main_arg7) = m ((c.tc : Thread Cert.FinalIdeal.nD Cert.FinalIdeal.τ).loc Cert.FinalIdeal.main_arg7))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v69) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2)
          ∧ r.2.mem ((c.tc : Thread Cert.FinalRefIdeal.nD Cert.FinalRefIdeal.τ).loc Cert.FinalRefIdeal.main_arg3) = m' ((c.tc : Thread Cert.FinalRefIdeal.nD Cert.FinalRefIdeal.τ).loc Cert.FinalRefIdeal.main_arg3)
          ∧ r.2.mem ((c.tc : Thread Cert.FinalRefIdeal.nD Cert.FinalRefIdeal.τ).loc Cert.FinalRefIdeal.main_arg4) = m' ((c.tc : Thread Cert.FinalRefIdeal.nD Cert.FinalRefIdeal.τ).loc Cert.FinalRefIdeal.main_arg4)
          ∧ r.2.mem ((c.tc : Thread Cert.FinalRefIdeal.nD Cert.FinalRefIdeal.τ).loc Cert.FinalRefIdeal.main_arg5) = m' ((c.tc : Thread Cert.FinalRefIdeal.nD Cert.FinalRefIdeal.τ).loc Cert.FinalRefIdeal.main_arg5)
          ∧ r.2.mem ((c.tc : Thread Cert.FinalRefIdeal.nD Cert.FinalRefIdeal.τ).loc Cert.FinalRefIdeal.main_arg6) = m' ((c.tc : Thread Cert.FinalRefIdeal.nD Cert.FinalRefIdeal.τ).loc Cert.FinalRefIdeal.main_arg6)
          ∧ r.2.mem ((c.tc : Thread Cert.FinalRefIdeal.nD Cert.FinalRefIdeal.τ).loc Cert.FinalRefIdeal.main_arg7) = m' ((c.tc : Thread Cert.FinalRefIdeal.nD Cert.FinalRefIdeal.τ).loc Cert.FinalRefIdeal.main_arg7))

def Claim : Prop :=
  ∃ (hKernel : Cert.Kernel.Facts) (hKernelIdeal : Cert.KernelIdeal.Facts) (hReferenceIdeal : Cert.ReferenceIdeal.Facts) (hPoints : Cert.Points.Facts) (hPointsIdeal : Cert.PointsIdeal.Facts) (hPointsRefIdeal : Cert.PointsRefIdeal.Facts) (hKnn : Cert.Knn.Facts) (hKnnIdeal : Cert.KnnIdeal.Facts) (hKnnRefIdeal : Cert.KnnRefIdeal.Facts) (hAnn : Cert.Ann.Facts) (hAnnIdeal : Cert.AnnIdeal.Facts) (hAnnRefIdeal : Cert.AnnRefIdeal.Facts) (hFinal : Cert.Final.Facts) (hFinalIdeal : Cert.FinalIdeal.Facts) (hFinalRefIdeal : Cert.FinalRefIdeal.Facts) (hPre_idx_in_rows : Cert.Pre_idx_in_rows.Facts) (hPre_points_finite : Cert.Pre_points_finite.Facts) (hPre_knn_finite : Cert.Pre_knn_finite.Facts) (hPre_ann_finite : Cert.Pre_ann_finite.Facts),
    quiescent_Kernel (hKernel := hKernel) (hPre_idx_in_rows := hPre_idx_in_rows)
    ∧ quiescent_KernelIdeal (hKernelIdeal := hKernelIdeal) (hPre_idx_in_rows := hPre_idx_in_rows)
    ∧ quiescent_ReferenceIdeal (hReferenceIdeal := hReferenceIdeal)
    ∧ quiescent_ReferenceIdeal_pre_idx_in_rows (hReferenceIdeal := hReferenceIdeal) (hPre_idx_in_rows := hPre_idx_in_rows)
    ∧ quiescent_Points (hPoints := hPoints)
    ∧ quiescent_PointsIdeal (hPointsIdeal := hPointsIdeal)
    ∧ quiescent_PointsIdeal_pre_points_finite (hPointsIdeal := hPointsIdeal) (hPre_points_finite := hPre_points_finite)
    ∧ quiescent_PointsRefIdeal (hPointsRefIdeal := hPointsRefIdeal)
    ∧ quiescent_PointsRefIdeal_pre_points_finite (hPointsRefIdeal := hPointsRefIdeal) (hPre_points_finite := hPre_points_finite)
    ∧ quiescent_Knn (hKnn := hKnn)
    ∧ quiescent_KnnIdeal (hKnnIdeal := hKnnIdeal)
    ∧ quiescent_KnnIdeal_pre_knn_finite (hKnnIdeal := hKnnIdeal) (hPre_knn_finite := hPre_knn_finite)
    ∧ quiescent_KnnRefIdeal (hKnnRefIdeal := hKnnRefIdeal)
    ∧ quiescent_KnnRefIdeal_pre_knn_finite (hKnnRefIdeal := hKnnRefIdeal) (hPre_knn_finite := hPre_knn_finite)
    ∧ quiescent_Ann (hAnn := hAnn)
    ∧ quiescent_AnnIdeal (hAnnIdeal := hAnnIdeal)
    ∧ quiescent_AnnIdeal_pre_ann_finite (hAnnIdeal := hAnnIdeal) (hPre_ann_finite := hPre_ann_finite)
    ∧ quiescent_AnnRefIdeal (hAnnRefIdeal := hAnnRefIdeal)
    ∧ quiescent_AnnRefIdeal_pre_ann_finite (hAnnRefIdeal := hAnnRefIdeal) (hPre_ann_finite := hPre_ann_finite)
    ∧ quiescent_Final (hFinal := hFinal)
    ∧ quiescent_FinalIdeal (hFinalIdeal := hFinalIdeal)
    ∧ quiescent_FinalRefIdeal (hFinalRefIdeal := hFinalRefIdeal)
    ∧ preserves_Kernel_KernelIdeal
    ∧ algebraic_KernelIdeal_ReferenceIdeal (hKernelIdeal := hKernelIdeal) (hReferenceIdeal := hReferenceIdeal) (hPre_idx_in_rows := hPre_idx_in_rows)
    ∧ preserves_Points_PointsIdeal
    ∧ algebraic_PointsIdeal_PointsRefIdeal_pre_points_finite (hPointsIdeal := hPointsIdeal) (hPointsRefIdeal := hPointsRefIdeal) (hPre_points_finite := hPre_points_finite)
    ∧ preserves_Knn_KnnIdeal
    ∧ algebraic_KnnIdeal_KnnRefIdeal_pre_knn_finite (hKnnIdeal := hKnnIdeal) (hKnnRefIdeal := hKnnRefIdeal) (hPre_knn_finite := hPre_knn_finite)
    ∧ preserves_Ann_AnnIdeal
    ∧ algebraic_AnnIdeal_AnnRefIdeal_pre_ann_finite (hAnnIdeal := hAnnIdeal) (hAnnRefIdeal := hAnnRefIdeal) (hPre_ann_finite := hPre_ann_finite)
    ∧ preserves_Final_FinalIdeal
    ∧ algebraic_FinalIdeal_FinalRefIdeal (hFinalIdeal := hFinalIdeal) (hFinalRefIdeal := hFinalRefIdeal)
-- ==== Pre_ann_finite.lean ====
abbrev S16000x128 : Shape := ⟨2, ![16000, 128]⟩
abbrev S144000x128 : Shape := ⟨2, ![144000, 128]⟩
abbrev S128x256x1x3 : Shape := ⟨4, ![128, 256, 1, 3]⟩
abbrev S128 : Shape := ⟨1, ![128]⟩
abbrev S128x128x1x3 : Shape := ⟨4, ![128, 128, 1, 3]⟩
abbrev S_ : Shape := ⟨0, ![]⟩

class Facts : Prop where
  bcast_S_S16000x128 : S_.BroadcastsInDim S16000x128 (![] : Fin 0 → Fin S16000x128.rank)
  reducesTo_S16000x128_S_d0_1 : S16000x128.ReducesTo [0, 1] S_
  h_S_ : 0 < S_.numel
  bcast_S_S144000x128 : S_.BroadcastsInDim S144000x128 (![] : Fin 0 → Fin S144000x128.rank)
  reducesTo_S144000x128_S_d0_1 : S144000x128.ReducesTo [0, 1] S_
  bcast_S_S128x256x1x3 : S_.BroadcastsInDim S128x256x1x3 (![] : Fin 0 → Fin S128x256x1x3.rank)
  reducesTo_S128x256x1x3_S_d0_1_2_3 : S128x256x1x3.ReducesTo [0, 1, 2, 3] S_
  bcast_S_S128 : S_.BroadcastsInDim S128 (![] : Fin 0 → Fin S128.rank)
  reducesTo_S128_S_d0 : S128.ReducesTo [0] S_
  bcast_S_S128x128x1x3 : S_.BroadcastsInDim S128x128x1x3 (![] : Fin 0 → Fin S128x128x1x3.rank)
  reducesTo_S128x128x1x3_S_d0_1_2_3 : S128x128x1x3.ReducesTo [0, 1, 2, 3] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S128 .f32) (main_arg5 : FVec F S128 .f32) (main_arg6 : FVec F S128x128x1x3 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128x1x3 .f32 := Host.absf main_arg6
  let main_cst_10 : FVec F S_ .f32 := constant S_ .f32 0x7F800000#32
  let main_v30 : FVec F S128x128x1x3 .f32 := broadcastInDim S128x128x1x3 ![] bcast_S_S128x128x1x3 main_cst_10
  let main_v31 : IVec S128x128x1x3 1 := cmpf .olt main_v29 main_v30
  let main_c_11 : IVec S_ 1 := constantI S_ 1 1#1
  let main_v32 : IVec S_ 1 := (fun x v => Host.reduce IntOp.andi x v reducesTo_S128x128x1x3_S_d0_1_2_3 h_S_) main_v31 main_c_11
  let main_v33 : IVec S_ 1 := andi main_v28 main_v32
  fn_part2 (F := F) main_arg7 main_v33

def fn {F : FTy → Type} [FloatOps F] (main_arg0 : FVec F S16000x128 .f32) (main_arg1 : FVec F S144000x128 .f32) (main_arg2 : FVec F S128x256x1x3 .f32) (main_arg3 : FVec F S128 .f32) (main_arg4 : FVec F S128 .f32) (main_arg5 : FVec F S128 .f32) (main_arg6 : FVec F S128x128x1x3 .f32) (main_arg7 : FVec F S128 .f32) : IVec S_ 1 :=
  let main_v0 : FVec F S16000x128 .f32 := Host.absf main_arg0
  let main_cst : FVec F S_ .f32 := constant S_ .f32 0x7F800000#32
  let main_v1 : FVec F S16000x128 .f32 := broadcastInDim S16000x128 ![] bcast_S_S16000x128 main_cst
  let main_v2 : IVec S16000x128 1 := cmpf .olt main_v0 main_v1
  let main_c : IVec S_ 1 := constantI S_ 1 1#1
  let main_v3 : IVec S_ 1 := (fun x v => Host.reduce IntOp.andi x v reducesTo_S16000x128_S_d0_1 h_S_) main_v2 main_c
  let main_v4 : FVec F S144000x128 .f32 := Host.absf main_arg1
  let main_cst_0 : FVec F S_ .f32 := constant S_ .f32 0x7F800000#32
  let main_v5 : FVec F S144000x128 .f32 := broadcastInDim S144000x128 ![] bcast_S_S144000x128 main_cst_0
  let main_v6 : IVec S144000x128 1 := cmpf .olt main_v4 main_v5
  let main_c_1 : IVec S_ 1 := constantI S_ 1 1#1
  let main_v7 : IVec S_ 1 := (fun x v => Host.reduce IntOp.andi x v reducesTo_S144000x128_S_d0_1 h_S_) main_v6 main_c_1
  let main_v8 : IVec S_ 1 := andi main_v3 main_v7
  let main_v9 : FVec F S128x256x1x3 .f32 := Host.absf main_arg2
  let main_cst_2 : FVec F S_ .f32 := constant S_ .f32 0x7F800000#32
  let main_v10 : FVec F S128x256x1x3 .f32 := broadcastInDim S128x256x1x3 ![] bcast_S_S128x256x1x3 main_cst_2
  let main_v11 : IVec S128x256x1x3 1 := cmpf .olt main_v9 main_v10
  let main_c_3 : IVec S_ 1 := constantI S_ 1 1#1
  let main_v12 : IVec S_ 1 := (fun x v => Host.reduce IntOp.andi x v reducesTo_S128x256x1x3_S_d0_1_2_3 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Pre_idx_in_rows.lean ====
abbrev S16000x128 : Shape := ⟨2, ![16000, 128]⟩
abbrev S16000x9 : Shape := ⟨2, ![16000, 9]⟩
abbrev S_ : Shape := ⟨0, ![]⟩

class Facts : Prop where
  bcast_S_S16000x9 : S_.BroadcastsInDim S16000x9 (![] : Fin 0 → Fin S16000x9.rank)

variable [Facts]

def fn {F : FTy → Type} [FloatOps F] (main_arg0 : FVec F S16000x128 .f32) (main_arg1 : IVec S16000x9 32) : IVec S16000x9 1 :=
  let main_c : IVec S_ 32 := constantI S_ 32 0#32
  let main_v0 : IVec S16000x9 32 := broadcastInDim S16000x9 ![] bcast_S_S16000x9 main_c
  let main_v1 : IVec S16000x9 1 := cmpi .sge main_arg1 main_v0
  let main_c_0 : IVec S_ 32 := constantI S_ 32 16000#32
  let main_v2 : IVec S16000x9 32 := broadcastInDim S16000x9 ![] bcast_S_S16000x9 main_c_0
  let main_v3 : IVec S16000x9 1 := cmpi .slt main_arg1 main_v2
  let main_v4 : IVec S16000x9 1 := andi main_v1 main_v3
  main_v4
-- ==== Pre_knn_finite.lean ====
abbrev S16000x128 : Shape := ⟨2, ![16000, 128]⟩
abbrev S16000x1 : Shape := ⟨2, ![16000, 1]⟩
abbrev S_ : Shape := ⟨0, ![]⟩

class Facts : Prop where
  bcast_S_S16000x128 : S_.BroadcastsInDim S16000x128 (![] : Fin 0 → Fin S16000x128.rank)
  reducesTo_S16000x128_S_d0_1 : S16000x128.ReducesTo [0, 1] S_
  h_S_ : 0 < S_.numel
  bcast_S_S16000x1 : S_.BroadcastsInDim S16000x1 (![] : Fin 0 → Fin S16000x1.rank)
  reducesTo_S16000x1_S_d0_1 : S16000x1.ReducesTo [0, 1] S_

variable [Facts]

def fn {F : FTy → Type} [FloatOps F] (main_arg0 : FVec F S16000x128 .f32) (main_arg1 : FVec F S16000x1 .f32) : IVec S_ 1 :=
  let main_v0 : FVec F S16000x128 .f32 := Host.absf main_arg0
  let main_cst : FVec F S_ .f32 := constant S_ .f32 0x7F800000#32
  let main_v1 : FVec F S16000x128 .f32 := broadcastInDim S16000x128 ![] bcast_S_S16000x128 main_cst
  let main_v2 : IVec S16000x128 1 := cmpf .olt main_v0 main_v1
  let main_c : IVec S_ 1 := constantI S_ 1 1#1
  let main_v3 : IVec S_ 1 := (fun x v => Host.reduce IntOp.andi x v reducesTo_S16000x128_S_d0_1 h_S_) main_v2 main_c
  let main_v4 : FVec F S16000x1 .f32 := Host.absf main_arg1
  let main_cst_0 : FVec F S_ .f32 := constant S_ .f32 0x7F800000#32
  let main_v5 : FVec F S16000x1 .f32 := broadcastInDim S16000x1 ![] bcast_S_S16000x1 main_cst_0
  let main_v6 : IVec S16000x1 1 := cmpf .olt main_v4 main_v5
  let main_c_1 : IVec S_ 1 := constantI S_ 1 1#1
  let main_v7 : IVec S_ 1 := (fun x v => Host.reduce IntOp.andi x v reducesTo_S16000x1_S_d0_1 h_S_) main_v6 main_c_1
  let main_v8 : IVec S_ 1 := andi main_v3 main_v7
  main_v8
-- ==== Pre_points_finite.lean ====
abbrev S8x1x2000x4 : Shape := ⟨4, ![8, 1, 2000, 4]⟩
abbrev S128x4x1x1 : Shape := ⟨4, ![128, 4, 1, 1]⟩
abbrev S128 : Shape := ⟨1, ![128]⟩
abbrev S_ : Shape := ⟨0, ![]⟩

class Facts : Prop where
  bcast_S_S8x1x2000x4 : S_.BroadcastsInDim S8x1x2000x4 (![] : Fin 0 → Fin S8x1x2000x4.rank)
  reducesTo_S8x1x2000x4_S_d0_1_2_3 : S8x1x2000x4.ReducesTo [0, 1, 2, 3] S_
  h_S_ : 0 < S_.numel
  bcast_S_S128x4x1x1 : S_.BroadcastsInDim S128x4x1x1 (![] : Fin 0 → Fin S128x4x1x1.rank)
  reducesTo_S128x4x1x1_S_d0_1_2_3 : S128x4x1x1.ReducesTo [0, 1, 2, 3] S_
  bcast_S_S128 : S_.BroadcastsInDim S128 (![] : Fin 0 → Fin S128.rank)
  reducesTo_S128_S_d0 : S128.ReducesTo [0] S_

variable [Facts]

def fn {F : FTy → Type} [FloatOps F] (main_arg0 : FVec F S8x1x2000x4 .f32) (main_arg1 : FVec F S128x4x1x1 .f32) (main_arg2 : FVec F S128 .f32) (main_arg3 : FVec F S128 .f32) (main_arg4 : FVec F S128 .f32) : IVec S_ 1 :=
  let main_v0 : FVec F S8x1x2000x4 .f32 := Host.absf main_arg0
  let main_cst : FVec F S_ .f32 := constant S_ .f32 0x7F800000#32
  let main_v1 : FVec F S8x1x2000x4 .f32 := broadcastInDim S8x1x2000x4 ![] bcast_S_S8x1x2000x4 main_cst
  let main_v2 : IVec S8x1x2000x4 1 := cmpf .olt main_v0 main_v1
  let main_c : IVec S_ 1 := constantI S_ 1 1#1
  let main_v3 : IVec S_ 1 := (fun x v => Host.reduce IntOp.andi x v reducesTo_S8x1x2000x4_S_d0_1_2_3 h_S_) main_v2 main_c
  let main_v4 : FVec F S128x4x1x1 .f32 := Host.absf main_arg1
  let main_cst_0 : FVec F S_ .f32 := constant S_ .f32 0x7F800000#32
  let main_v5 : FVec F S128x4x1x1 .f32 := broadcastInDim S128x4x1x1 ![] bcast_S_S128x4x1x1 main_cst_0
  let main_v6 : IVec S128x4x1x1 1 := cmpf .olt main_v4 main_v5
  let main_c_1 : IVec S_ 1 := constantI S_ 1 1#1
  let main_v7 : IVec S_ 1 := (fun x v => Host.reduce IntOp.andi x v reducesTo_S128x4x1x1_S_d0_1_2_3 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S16000x128 : Shape := ⟨2, ![16000, 128]⟩
abbrev S16000x9 : Shape := ⟨2, ![16000, 9]⟩
abbrev S144000 : Shape := ⟨1, ![144000]⟩
abbrev S144000x128 : Shape := ⟨2, ![144000, 128]⟩
abbrev S600 : Shape := ⟨1, ![600]⟩
abbrev S600x128 : Shape := ⟨2, ![600, 128]⟩
abbrev S_ : Shape := ⟨0, ![]⟩

abbrev nBuf : Table → Nat
  | .hbm => 4
  | .local .scVector .vmem => 2
  | _ => 0

abbrev bufTy : (tb : Table) → Fin (nBuf tb) → BufTy
  | .hbm, ⟨0, _⟩ => ⟨S16000x128, .f32⟩
  | .hbm, ⟨1, _⟩ => ⟨S16000x9, .i32⟩
  | .hbm, ⟨2, _⟩ => ⟨S144000, .i32⟩
  | .hbm, ⟨3, _⟩ => ⟨S144000x128, .f32⟩
  | .local .scVector .vmem, ⟨0, _⟩ => ⟨S600, .i32⟩
  | .local .scVector .vmem, ⟨1, _⟩ => ⟨S600x128, .f32⟩
  | _, _ => ⟨S16000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg0_scv : Ref sig .scVector := ⟨.hbm, 0, rfl⟩
abbrev main_v0_scv : Ref sig .scVector := ⟨.hbm, 2, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c8_i32 : BitVec 32 := 8#32
  let v2 : BitVec 32 := Scalar.addi c0_i32_0 c8_i32
  let c1_i32 : BitVec 32 := 1#32
  ⟨c0_i32_0, v2, c1_i32⟩
def k0_cond1 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_0 : BitVec 32 := 0#32
  let c1_i32 : BitVec 32 := 1#32
  let arg8 : BitVec 32 := Scf.iv c0_i32_0 c1_i32 k0_t1
  let v3 : BitVec 32 := Scalar.muli c32_i32 arg8
  let v4 : BitVec 32 := Scalar.addi v1 v3
  let c240_i32 : BitVec 32 := 240#32
  let v5 : BitVec 1 := Scalar.cmpi .slt v4 c240_i32
  let v6 : BitVec 32 := Scalar.extui v5
  let c0_i32_2 : BitVec 32 := 0#32
  let v7 : BitVec 1 := Scalar.cmpi .ne v6 c0_i32_2
  v7

def k0_mult1 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_0 : BitVec 32 := 0#32
  let c1_i32 : BitVec 32 := 1#32
  let arg8 : BitVec 32 := Scf.iv c0_i32_0 c1_i32 k0_t1
  let v3 : BitVec 32 := Scalar.muli c32_i32 arg8
  let v4 : BitVec 32 := Scalar.addi v1 v3
  let c600_i32 : BitVec 32 := 600#32
  let v8 : BitVec 32 := Scalar.muli v4 c600_i32
  v8
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_0 : BitVec 32 := 0#32
  let c1_i32 : BitVec 32 := 1#32
  let arg8 : BitVec 32 := Scf.iv c0_i32_0 c1_i32 k0_t1
  let v3 : BitVec 32 := Scalar.muli c32_i32 arg8
  let v4 : BitVec 32 := Scalar.addi v1 v3
  let c600_i32 : BitVec 32 := 600#32
  let v8 : BitVec 32 := Scalar.muli v4 c600_i32
  let v9 : BitVec 32 := v8
  ![v9.toNat]
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_0 : BitVec 32 := 0#32
  let c1_i32 : BitVec 32 := 1#32
  let arg8 : BitVec 32 := Scf.iv c0_i32_0 c1_i32 k0_t1
  let v3 : BitVec 32 := Scalar.muli c32_i32 arg8
  let v4 : BitVec 32 := Scalar.addi v1 v3
  let c600_i32 : BitVec 32 := 600#32
  let v8 : BitVec 32 := Scalar.muli v4 c600_i32
  let v9 : BitVec 32 := v8
  let c0_i32_7_r1 : BitVec 32 := 0#32
  ![v9.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16000x128 : Shape := ⟨2, ![16000, 128]⟩
abbrev S16000x9 : Shape := ⟨2, ![16000, 9]⟩
abbrev S144000 : Shape := ⟨1, ![144000]⟩
abbrev S_ : Shape := ⟨0, ![]⟩
abbrev S144000x1 : Shape := ⟨2, ![144000, 1]⟩
abbrev S144000x128 : Shape := ⟨2, ![144000, 128]⟩

abbrev nBuf : Space → Nat
  | .hbm => 12
  | .vmem => 0
  | .smem => 0
  | _ => 0

abbrev bufTy : (tb : Table) → Fin (tcTables nBuf tb) → BufTy
  | .hbm, ⟨0, _⟩ => ⟨S16000x128, .f32⟩
  | .hbm, ⟨1, _⟩ => ⟨S16000x9, .i32⟩
  | .hbm, ⟨2, _⟩ => ⟨S144000, .i32⟩
  | .hbm, ⟨3, _⟩ => ⟨S_, .i32⟩
  | .hbm, ⟨4, _⟩ => ⟨S144000, .i32⟩
  | .hbm, ⟨5, _⟩ => ⟨S144000, .i1⟩
  | .hbm, ⟨6, _⟩ => ⟨S_, .i32⟩
  | .hbm, ⟨7, _⟩ => ⟨S144000, .i32⟩
  | .hbm, ⟨8, _⟩ => ⟨S144000, .i32⟩
  | .hbm, ⟨9, _⟩ => ⟨S144000, .i32⟩
  | .hbm, ⟨10, _⟩ => ⟨S144000x1, .i32⟩
  | .hbm, ⟨11, _⟩ => ⟨S144000x128, .f32⟩
  | _, _ => ⟨S16000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Points.lean ====
abbrev S8x1x2000x4 : Shape := ⟨4, ![8, 1, 2000, 4]⟩
abbrev S128x4x1x1 : Shape := ⟨4, ![128, 4, 1, 1]⟩
abbrev S128 : Shape := ⟨1, ![128]⟩
abbrev S16000x4 : Shape := ⟨2, ![16000, 4]⟩
abbrev S128x4 : Shape := ⟨2, ![128, 4]⟩
abbrev S4x128 : Shape := ⟨2, ![4, 128]⟩
abbrev S1x128 : Shape := ⟨2, ![1, 128]⟩
abbrev S2x128 : Shape := ⟨2, ![2, 128]⟩
abbrev S1000x4 : Shape := ⟨2, ![1000, 4]⟩
abbrev S1000x128 : Shape := ⟨2, ![1000, 128]⟩
abbrev S_ : Shape := ⟨0, ![]⟩
abbrev S16000x128 : Shape := ⟨2, ![16000, 128]⟩
abbrev S16000x1 : Shape := ⟨2, ![16000, 1]⟩
abbrev S2000x4 : Shape := ⟨2, ![2000, 4]⟩
abbrev S2000x128 : Shape := ⟨2, ![2000, 128]⟩
abbrev S2000x1 : Shape := ⟨2, ![2000, 1]⟩
abbrev S2000 : Shape := ⟨1, ![2000]⟩

abbrev nBuf : Space → Nat
  | .hbm => 29
  | .vmem => 14
  | .smem => 0
  | _ => 0

abbrev bufTy : (tb : Table) → Fin (tcTables nBuf tb) → BufTy
  | .hbm, ⟨0, _⟩ => ⟨S8x1x2000x4, .f32⟩
  | .hbm, ⟨1, _⟩ => ⟨S128x4x1x1, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S16000x4, .f32⟩
  | .hbm, ⟨6, _⟩ => ⟨S128x4, .f32⟩
  | .hbm, ⟨7, _⟩ => ⟨S4x128, .f32⟩
  | .hbm, ⟨8, _⟩ => ⟨S1x128, .f32⟩
  | .hbm, ⟨9, _⟩ => ⟨S2x128, .f32⟩
  | .hbm, ⟨10, _⟩ => ⟨S1x128, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S1x128, .f32⟩
  | .hbm, ⟨16, _⟩ => ⟨S128, .f32⟩
  | .hbm, ⟨17, _⟩ => ⟨S_, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S1x128, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S4x128, .f32⟩
  | .hbm, ⟨27, _⟩ => ⟨S16000x128, .f32⟩
  | .hbm, ⟨28, _⟩ => ⟨S16000x1, .f32⟩
  | .local _ .vmem, ⟨0, _⟩ => ⟨S1000x4, .f32⟩
  | .local _ .vmem, ⟨1, _⟩ => ⟨S1000x4, .f32⟩
  | .local _ .vmem, ⟨2, _⟩ => ⟨S4x128, .f32⟩
  | .local _ .vmem, ⟨3, _⟩ => ⟨S1x128, .f32⟩
  | .local _ .vmem, ⟨4, _⟩ => ⟨S2x128, .f32⟩
  | .local _ .vmem, ⟨5, _⟩ => ⟨S2000x4, .f32⟩
  | .local _ .vmem, ⟨6, _⟩ => ⟨S2000x4, .f32⟩
  | .local _ .vmem, ⟨7, _⟩ => ⟨S4x128, .f32⟩
  | .local _ .vmem, ⟨8, _⟩ => ⟨S1x128, .f32⟩
  | .local _ .vmem, ⟨9, _⟩ => ⟨S4x128, .f32⟩
  | .local _ .vmem, ⟨10, _⟩ => ⟨S2000x128, .f32⟩
  | .local _ .vmem, ⟨11, _⟩ => ⟨S2000x128, .f32⟩
  | .local _ .vmem, ⟨12, _⟩ => ⟨S2000x1, .f32⟩
  | .local _ .vmem, ⟨13, _⟩ => ⟨S2000x1, .f32⟩
  | _, _ => ⟨S8x1x2000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20_0 : Ref sig .tc := ⟨.hbm, 27, rfl⟩
abbrev main_v20_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== PointsRefIdeal.lean ====
abbrev S8x1x2000x4 : Shape := ⟨4, ![8, 1, 2000, 4]⟩
abbrev S128x4x1x1 : Shape := ⟨4, ![128, 4, 1, 1]⟩
abbrev S128 : Shape := ⟨1, ![128]⟩
abbrev S16000x4 : Shape := ⟨2, ![16000, 4]⟩
abbrev S128x4 : Shape := ⟨2, ![128, 4]⟩
abbrev S4x128 : Shape := ⟨2, ![4, 128]⟩
abbrev S16000x128 : Shape := ⟨2, ![16000, 128]⟩
abbrev S1x128 : Shape := ⟨2, ![1, 128]⟩
abbrev S_ : Shape := ⟨0, ![]⟩
abbrev S16000 : Shape := ⟨1, ![16000]⟩
abbrev S16000x1 : Shape := ⟨2, ![16000, 1]⟩

abbrev nBuf : Space → Nat
  | .hbm => 49
  | .vmem => 0
  | .smem => 0
  | _ => 0

abbrev bufTy : (tb : Table) → Fin (tcTables nBuf tb) → BufTy
  | .hbm, ⟨0, _⟩ => ⟨S8x1x2000x4, .f32⟩
  | .hbm, ⟨1, _⟩ => ⟨S128x4x1x1, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S16000x4, .f32⟩
  | .hbm, ⟨6, _⟩ => ⟨S128x4, .f32⟩
  | .hbm, ⟨7, _⟩ => ⟨S4x128, .f32⟩
  | .hbm, ⟨8, _⟩ => ⟨S16000x128, .f32⟩
  | .hbm, ⟨9, _⟩ => ⟨S1x128, .f32⟩
  | .hbm, ⟨10, _⟩ => ⟨S16000x128, .f32⟩
  | .hbm, ⟨11, _⟩ => ⟨S16000x128, .f32⟩
  | .hbm, ⟨12, _⟩ => ⟨S_, .f32⟩
  | .hbm, ⟨13, _⟩ => ⟨S128, .f32⟩
  | .hbm, ⟨14, _⟩ => ⟨S_, .f32⟩
  | .hbm, ⟨15, _⟩ => ⟨S128, .f32⟩
  | .hbm, ⟨16, _⟩ => ⟨S128, .f32⟩
  | .hbm, ⟨17, _⟩ => ⟨S1x128, .f32⟩
  | .hbm, ⟨18, _⟩ => ⟨S16000x128, .f32⟩
  | .hbm, ⟨19, _⟩ => ⟨S16000x128, .f32⟩
  | .hbm, ⟨20, _⟩ => ⟨S16000x128, .f32⟩
  | .hbm, ⟨21, _⟩ => ⟨S_, .f32⟩
  | .hbm, ⟨22, _⟩ => ⟨S128, .f32⟩
  | .hbm, ⟨23, _⟩ => ⟨S_, .f32⟩
  | .hbm, ⟨24, _⟩ => ⟨S128, .f32⟩
  | .hbm, ⟨25, _⟩ => ⟨S128, .f32⟩
  | .hbm, ⟨26, _⟩ => ⟨S1x128, .f32⟩
  | .hbm, ⟨27, _⟩ => ⟨S16000x128, .f32⟩
  | .hbm, ⟨28, _⟩ => ⟨S16000x128, .f32⟩
  | .hbm, ⟨29, _⟩ => ⟨S_, .f32⟩
  | .hbm, ⟨30, _⟩ => ⟨S128, .f32⟩
  | .hbm, ⟨31, _⟩ => ⟨S128, .f32⟩
  | .hbm, ⟨32, _⟩ => ⟨S128, .f32⟩
  | .hbm, ⟨33, _⟩ => ⟨S1x128, .f32⟩
  | .hbm, ⟨34, _⟩ => ⟨S16000x128, .f32⟩
  | .hbm, ⟨35, _⟩ => ⟨S16000x128, .f32⟩
  | .hbm, ⟨36, _⟩ => ⟨S1x128, .f32⟩
  | .hbm, ⟨37, _⟩ => ⟨S16000x128, .f32⟩
  | .hbm, ⟨38, _⟩ => ⟨S16000x128, .f32⟩
  | .hbm, ⟨39, _⟩ => ⟨S1x128, .f32⟩
  | .hbm, ⟨40, _⟩ => ⟨S16000x128, .f32⟩
  | .hbm, ⟨41, _⟩ => ⟨S16000x128, .f32⟩
  | .hbm, ⟨42, _⟩ => ⟨S_, .f32⟩
  | .hbm, ⟨43, _⟩ => ⟨S16000x128, .f32⟩
  | .hbm, ⟨44, _⟩ => ⟨S16000x128, .f32⟩
  | .hbm, ⟨45, _⟩ => ⟨S16000x128, .f32⟩
  | .hbm, ⟨46, _⟩ => ⟨S_, .f32⟩
  | .hbm, ⟨47, _⟩ => ⟨S16000, .f32⟩
  | .hbm, ⟨48, _⟩ => ⟨S16000x1, .f32⟩
  | _, _ => ⟨S8x1x2000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_call0_cst : Ref sig .tc := ⟨.hbm, 42, rfl⟩
abbrev main_call0_v0 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Knn.lean ====
abbrev S16000x128 : Shape := ⟨2, ![16000, 128]⟩
abbrev S16000x1 : Shape := ⟨2, ![16000, 1]⟩
abbrev S8x1x2000 : Shape := ⟨3, ![8, 1, 2000]⟩
abbrev S16000x9 : Shape := ⟨2, ![16000, 9]⟩
abbrev S2000x128 : Shape := ⟨2, ![2000, 128]⟩
abbrev S400x128 : Shape := ⟨2, ![400, 128]⟩
abbrev S1x1x2000 : Shape := ⟨3, ![1, 1, 2000]⟩
abbrev S400x1 : Shape := ⟨2, ![400, 1]⟩
abbrev S400x9 : Shape := ⟨2, ![400, 9]⟩
abbrev S400x2000 : Shape := ⟨2, ![400, 2000]⟩
abbrev S1x2000 : Shape := ⟨2, ![1, 2000]⟩
abbrev S200x2000 : Shape := ⟨2, ![200, 2000]⟩
abbrev S200 : Shape := ⟨1, ![200]⟩
abbrev S200x1 : Shape := ⟨2, ![200, 1]⟩

abbrev nBuf : Space → Nat
  | .hbm => 4
  | .vmem => 10
  | .smem => 0
  | _ => 0

abbrev bufTy : (tb : Table) → Fin (tcTables nBuf tb) → BufTy
  | .hbm, ⟨0, _⟩ => ⟨S16000x128, .f32⟩
  | .hbm, ⟨1, _⟩ => ⟨S16000x1, .f32⟩
  | .hbm, ⟨2, _⟩ => ⟨S8x1x2000, .f32⟩
  | .hbm, ⟨3, _⟩ => ⟨S16000x9, .i32⟩
  | .local _ .vmem, ⟨0, _⟩ => ⟨S2000x128, .f32⟩
  | .local _ .vmem, ⟨1, _⟩ => ⟨S2000x128, .f32⟩
  | .local _ .vmem, ⟨2, _⟩ => ⟨S400x128, .f32⟩
  | .local _ .vmem, ⟨3, _⟩ => ⟨S400x128, .f32⟩
  | .local _ .vmem, ⟨4, _⟩ => ⟨S1x1x2000, .f32⟩
  | .local _ .vmem, ⟨5, _⟩ => ⟨S1x1x2000, .f32⟩
  | .local _ .vmem, ⟨6, _⟩ => ⟨S400x1, .f32⟩
  | .local _ .vmem, ⟨7, _⟩ => ⟨S400x1, .f32⟩
  | .local _ .vmem, ⟨8, _⟩ => ⟨S400x9, .i32⟩
  | .local _ .vmem, ⟨9, _⟩ => ⟨S400x9, .i32⟩
  | _, _ => ⟨S16000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S400x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S400x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S400x9 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KnnRefIdeal.lean ====
abbrev S16000x128 : Shape := ⟨2, ![16000, 128]⟩
abbrev S16000x1 : Shape := ⟨2, ![16000, 1]⟩
abbrev S8x2000x128 : Shape := ⟨3, ![8, 2000, 128]⟩
abbrev S8x2000x1 : Shape := ⟨3, ![8, 2000, 1]⟩
abbrev S8x128x2000 : Shape := ⟨3, ![8, 128, 2000]⟩
abbrev S8x2000x2000 : Shape := ⟨3, ![8, 2000, 2000]⟩
abbrev S_ : Shape := ⟨0, ![]⟩
abbrev S8x1x2000 : Shape := ⟨3, ![8, 1, 2000]⟩
abbrev S8x2000x9 : Shape := ⟨3, ![8, 2000, 9]⟩
abbrev S8 : Shape := ⟨1, ![8]⟩
abbrev S8x1x1 : Shape := ⟨3, ![8, 1, 1]⟩
abbrev S16000x9 : Shape := ⟨2, ![16000, 9]⟩

abbrev nBuf : Space → Nat
  | .hbm => 25
  | .vmem => 0
  | .smem => 0
  | _ => 0

abbrev bufTy : (tb : Table) → Fin (tcTables nBuf tb) → BufTy
  | .hbm, ⟨0, _⟩ => ⟨S16000x128, .f32⟩
  | .hbm, ⟨1, _⟩ => ⟨S16000x1, .f32⟩
  | .hbm, ⟨2, _⟩ => ⟨S8x2000x128, .f32⟩
  | .hbm, ⟨3, _⟩ => ⟨S8x2000x1, .f32⟩
  | .hbm, ⟨4, _⟩ => ⟨S8x128x2000, .f32⟩
  | .hbm, ⟨5, _⟩ => ⟨S8x2000x2000, .f32⟩
  | .hbm, ⟨6, _⟩ => ⟨S_, .f32⟩
  | .hbm, ⟨7, _⟩ => ⟨S8x2000x2000, .f32⟩
  | .hbm, ⟨8, _⟩ => ⟨S8x2000x2000, .f32⟩
  | .hbm, ⟨9, _⟩ => ⟨S8x1x2000, .f32⟩
  | .hbm, ⟨10, _⟩ => ⟨S8x1x2000, .f32⟩
  | .hbm, ⟨11, _⟩ => ⟨S8x2000x2000, .f32⟩
  | .hbm, ⟨12, _⟩ => ⟨S8x2000x2000, .f32⟩
  | .hbm, ⟨13, _⟩ => ⟨S8x2000x2000, .f32⟩
  | .hbm, ⟨14, _⟩ => ⟨S8x2000x2000, .f32⟩
  | .hbm, ⟨15, _⟩ => ⟨S8x2000x9, .f32⟩
  | .hbm, ⟨16, _⟩ => ⟨S8x2000x9, .i32⟩
  | .hbm, ⟨17, _⟩ => ⟨S8, .i32⟩
  | .hbm, ⟨18, _⟩ => ⟨S8x1x1, .i32⟩
  | .hbm, ⟨19, _⟩ => ⟨S_, .i32⟩
  | .hbm, ⟨20, _⟩ => ⟨S8x1x1, .i32⟩
  | .hbm, ⟨21, _⟩ => ⟨S8x1x1, .i32⟩
  | .hbm, ⟨22, _⟩ => ⟨S8x2000x9, .i32⟩
  | .hbm, ⟨23, _⟩ => ⟨S8x2000x9, .i32⟩
  | .hbm, ⟨24, _⟩ => ⟨S16000x9, .i32⟩
  | _, _ => ⟨S16000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_values : Ref sig .tc := ⟨.hbm, 15, rfl⟩
abbrev main_indices : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Ann.lean ====
abbrev S16000x128 : Shape := ⟨2, ![16000, 128]⟩
abbrev S144000x128 : Shape := ⟨2, ![144000, 128]⟩
abbrev S128x256x1x3 : Shape := ⟨4, ![128, 256, 1, 3]⟩
abbrev S128 : Shape := ⟨1, ![128]⟩
abbrev S128x128x1x3 : Shape := ⟨4, ![128, 128, 1, 3]⟩
abbrev S128x256x3 : Shape := ⟨3, ![128, 256, 3]⟩
abbrev S128x128x3 : Shape := ⟨3, ![128, 128, 3]⟩
abbrev S3x128x128 : Shape := ⟨3, ![3, 128, 128]⟩
abbrev S16000x384 : Shape := ⟨2, ![16000, 384]⟩
abbrev S1000x128 : Shape := ⟨2, ![1000, 128]⟩
abbrev S1000x384 : Shape := ⟨2, ![1000, 384]⟩
abbrev S1x128x128 : Shape := ⟨3, ![1, 128, 128]⟩
abbrev S128x128 : Shape := ⟨2, ![128, 128]⟩
abbrev S16000x9x128 : Shape := ⟨3, ![16000, 9, 128]⟩
abbrev S1x128 : Shape := ⟨2, ![1, 128]⟩
abbrev S2x384 : Shape := ⟨2, ![2, 384]⟩
abbrev S1000x9x128 : Shape := ⟨3, ![1000, 9, 128]⟩
abbrev S1000x1x128 : Shape := ⟨3, ![1000, 1, 128]⟩
abbrev S1x384 : Shape := ⟨2, ![1, 384]⟩
abbrev S384 : Shape := ⟨1, ![384]⟩
abbrev S3x128 : Shape := ⟨2, ![3, 128]⟩
abbrev S_ : Shape := ⟨0, ![]⟩
abbrev S4x384 : Shape := ⟨2, ![4, 384]⟩
abbrev S384x128 : Shape := ⟨2, ![384, 128]⟩
abbrev S2x128 : Shape := ⟨2, ![2, 128]⟩

abbrev nBuf : Space → Nat
  | .hbm => 71
  | .vmem => 24
  | .smem => 0
  | _ => 0

abbrev bufTy : (tb : Table) → Fin (tcTables nBuf tb) → BufTy
  | .hbm, ⟨0, _⟩ => ⟨S16000x128, .f32⟩
  | .hbm, ⟨1, _⟩ => ⟨S144000x128, .f32⟩
  | .hbm, ⟨2, _⟩ => ⟨S128x256x1x3, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128x1x3, .f32⟩
  | .hbm, ⟨7, _⟩ => ⟨S128, .f32⟩
  | .hbm, ⟨8, _⟩ => ⟨S128x256x3, .f32⟩
  | .hbm, ⟨9, _⟩ => ⟨S128x128x3, .f32⟩
  | .hbm, ⟨10, _⟩ => ⟨S3x128x128, .f32⟩
  | .hbm, ⟨11, _⟩ => ⟨S128x128x3, .f32⟩
  | .hbm, ⟨12, _⟩ => ⟨S3x128x128, .f32⟩
  | .hbm, ⟨13, _⟩ => ⟨S16000x384, .f32⟩
  | .hbm, ⟨14, _⟩ => ⟨S16000x9x128, .f32⟩
  | .hbm, ⟨15, _⟩ => ⟨S1x128, .f32⟩
  | .hbm, ⟨16, _⟩ => ⟨S16000x384, .f32⟩
  | .hbm, ⟨17, _⟩ => ⟨S2x384, .f32⟩
  | .hbm, ⟨18, _⟩ => ⟨S1x384, .f32⟩
  | .hbm, ⟨19, _⟩ => ⟨S384, .f32⟩
  | .hbm, ⟨20, _⟩ => ⟨S3x128, .f32⟩
  | .hbm, ⟨21, _⟩ => ⟨S_, .f32⟩
  | .hbm, ⟨22, _⟩ => ⟨S128, .f32⟩
  | .hbm, ⟨23, _⟩ => ⟨S_, .f32⟩
  | .hbm, ⟨24, _⟩ => ⟨S128, .f32⟩
  | .hbm, ⟨25, _⟩ => ⟨S128, .f32⟩
  | .hbm, ⟨26, _⟩ => ⟨S1x384, .f32⟩
  | .hbm, ⟨27, _⟩ => ⟨S384, .f32⟩
  | .hbm, ⟨28, _⟩ => ⟨S3x128, .f32⟩
  | .hbm, ⟨29, _⟩ => ⟨S_, .f32⟩
  | .hbm, ⟨30, _⟩ => ⟨S128, .f32⟩
  | .hbm, ⟨31, _⟩ => ⟨S_, .f32⟩
  | .hbm, ⟨32, _⟩ => ⟨S128, .f32⟩
  | .hbm, ⟨33, _⟩ => ⟨S128, .f32⟩
  | .hbm, ⟨34, _⟩ => ⟨S128, .f32⟩
  | .hbm, ⟨35, _⟩ => ⟨S128, .f32⟩
  | .hbm, ⟨36, _⟩ => ⟨S1x128, .f32⟩
  | .hbm, ⟨37, _⟩ => ⟨S3x128, .f32⟩
  | .hbm, ⟨38, _⟩ => ⟨S384, .f32⟩
  | .hbm, ⟨39, _⟩ => ⟨S1x128, .f32⟩
  | .hbm, ⟨40, _⟩ => ⟨S3x128, .f32⟩
  | .hbm, ⟨41, _⟩ => ⟨S384, .f32⟩
  | .hbm, ⟨42, _⟩ => ⟨S1x128, .f32⟩
  | .hbm, ⟨43, _⟩ => ⟨S3x128, .f32⟩
  | .hbm, ⟨44, _⟩ => ⟨S384, .f32⟩
  | .hbm, ⟨45, _⟩ => ⟨S1x128, .f32⟩
  | .hbm, ⟨46, _⟩ => ⟨S3x128, .f32⟩
  | .hbm, ⟨47, _⟩ => ⟨S384, .f32⟩
  | .hbm, ⟨48, _⟩ => ⟨S1x384, .f32⟩
  | .hbm, ⟨49, _⟩ => ⟨S1x384, .f32⟩
  | .hbm, ⟨50, _⟩ => ⟨S1x384, .f32⟩
  | .hbm, ⟨51, _⟩ => ⟨S1x384, .f32⟩
  | .hbm, ⟨52, _⟩ => ⟨S4x384, .f32⟩
  | .hbm, ⟨53, _⟩ => ⟨S128x128x3, .f32⟩
  | .hbm, ⟨54, _⟩ => ⟨S3x128x128, .f32⟩
  | .hbm, ⟨55, _⟩ => ⟨S384x128, .f32⟩
  | .hbm, ⟨56, _⟩ => ⟨S1x128, .f32⟩
  | .hbm, ⟨57, _⟩ => ⟨S16000x128, .f32⟩
  | .hbm, ⟨58, _⟩ => ⟨S2x128, .f32⟩
  | .hbm, ⟨59, _⟩ => ⟨S1x128, .f32⟩
  | .hbm, ⟨60, _⟩ => ⟨S128, .f32⟩
  | .hbm, ⟨61, _⟩ => ⟨S_, .f32⟩
  | .hbm, ⟨62, _⟩ => ⟨S128, .f32⟩
  | .hbm, ⟨63, _⟩ => ⟨S128, .f32⟩
  | .hbm, ⟨64, _⟩ => ⟨S1x128, .f32⟩
  | .hbm, ⟨65, _⟩ => ⟨S128, .f32⟩
  | .hbm, ⟨66, _⟩ => ⟨S_, .f32⟩
  | .hbm, ⟨67, _⟩ => ⟨S128, .f32⟩
  | .hbm, ⟨68, _⟩ => ⟨S128, .f32⟩
  | .hbm, ⟨69, _⟩ => ⟨S128, .f32⟩
  | .hbm, ⟨70, _⟩ => ⟨S128, .f32⟩
  | .local _ .vmem, ⟨0, _⟩ => ⟨S1000x128, .f32⟩
  | .local _ .vmem, ⟨1, _⟩ => ⟨S1000x128, .f32⟩
  | .local _ .vmem, ⟨2, _⟩ => ⟨S3x128x128, .f32⟩
  | .local _ .vmem, ⟨3, _⟩ => ⟨S1000x384, .f32⟩
  | .local _ .vmem, ⟨4, _⟩ => ⟨S1000x384, .f32⟩
  | .local _ .vmem, ⟨5, _⟩ => ⟨S1000x128, .f32⟩
  | .local _ .vmem, ⟨6, _⟩ => ⟨S1000x128, .f32⟩
  | .local _ .vmem, ⟨7, _⟩ => ⟨S1000x9x128, .f32⟩
  | .local _ .vmem, ⟨8, _⟩ => ⟨S1000x9x128, .f32⟩
  | .local _ .vmem, ⟨9, _⟩ => ⟨S1000x384, .f32⟩
  | .local _ .vmem, ⟨10, _⟩ => ⟨S1000x384, .f32⟩
  | .local _ .vmem, ⟨11, _⟩ => ⟨S3x128x128, .f32⟩
  | .local _ .vmem, ⟨12, _⟩ => ⟨S1x128, .f32⟩
  | .local _ .vmem, ⟨13, _⟩ => ⟨S1000x384, .f32⟩
  | .local _ .vmem, ⟨14, _⟩ => ⟨S1000x384, .f32⟩
  | .local _ .vmem, ⟨15, _⟩ => ⟨S2x384, .f32⟩
  | .local _ .vmem, ⟨16, _⟩ => ⟨S1000x384, .f32⟩
  | .local _ .vmem, ⟨17, _⟩ => ⟨S1000x384, .f32⟩
  | .local _ .vmem, ⟨18, _⟩ => ⟨S4x384, .f32⟩
  | .local _ .vmem, ⟨19, _⟩ => ⟨S384x128, .f32⟩
  | .local _ .vmem, ⟨20, _⟩ => ⟨S1x128, .f32⟩
  | .local _ .vmem, ⟨21, _⟩ => ⟨S1000x128, .f32⟩
  | .local _ .vmem, ⟨22, _⟩ => ⟨S1000x128, .f32⟩
  | .local _ .vmem, ⟨23, _⟩ => ⟨S2x128, .f32⟩
  | _, _ => ⟨S16000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44_0 : Ref sig .tc := ⟨.hbm, 57, rfl⟩
abbrev main_v44_1 : Ref sig .tc := ⟨.hbm, 58, rfl⟩
abbrev main_v45 : Ref sig .tc := ⟨.hbm, 59, rfl⟩
abbrev main_v46 : Ref sig .tc := ⟨.hbm, 60, rfl⟩
abbrev main_cst_3 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_4 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc2_stg5_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc1_sem6_0 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem4_1 : DmaSem sig := 22
abbrev cc2_sem5_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x9x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S3x128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x384 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S2x384 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1000x384 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4x384 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S384x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S2x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]
-- ==== AnnRefIdeal.lean ====
abbrev S16000x128 : Shape := ⟨2, ![16000, 128]⟩
abbrev S144000x128 : Shape := ⟨2, ![144000, 128]⟩
abbrev S128x256x1x3 : Shape := ⟨4, ![128, 256, 1, 3]⟩
abbrev S128 : Shape := ⟨1, ![128]⟩
abbrev S128x128x1x3 : Shape := ⟨4, ![128, 128, 1, 3]⟩
abbrev S16000x1x128 : Shape := ⟨3, ![16000, 1, 128]⟩
abbrev S16000x9x128 : Shape := ⟨3, ![16000, 9, 128]⟩
abbrev S16000x9x256 : Shape := ⟨3, ![16000, 9, 256]⟩
abbrev S128x256x3 : Shape := ⟨3, ![128, 256, 3]⟩
abbrev S3x256x128 : Shape := ⟨3, ![3, 256, 128]⟩
abbrev S16000x3x3x256 : Shape := ⟨4, ![16000, 3, 3, 256]⟩
abbrev S16000x3x128 : Shape := ⟨3, ![16000, 3, 128]⟩
abbrev S1x1x128 : Shape := ⟨3, ![1, 1, 128]⟩
abbrev S_ : Shape := ⟨0, ![]⟩
abbrev S128x128x3 : Shape := ⟨3, ![128, 128, 3]⟩
abbrev S3x128x128 : Shape := ⟨3, ![3, 128, 128]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S16000x128, .f32⟩
  | .hbm, ⟨1, _⟩ => ⟨S144000x128, .f32⟩
  | .hbm, ⟨2, _⟩ => ⟨S128x256x1x3, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128x1x3, .f32⟩
  | .hbm, ⟨7, _⟩ => ⟨S128, .f32⟩
  | .hbm, ⟨8, _⟩ => ⟨S16000x1x128, .f32⟩
  | .hbm, ⟨9, _⟩ => ⟨S16000x9x128, .f32⟩
  | .hbm, ⟨10, _⟩ => ⟨S16000x9x128, .f32⟩
  | .hbm, ⟨11, _⟩ => ⟨S16000x9x128, .f32⟩
  | .hbm, ⟨12, _⟩ => ⟨S16000x9x256, .f32⟩
  | .hbm, ⟨13, _⟩ => ⟨S128x256x3, .f32⟩
  | .hbm, ⟨14, _⟩ => ⟨S3x256x128, .f32⟩
  | .hbm, ⟨15, _⟩ => ⟨S16000x3x3x256, .f32⟩
  | .hbm, ⟨16, _⟩ => ⟨S16000x3x128, .f32⟩
  | .hbm, ⟨17, _⟩ => ⟨S1x1x128, .f32⟩
  | .hbm, ⟨18, _⟩ => ⟨S16000x3x128, .f32⟩
  | .hbm, ⟨19, _⟩ => ⟨S16000x3x128, .f32⟩
  | .hbm, ⟨20, _⟩ => ⟨S_, .f32⟩
  | .hbm, ⟨21, _⟩ => ⟨S128, .f32⟩
  | .hbm, ⟨22, _⟩ => ⟨S_, .f32⟩
  | .hbm, ⟨23, _⟩ => ⟨S128, .f32⟩
  | .hbm, ⟨24, _⟩ => ⟨S128, .f32⟩
  | .hbm, ⟨25, _⟩ => ⟨S1x1x128, .f32⟩
  | .hbm, ⟨26, _⟩ => ⟨S16000x3x128, .f32⟩
  | .hbm, ⟨27, _⟩ => ⟨S16000x3x128, .f32⟩
  | .hbm, ⟨28, _⟩ => ⟨S16000x3x128, .f32⟩
  | .hbm, ⟨29, _⟩ => ⟨S_, .f32⟩
  | .hbm, ⟨30, _⟩ => ⟨S128, .f32⟩
  | .hbm, ⟨31, _⟩ => ⟨S_, .f32⟩
  | .hbm, ⟨32, _⟩ => ⟨S128, .f32⟩
  | .hbm, ⟨33, _⟩ => ⟨S128, .f32⟩
  | .hbm, ⟨34, _⟩ => ⟨S1x1x128, .f32⟩
  | .hbm, ⟨35, _⟩ => ⟨S16000x3x128, .f32⟩
  | .hbm, ⟨36, _⟩ => ⟨S16000x3x128, .f32⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S128, .f32⟩
  | .hbm, ⟨41, _⟩ => ⟨S1x1x128, .f32⟩
  | .hbm, ⟨42, _⟩ => ⟨S16000x3x128, .f32⟩
  | .hbm, ⟨43, _⟩ => ⟨S16000x3x128, .f32⟩
  | .hbm, ⟨44, _⟩ => ⟨S1x1x128, .f32⟩
  | .hbm, ⟨45, _⟩ => ⟨S16000x3x128, .f32⟩
  | .hbm, ⟨46, _⟩ => ⟨S16000x3x128, .f32⟩
  | .hbm, ⟨47, _⟩ => ⟨S1x1x128, .f32⟩
  | .hbm, ⟨48, _⟩ => ⟨S16000x3x128, .f32⟩
  | .hbm, ⟨49, _⟩ => ⟨S16000x3x128, .f32⟩
  | .hbm, ⟨50, _⟩ => ⟨S_, .f32⟩
  | .hbm, ⟨51, _⟩ => ⟨S16000x3x128, .f32⟩
  | .hbm, ⟨52, _⟩ => ⟨S16000x3x128, .f32⟩
  | .hbm, ⟨53, _⟩ => ⟨S128x128x3, .f32⟩
  | .hbm, ⟨54, _⟩ => ⟨S3x128x128, .f32⟩
  | .hbm, ⟨55, _⟩ => ⟨S16000x128, .f32⟩
  | .hbm, ⟨56, _⟩ => ⟨S1x128, .f32⟩
  | .hbm, ⟨57, _⟩ => ⟨S16000x128, .f32⟩
  | .hbm, ⟨58, _⟩ => ⟨S16000x128, .f32⟩
  | .hbm, ⟨59, _⟩ => ⟨S_, .f32⟩
  | .hbm, ⟨60, _⟩ => ⟨S128, .f32⟩
  | .hbm, ⟨61, _⟩ => ⟨S_, .f32⟩
  | .hbm, ⟨62, _⟩ => ⟨S128, .f32⟩
  | .hbm, ⟨63, _⟩ => ⟨S128, .f32⟩
  | .hbm, ⟨64, _⟩ => ⟨S1x128, .f32⟩
  | .hbm, ⟨65, _⟩ => ⟨S16000x128, .f32⟩
  | .hbm, ⟨66, _⟩ => ⟨S16000x128, .f32⟩
  | .hbm, ⟨67, _⟩ => ⟨S16000x128, .f32⟩
  | .hbm, ⟨68, _⟩ => ⟨S_, .f32⟩
  | .hbm, ⟨69, _⟩ => ⟨S128, .f32⟩
  | .hbm, ⟨70, _⟩ => ⟨S_, .f32⟩
  | .hbm, ⟨71, _⟩ => ⟨S128, .f32⟩
  | .hbm, ⟨72, _⟩ => ⟨S128, .f32⟩
  | _, _ => ⟨S16000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_call0_cst : Ref sig .tc := ⟨.hbm, 50, rfl⟩
abbrev main_call0_v0 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_4 : Ref sig .tc := ⟨.hbm, 59, rfl⟩
abbrev main_v44 : Ref sig .tc := ⟨.hbm, 60, rfl⟩
abbrev main_cst_5 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_6 : Ref sig .tc := ⟨.hbm, 68, rfl⟩
abbrev main_v51 : Ref sig .tc := ⟨.hbm, 69, rfl⟩
abbrev main_cst_7 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]
-- ==== Final.lean ====
abbrev S16000x128 : Shape := ⟨2, ![16000, 128]⟩
abbrev S128 : Shape := ⟨1, ![128]⟩
abbrev S2x128x1x1 : Shape := ⟨4, ![2, 128, 1, 1]⟩
abbrev S2 : Shape := ⟨1, ![2]⟩
abbrev S8x1x2000x4 : Shape := ⟨4, ![8, 1, 2000, 4]⟩
abbrev S16000x4 : Shape := ⟨2, ![16000, 4]⟩
abbrev S1x128 : Shape := ⟨2, ![1, 128]⟩
abbrev S4x128 : Shape := ⟨2, ![4, 128]⟩
abbrev S2x128 : Shape := ⟨2, ![2, 128]⟩
abbrev S128x2 : Shape := ⟨2, ![128, 2]⟩
abbrev S1x2 : Shape := ⟨2, ![1, 2]⟩
abbrev S8x9x9 : Shape := ⟨3, ![8, 9, 9]⟩
abbrev S2000x128 : Shape := ⟨2, ![2000, 128]⟩
abbrev S2000x4 : Shape := ⟨2, ![2000, 4]⟩
abbrev S1x9x9 : Shape := ⟨3, ![1, 9, 9]⟩
abbrev S2000x2 : Shape := ⟨2, ![2000, 2]⟩
abbrev S2000x1 : Shape := ⟨2, ![2000, 1]⟩
abbrev S1x2000x1 : Shape := ⟨3, ![1, 2000, 1]⟩
abbrev S1 : Shape := ⟨1, ![1]⟩
abbrev S1x1x1 : Shape := ⟨3, ![1, 1, 1]⟩
abbrev S2000x9 : Shape := ⟨2, ![2000, 9]⟩
abbrev S9x9 : Shape := ⟨2, ![9, 9]⟩

abbrev nBuf : Space → Nat
  | .hbm => 18
  | .vmem => 9
  | .smem => 0
  | _ => 0

abbrev bufTy : (tb : Table) → Fin (tcTables nBuf tb) → BufTy
  | .hbm, ⟨0, _⟩ => ⟨S16000x128, .f32⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S2x128x1x1, .f32⟩
  | .hbm, ⟨6, _⟩ => ⟨S2, .f32⟩
  | .hbm, ⟨7, _⟩ => ⟨S8x1x2000x4, .f32⟩
  | .hbm, ⟨8, _⟩ => ⟨S16000x4, .f32⟩
  | .hbm, ⟨9, _⟩ => ⟨S1x128, .f32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S4x128, .f32⟩
  | .hbm, ⟨14, _⟩ => ⟨S2x128, .f32⟩
  | .hbm, ⟨15, _⟩ => ⟨S128x2, .f32⟩
  | .hbm, ⟨16, _⟩ => ⟨S1x2, .f32⟩
  | .hbm, ⟨17, _⟩ => ⟨S8x9x9, .f32⟩
  | .local _ .vmem, ⟨0, _⟩ => ⟨S2000x128, .f32⟩
  | .local _ .vmem, ⟨1, _⟩ => ⟨S2000x128, .f32⟩
  | .local _ .vmem, ⟨2, _⟩ => ⟨S4x128, .f32⟩
  | .local _ .vmem, ⟨3, _⟩ => ⟨S128x2, .f32⟩
  | .local _ .vmem, ⟨4, _⟩ => ⟨S1x2, .f32⟩
  | .local _ .vmem, ⟨5, _⟩ => ⟨S2000x4, .f32⟩
  | .local _ .vmem, ⟨6, _⟩ => ⟨S2000x4, .f32⟩
  | .local _ .vmem, ⟨7, _⟩ => ⟨S1x9x9, .f32⟩
  | .local _ .vmem, ⟨8, _⟩ => ⟨S1x9x9, .f32⟩
  | _, _ => ⟨S16000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x9x9 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FinalRefIdeal.lean ====
abbrev S16000x128 : Shape := ⟨2, ![16000, 128]⟩
abbrev S128 : Shape := ⟨1, ![128]⟩
abbrev S2x128x1x1 : Shape := ⟨4, ![2, 128, 1, 1]⟩
abbrev S2 : Shape := ⟨1, ![2]⟩
abbrev S8x1x2000x4 : Shape := ⟨4, ![8, 1, 2000, 4]⟩
abbrev S1x128 : Shape := ⟨2, ![1, 128]⟩
abbrev S_ : Shape := ⟨0, ![]⟩
abbrev S2x128 : Shape := ⟨2, ![2, 128]⟩
abbrev S128x2 : Shape := ⟨2, ![128, 2]⟩
abbrev S16000x2 : Shape := ⟨2, ![16000, 2]⟩
abbrev S1x2 : Shape := ⟨2, ![1, 2]⟩
abbrev S8x2000x2 : Shape := ⟨3, ![8, 2000, 2]⟩
abbrev S8x2000x1 : Shape := ⟨3, ![8, 2000, 1]⟩
abbrev S8x2000 : Shape := ⟨2, ![8, 2000]⟩
abbrev S8 : Shape := ⟨1, ![8]⟩
abbrev S8x1 : Shape := ⟨2, ![8, 1]⟩
abbrev S8x2000x4 : Shape := ⟨3, ![8, 2000, 4]⟩
abbrev S8x2000x9 : Shape := ⟨3, ![8, 2000, 9]⟩
abbrev S8x9x2000 : Shape := ⟨3, ![8, 9, 2000]⟩
abbrev S8x9x9 : Shape := ⟨3, ![8, 9, 9]⟩

abbrev nBuf : Space → Nat
  | .hbm => 86
  | .vmem => 0
  | .smem => 0
  | _ => 0

abbrev bufTy : (tb : Table) → Fin (tcTables nBuf tb) → BufTy
  | .hbm, ⟨0, _⟩ => ⟨S16000x128, .f32⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S2x128x1x1, .f32⟩
  | .hbm, ⟨6, _⟩ => ⟨S2, .f32⟩
  | .hbm, ⟨7, _⟩ => ⟨S8x1x2000x4, .f32⟩
  | .hbm, ⟨8, _⟩ => ⟨S1x128, .f32⟩
  | .hbm, ⟨9, _⟩ => ⟨S16000x128, .f32⟩
  | .hbm, ⟨10, _⟩ => ⟨S16000x128, .f32⟩
  | .hbm, ⟨11, _⟩ => ⟨S_, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S1x128, .f32⟩
  | .hbm, ⟨16, _⟩ => ⟨S16000x128, .f32⟩
  | .hbm, ⟨17, _⟩ => ⟨S16000x128, .f32⟩
  | .hbm, ⟨18, _⟩ => ⟨S1x128, .f32⟩
  | .hbm, ⟨19, _⟩ => ⟨S16000x128, .f32⟩
  | .hbm, ⟨20, _⟩ => ⟨S16000x128, .f32⟩
  | .hbm, ⟨21, _⟩ => ⟨S1x128, .f32⟩
  | .hbm, ⟨22, _⟩ => ⟨S16000x128, .f32⟩
  | .hbm, ⟨23, _⟩ => ⟨S16000x128, .f32⟩
  | .hbm, ⟨24, _⟩ => ⟨S_, .f32⟩
  | .hbm, ⟨25, _⟩ => ⟨S16000x128, .f32⟩
  | .hbm, ⟨26, _⟩ => ⟨S16000x128, .f32⟩
  | .hbm, ⟨27, _⟩ => ⟨S2x128, .f32⟩
  | .hbm, ⟨28, _⟩ => ⟨S128x2, .f32⟩
  | .hbm, ⟨29, _⟩ => ⟨S16000x2, .f32⟩
  | .hbm, ⟨30, _⟩ => ⟨S1x2, .f32⟩
  | .hbm, ⟨31, _⟩ => ⟨S16000x2, .f32⟩
  | .hbm, ⟨32, _⟩ => ⟨S16000x2, .f32⟩
  | .hbm, ⟨33, _⟩ => ⟨S8x2000x2, .f32⟩
  | .hbm, ⟨34, _⟩ => ⟨S8x2000x1, .f32⟩
  | .hbm, ⟨35, _⟩ => ⟨S8x2000, .f32⟩
  | .hbm, ⟨36, _⟩ => ⟨S8x2000, .f32⟩
  | .hbm, ⟨37, _⟩ => ⟨S8x2000x1, .f32⟩
  | .hbm, ⟨38, _⟩ => ⟨S8x2000, .f32⟩
  | .hbm, ⟨39, _⟩ => ⟨S8x2000, .f32⟩
  | .hbm, ⟨40, _⟩ => ⟨S8x2000, .f32⟩
  | .hbm, ⟨41, _⟩ => ⟨S_, .f32⟩
  | .hbm, ⟨42, _⟩ => ⟨S8x2000, .f32⟩
  | .hbm, ⟨43, _⟩ => ⟨S8x2000, .f32⟩
  | .hbm, ⟨44, _⟩ => ⟨S_, .f32⟩
  | .hbm, ⟨45, _⟩ => ⟨S8x2000, .f32⟩
  | .hbm, ⟨46, _⟩ => ⟨S8x2000, .f32⟩
  | .hbm, ⟨47, _⟩ => ⟨S8x2000, .f32⟩
  | .hbm, ⟨48, _⟩ => ⟨S_, .f32⟩
  | .hbm, ⟨49, _⟩ => ⟨S8, .f32⟩
  | .hbm, ⟨50, _⟩ => ⟨S8x1, .f32⟩
  | .hbm, ⟨51, _⟩ => ⟨S_, .f32⟩
  | .hbm, ⟨52, _⟩ => ⟨S8x1, .f32⟩
  | .hbm, ⟨53, _⟩ => ⟨S8x1, .f32⟩
  | .hbm, ⟨54, _⟩ => ⟨S8x2000, .f32⟩
  | .hbm, ⟨55, _⟩ => ⟨S8x2000, .f32⟩
  | .hbm, ⟨56, _⟩ => ⟨S8x2000x4, .f32⟩
  | .hbm, ⟨57, _⟩ => ⟨S8x2000x1, .f32⟩
  | .hbm, ⟨58, _⟩ => ⟨S8x2000, .f32⟩
  | .hbm, ⟨59, _⟩ => ⟨S8x2000x1, .f32⟩
  | .hbm, ⟨60, _⟩ => ⟨S8x2000, .f32⟩
  | .hbm, ⟨61, _⟩ => ⟨S8x2000x1, .f32⟩
  | .hbm, ⟨62, _⟩ => ⟨S8x2000, .f32⟩
  | .hbm, ⟨63, _⟩ => ⟨S8x2000x1, .f32⟩
  | .hbm, ⟨64, _⟩ => ⟨S8x2000, .f32⟩
  | .hbm, ⟨65, _⟩ => ⟨S8x2000, .f32⟩
  | .hbm, ⟨66, _⟩ => ⟨S8x2000, .f32⟩
  | .hbm, ⟨67, _⟩ => ⟨S8x2000, .f32⟩
  | .hbm, ⟨68, _⟩ => ⟨S8x2000, .f32⟩
  | .hbm, ⟨69, _⟩ => ⟨S_, .f32⟩
  | .hbm, ⟨70, _⟩ => ⟨S8x2000, .f32⟩
  | .hbm, ⟨71, _⟩ => ⟨S8x2000x1, .f32⟩
  | .hbm, ⟨72, _⟩ => ⟨S8x2000x1, .f32⟩
  | .hbm, ⟨73, _⟩ => ⟨S8x2000x1, .f32⟩
  | .hbm, ⟨74, _⟩ => ⟨S8x2000x1, .f32⟩
  | .hbm, ⟨75, _⟩ => ⟨S8x2000x1, .f32⟩
  | .hbm, ⟨76, _⟩ => ⟨S8x2000x1, .f32⟩
  | .hbm, ⟨77, _⟩ => ⟨S8x2000x1, .f32⟩
  | .hbm, ⟨78, _⟩ => ⟨S8x2000x1, .f32⟩
  | .hbm, ⟨79, _⟩ => ⟨S8x2000x1, .f32⟩
  | .hbm, ⟨80, _⟩ => ⟨S8x2000x9, .f32⟩
  | .hbm, ⟨81, _⟩ => ⟨S8x9x2000, .f32⟩
  | .hbm, ⟨82, _⟩ => ⟨S8x2000x1, .f32⟩
  | .hbm, ⟨83, _⟩ => ⟨S8x2000x9, .f32⟩
  | .hbm, ⟨84, _⟩ => ⟨S8x2000x9, .f32⟩
  | .hbm, ⟨85, _⟩ => ⟨S8x9x9, .f32⟩
  | _, _ => ⟨S16000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_cst : Ref sig .tc := ⟨.hbm, 24, rfl⟩
abbrev main_call0_v0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_0 : Ref sig .tc := ⟨.hbm, 41, rfl⟩
abbrev main_v30 : Ref sig .tc := ⟨.hbm, 42, rfl⟩
abbrev main_v31 : Ref sig .tc := ⟨.hbm, 43, rfl⟩
abbrev main_cst_1 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_2 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_4 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩

abbrev nD : Nat := 1
abbrev τ : Topo := Topo.v7x

variable {F : FTy → Type} [FloatOps F]
-- ==== Proof.TileIdeal.lean ====
/-
  One vector subcore's task of the SparseCore gather. The task of subcore `s` of SparseCore `c` has number `w = 2 s + c`
  and serves the 600-row chunks `w, w + 32, w + 64, …` of the result, below chunk 240: it fetches the chunk's 600 row
  numbers into its index scratch, streams those rows of the table into its row scratch by the indirect gather, and
  copies them out to the chunk of the result. The loop's invariant says WHICH rows of the task's part of the result
  already hold the gathered rows (those below row `19200 t` after `t` trips) and that the rest is as it was.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.TileIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev 𝒱₀ : Variants := Variants.none

/-- The ghost state: the launch handshakes' rounds, and the counters of the copies in flight. -/
abbrev UU : Type := URounds (GSem nD τ sig) ℕ × Counters

local notation "𝕄" => MT nD τ sig (HIx 1) (Elt F) ℕ UU ℕ

/-! ## The arrays and the scratch buffers -/

/-- The table, the flat list of row numbers, and the result. -/
abbrev fLoc (d : Dev nD) : Loc nD τ sig := (SparseCore.T d).loc main_arg0
abbrev iLoc (d : Dev nD) : Loc nD τ sig := (SparseCore.T d).loc main_v0
abbrev oLoc (d : Dev nD) : Loc nD τ sig := (SparseCore.T d).loc main_v1

abbrev fV : Memref sig .scVector .hbm S16000x128 .f32 := Memref.whole main_arg0_scv
abbrev iV : Memref sig .scVector .hbm S144000 .i32 := Memref.whole main_v0_scv
abbrev oV : Memref sig .scVector .hbm S144000x128 .f32 := Memref.whole main_v1_scv
abbrev sV : Memref sig .scVector .vmem S600 .i32 := Memref.whole cc0_scratch0
abbrev rV : Memref sig .scVector .vmem S600x128 .f32 := Memref.whole cc0_scratch1

/-! ## The gathered rows -/

/-- The table's element at the row a word names (the last row, for a word past it) and at column `j`. -/
def tabIdx (w : BitVec 32) (j : Fin 128) : S16000x128.Idx
  | 0 => (⟨min w.toNat 15999, by omega⟩ : Fin 16000)
  | 1 => j

/-- The place of the list that row `i` of the result reads. -/
def listIdx (i : Fin 144000) : S144000.Idx
  | 0 => i

/-- The gathered rows: row `i` is the table's row that entry `i` of the list names. -/
def rowsOf (f : S16000x128.Idx → Elt F .f32) (ix : S144000.Idx → BitVec 32) : S144000x128.Idx → Elt F .f32 :=
  fun i => f (tabIdx (ix (listIdx (i 0))) (i 1))

/-- The result after `t` trips: rows below `19200 t` gathered, the others as they were. -/
def upTo (f : S16000x128.Idx → Elt F .f32) (ix : S144000.Idx → BitVec 32) (o : S144000x128.Idx → Elt F .f32) (t : ℕ) :
    S144000x128.Idx → Elt F .f32 :=
  fun i => if (i 0).val < 19200 * t then rowsOf f ix i else o i

/-- The part of the result that task number `w` of the 32 serves: the chunks `w, w + 32, …`. -/
def part (w : ℕ) : Finset S144000x128.Idx := Finset.univ.filter fun i => (i 0).val / 600 % 32 = w

theorem mem_part {w : ℕ} {i : S144000x128.Idx} : i ∈ part w ↔ (i 0).val / 600 % 32 = w := by simp [part]

/-! ## The task -/

variable [FloatOps F]
variable (fv : (d : Dev nD) → Buf (Elt F) (fLoc d)) (iv : (d : Dev nD) → Buf (Elt F) (iLoc d)) (ov : (d : Dev nD) → Buf (Elt F) (oLoc d))

/-- What the proof asks of the list: every entry names a row of the table. -/
def InRows : Prop := ∀ (d : Dev nD) (j : S144000.Idx), (iv d j : BitVec 32).toNat < 16000

variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The task's number. -/
abbrev wid (L : grid0.Coords) : ℕ := 2 * (L 1).val + (L 0).val

abbrev oRect (t : Fin k0_t1_loop.trips) (h : k0_cond1 L t = 1#1) : Rect S144000x128 := Rect.unit (s := S144000x128) (k0_off2 L t) S600x128.size (k0_off2_inb L t h)
abbrev iRect (t : Fin k0_t1_loop.trips) (h : k0_cond1 L t = 1#1) : Rect S144000 := Rect.unit (s := S144000) (k0_off1 L t) S600.size (k0_off1_inb L t h)
/-- The chunk of the result and of the list that trip `t` serves, and the whole table, as the task addresses them. -/
abbrev oChunk (t : Fin k0_t1_loop.trips) (h : k0_cond1 L t = 1#1) : Memref sig .scVector .hbm S600x128 .f32 := oV.slice (oRect L t h) (fun _ => rfl)
abbrev iChunk (t : Fin k0_t1_loop.trips) (h : k0_cond1 L t = 1#1) : Memref sig .scVector .hbm S600 .i32 := iV.slice (iRect L t h) (fun _ => rfl)
abbrev fAll : Memref sig .scVector .hbm S16000x128 .f32 := fV.slice (Rect.unit (s := S16000x128) ![0, 0] S16000x128.size inb_S16000x128_S16000x128_0_0) (fun _ => rfl)

omit [FloatOps F] in
theorem trips_eq : k0_t1_loop.trips = 8 := by decide

omit [FloatOps F] in
/-- A trip is taken exactly when its chunk is below 240. -/
theorem cond_iff : ∀ (t : Fin k0_t1_loop.trips), k0_cond1 L t = 1#1 ↔ wid L + 32 * t.val < 240 := by
  have h : ∀ (a : Fin 2) (b : Fin 16) (t : Fin k0_t1_loop.trips), k0_cond1 (fun | 0 => a | 1 => b) t = 1#1 ↔ (2 * b.val + a.val) + 32 * t.val < 240 := by decide +kernel
  intro t
  have e : L = (fun | 0 => L 0 | 1 => L 1) := by funext a; match a with | 0 => rfl | 1 => rfl
  rw [e]; exact h (L 0) (L 1) t

omit [FloatOps F] in
theorem mem_oChunk (t : Fin k0_t1_loop.trips) (h : k0_cond1 L t = 1#1) (i : S144000x128.Idx) :
    i ∈ (oChunk L t h).view.set ↔ 19200 * t.val + 600 * wid L ≤ (i 0).val ∧ (i 0).val < 19200 * t.val + 600 * wid L + 600 := by
  show i ∈ ((View.whole (main_v1_scv : Ref sig .scVector)).slice (oRect L t h)).set ↔ _
  rw [View.set_slice_whole, Rect.mem_set_unit, k0_off2_eq]
  unfold wid
  have h1 : (i 1).val < 128 := (i 1).isLt
  constructor
  · intro H; have := H 0; simp only [Matrix.cons_val_zero] at this
    change _ ∧ _ < _ + 600 at this; omega
  · intro H a
    match a with
    | 0 => simp only [Matrix.cons_val_zero]; change _ ∧ _ < _ + 600; omega
    | 1 => exact ⟨Nat.zero_le _, by change (i 1).val < 0 + 128; omega⟩

omit [FloatOps F] in
theorem oChunk_subset (t : Fin k0_t1_loop.trips) (h : k0_cond1 L t = 1#1) : (oChunk L t h).view.set ⊆ part (wid L) := by
  intro i hi
  rw [mem_oChunk] at hi; rw [mem_part]
  have h0 := (L 0).isLt; have h1 := (L 1).isLt
  change (L 0).val < 2 at h0; change (L 1).val < 16 at h1
  unfold wid at *
  omega

/-! ### The values a trip moves -/

omit [FloatOps F] in
/-- The list entry that place `k` of the fetched chunk holds. -/
theorem iChunk_read (t : Fin k0_t1_loop.trips) (h : k0_cond1 L t = 1#1) (f : S144000.Idx → BitVec 32) (x : S600.Idx) (i : Fin 144000)
    (hi : i.val = 19200 * t.val + 600 * wid L + (x 0).val) : (iChunk L t h).view.read (Elt F) f x = f (listIdx i) := by
  refine (View.read_apply _ _).trans ((cast_eq _ _).trans (congrArg f ?_))
  funext a
  match a with
  | 0 =>
    refine Fin.ext ?_
    change (k0_off1 L t) 0 + 1 * (x 0).val = i.val
    rw [k0_off1_eq, hi]; simp only [Matrix.cons_val_zero]; unfold wid; omega

omit [FloatOps F] in
/-- The list's fetched words are in range of the table. -/
theorem chunk_inRows (hin : InRows (F := F) iv) (t : Fin k0_t1_loop.trips) (h : k0_cond1 L t = 1#1) (fs : S600.Idx → Elt F .i32) (pay : S600.Idx → Elt F .i32)
    (hpay : pay = (iChunk L t h).view.read (Elt F) (iv d)) :
    ∀ x, ((sV).view.read (Elt F) (View.write (Elt F) (sV).view fs pay Finset.univ) x).toNat < S16000x128.size gathers_S16000x128_S600x128.axis := by
  subst hpay; intro x
  rw [View.read_write_univ]
  exact hin d _

omit [FloatOps F] in
/-- What trip `t` leaves in its chunk of the result: the gathered rows. -/
theorem chunk_value (t : Fin k0_t1_loop.trips) (h : k0_cond1 L t = 1#1) (f : S16000x128.Idx → Elt F .f32) (ix : S144000.Idx → BitVec 32)
    (o : S144000x128.Idx → Elt F .f32) (fs : S600.Idx → Elt F .i32) (fr : S600x128.Idx → Elt F .f32)
    (hin : ∀ x, ((sV).view.read (Elt F) (View.write (Elt F) (sV).view fs ((iChunk L t h).view.read (Elt F) ix) Finset.univ) x).toNat
      < S16000x128.size gathers_S16000x128_S600x128.axis)
    (hn : S600.numel = S600x128.size gathers_S16000x128_S600x128.axis') (i : S144000x128.Idx) (hi : i ∈ (oChunk L t h).view.set) :
    (oChunk L t h).view.writes (Elt F) o [⟨Rect.whole S600x128, ((rV).view.read (Elt F) ((rV).view.write (Elt F) fr
      (SparseCore.gatherPayload gathers_S16000x128_S600x128 (fAll.view.read (Elt F) f)
        (SparseCore.rows ((sV).view.read (Elt F) (View.write (Elt F) (sV).view fs ((iChunk L t h).view.read (Elt F) ix) Finset.univ)) hn hin)) Finset.univ))⟩] i
      = rowsOf f ix i := by
  have hi' := (mem_oChunk L t h i).mp hi
  obtain ⟨x, -, rfl⟩ := Finset.mem_map.mp hi
  rw [View.writes_singleton, show (oChunk L t h).view.emb x = ((oChunk L t h).view.slice (Rect.whole S600x128)).emb x from
      congrArg (oChunk L t h).view.emb (Rect.emb_whole_apply S600x128 x).symm,
    View.write_emb_of_mem _ _ (Finset.mem_univ x), View.read_write_univ]
  rw [show ((oChunk L t h).view.slice (Rect.whole S600x128)).emb x = (oChunk L t h).view.emb x from
      congrArg (oChunk L t h).view.emb (Rect.emb_whole_apply S600x128 x)]
  refine (cast_eq _ _).trans ?_
  unfold SparseCore.gatherPayload
  have hx : ((oChunk L t h).view.emb x 0).val = 19200 * t.val + 600 * wid L + (x 0).val := by
    change (k0_off2 L t) 0 + 1 * (x 0).val = _
    rw [k0_off2_eq]; simp only [Matrix.cons_val_zero]; unfold wid; omega
  have hx1 : ((oChunk L t h).view.emb x 1).val = (x 1).val := by
    change (k0_off2 L t) 1 + 1 * (x 1).val = _
    rw [k0_off2_eq]; simp
  refine (View.read_apply _ _).trans ((cast_eq _ _).trans ?_)
  unfold rowsOf
  refine congrArg f ?_
  funext a
  match a with
  | 0 =>
    refine Fin.ext ?_
    change 0 + 1 * (Shape.Gathers.idx gathers_S16000x128_S600x128 _ x 0).val = min _ 15999
    have e := congrArg Fin.val (Shape.Gathers.idx_axis gathers_S16000x128_S600x128
      (SparseCore.rows ((sV).view.read (Elt F) (View.write (Elt F) (sV).view fs ((iChunk L t h).view.read (Elt F) ix) Finset.univ)) hn hin) x)
    rw [Nat.zero_add, Nat.one_mul]
    refine e.trans ?_
    have hb := hin (S600.rowMajor.symm ((x gathers_S16000x128_S600x128.axis').cast hn.symm))
    unfold SparseCore.rows
    dsimp only
    rw [View.read_write_univ] at hb ⊢
    have hs : (S600.rowMajor.symm ((x gathers_S16000x128_S600x128.axis').cast hn.symm) 0).val = (x 0).val :=
      (Shape.rowMajor_val_one (S600.rowMajor.symm ((x gathers_S16000x128_S600x128.axis').cast hn.symm))).symm.trans
        (congrArg Fin.val (Equiv.apply_symm_apply S600.rowMajor _))
    have hk : ((oChunk L t h).view.emb x 0).val
        = 19200 * t.val + 600 * wid L + (S600.rowMajor.symm ((x gathers_S16000x128_S600x128.axis').cast hn.symm) 0).val := by
      rw [hs]; exact hx
    rw [iChunk_read L t h ix _ ((oChunk L t h).view.emb x 0) hk] at hb ⊢
    exact (Nat.min_eq_left (Nat.le_of_lt_succ hb)).symm
  | 1 =>
    refine Fin.ext ?_
    change 0 + 1 * (Shape.Gathers.idx gathers_S16000x128_S600x128 _ x 1).val = ((oChunk L t h).view.emb x 1).val
    rw [hx1, Shape.Gathers.idx_of_ne _ _ _ 1 Nat.one_ne_zero, Nat.zero_add, Nat.one_mul]; rfl

omit [FloatOps F] in
/-- Off the served chunk, one trip changes nothing of the task's part. -/
theorem upTo_succ_off (t : Fin k0_t1_loop.trips) (h : k0_cond1 L t = 1#1) (f : S16000x128.Idx → Elt F .f32) (ix : S144000.Idx → BitVec 32)
    (o : S144000x128.Idx → Elt F .f32) (i : S144000x128.Idx) (hi : i ∈ part (wid L) \ (oChunk L t h).view.set) :
    upTo f ix o t.val i = upTo f ix o (t.val + 1) i := by
  rw [Finset.mem_sdiff, mem_part, mem_oChunk] at hi
  unfold upTo
  have : (i 0).val < 19200 * t.val ↔ (i 0).val < 19200 * (t.val + 1) := by omega
  simp only [this]

omit [FloatOps F] in
/-- The served chunk's rows are below the next trip's bound. -/
theorem upTo_succ_on (t : Fin k0_t1_loop.trips) (h : k0_cond1 L t = 1#1) (f : S16000x128.Idx → Elt F .f32) (ix : S144000.Idx → BitVec 32)
    (o : S144000x128.Idx → Elt F .f32) (i : S144000x128.Idx) (hi : i ∈ (oChunk L t h).view.set) :
    upTo f ix o (t.val + 1) i = rowsOf f ix i := by
  have h0 := (L 0).isLt; have h1 := (L 1).isLt
  change (L 0).val < 2 at h0; change (L 1).val < 16 at h1
  rw [mem_oChunk] at hi
  unfold upTo wid at *
  rw [if_pos (by omega)]

omit [FloatOps F] in
/-- A trip not taken has no chunk: nothing of the task's part changes. -/
theorem upTo_succ_skip (t : Fin k0_t1_loop.trips) (h : ¬ k0_cond1 L t = 1#1) (f : S16000x128.Idx → Elt F .f32) (ix : S144000.Idx → BitVec 32)
    (o : S144000x128.Idx → Elt F .f32) (i : S144000x128.Idx) (hi : i ∈ part (wid L)) :
    upTo f ix o t.val i = upTo f ix o (t.val + 1) i := by
  rw [cond_iff] at h
  rw [mem_part] at hi
  have hlt : (i 0).val < 144000 := (i 0).isLt
  unfold upTo
  have : (i 0).val < 19200 * t.val ↔ (i 0).val < 19200 * (t.val + 1) := by omega
  simp only [this]

omit [FloatOps F] in
/-- Before the first trip nothing is gathered, after the last everything is. -/
theorem upTo_zero (f : S16000x128.Idx → Elt F .f32) (ix : S144000.Idx → BitVec 32) (o : S144000x128.Idx → Elt F .f32) : upTo f ix o 0 = o :=
  funext fun _ => if_neg (by omega)
omit [FloatOps F] in
theorem upTo_last (f : S16000x128.Idx → Elt F .f32) (ix : S144000.Idx → BitVec 32) (o : S144000x128.Idx → Elt F .f32) : upTo f ix o k0_t1_loop.trips = rowsOf f ix :=
  funext fun i => if_pos (by have : (i 0).val < 144000 := (i 0).isLt; rw [trips_eq]; omega)

/-! ### One trip -/

omit [FloatOps F] in
theorem pts_sV_set (f : Buf (Elt F) ((thr d L).loc cc0_scratch0)) :
    ((sV).view.loc (thr d L) ↦{fullShare} f : sProp 𝕄) = (sV).view.loc (thr d L) ↦[(sV).view.set]{fullShare} f := by
  rw [show (sV).view.set = Finset.univ from View.set_whole _]
omit [FloatOps F] in
theorem pts_rV_set (f : Buf (Elt F) ((thr d L).loc cc0_scratch1)) :
    ((rV).view.loc (thr d L) ↦{fullShare} f : sProp 𝕄) = (rV).view.loc (thr d L) ↦[(rV).view.set]{fullShare} f := by
  rw [show (rV).view.set = Finset.univ from View.set_whole _]

omit [FloatOps F] in
theorem pts_oChunk (t : Fin k0_t1_loop.trips) (h : k0_cond1 L t = 1#1) (f : Buf (Elt F) (oLoc d)) :
    ((oV).view.loc (thr d L) ↦[(oChunk L t h).view.set]{fullShare} f : sProp 𝕄) = (oChunk L t h).view.loc (thr d L) ↦[(oChunk L t h).view.set]{fullShare} f := rfl

/-- The loop's invariant before trip `t`: the task's shares `q` of the table and of the list; its part of the result,
    gathered below row `19200 t`; the two scratch buffers, at anything; its three semaphores at zero. -/
def inv (q : PosShare TreeShare) (O : CellTallies nD τ sig (HIx 1)) (W : Waits sig (HIx 1)) (t : Nat) (_ : PUnit) : sProp 𝕄 :=
  iprop(Transfers.MayWaits (thr d L) (none : HIx 1) O
    ∗ ((fV).view.loc (thr d L) ↦{q} fv d)
    ∗ ((iV).view.loc (thr d L) ↦{q} iv d)
    ∗ ((oV).view.loc (thr d L) ↦[part (wid L)]{fullShare} upTo (fv d) (iv d) (ov d) t)
    ∗ (∃ f, (sV).view.loc (thr d L) ↦{fullShare} f)
    ∗ (∃ f, (rV).view.loc (thr d L) ↦{fullShare} f)
    ∗ semVal (thr d L, SemLoc.dma cc0_scratch2.sem) 0
    ∗ semVal (thr d L, SemLoc.dma cc0_scoped0.sem) 0
    ∗ semVal (thr d L, SemLoc.dma cc0_scoped1.sem) 0
    ∗ ∃ W', ⌜∀ p ∈ W', p ∈ W ∨ p.2 = none⌝ ∗ owes (thr d L) O W')

set_option maxHeartbeats 4000000 in
/-- One trip keeps the invariant: the chunk's entries fetched, its rows streamed in, the chunk copied out. -/
theorem trip (q : PosShare TreeShare) (hin : InRows (F := F) iv) (O : CellTallies nD τ sig (HIx 1)) (W : Waits sig (HIx 1)) (t : Fin k0_t1_loop.trips) :
    inv fv iv ov d L q O W t.val ⟨⟩
      ⊢ wp frame (wpE (defs₀ (F := F)) 𝒱₀ (thr d L) none) Set.univ
          (k0_t1_body L fV (Memref.isWhole_whole _) iV (Memref.isWhole_whole _) oV (Memref.isWhole_whole _)
            sV (Memref.isWhole_whole _) rV (Memref.isWhole_whole _) cc0_scratch2 cc0_scoped0 cc0_scoped1 t ())
          fun _ => inv fv iv ov d L q O W (t.val + 1) ⟨⟩ := by
  unfold k0_t1_body inv
  iintro ⟨#Hmw, Hf, Hi, Ho, ⟨%fs, Hs⟩, ⟨%fr, Hr⟩, HsemG, HsemA, HsemB, %W', %hW', HO⟩
  by_cases k0_h1 : k0_cond1 L t = 1#1
  · -- the chunk split off the task's part
    ihave Hoo := (pointsTo_split_subset (q := fullShare) (f := upTo (fv d) (iv d) (ov d) t.val) (S := part (wid L)) (oChunk_subset L t k0_h1)).1 $$ Ho
    icases Hoo with ⟨Hoc, Hor⟩
    ihave Hoc := (Entails.of_eq (pts_oChunk (F := F) d L t k0_h1 _)) $$ Hoc
    sl_exec
    -- the indirect gather
    ihave Hfs := (pointsTo_split_subset (q := q) (f := fv d) (S := Finset.univ) (Finset.subset_univ (fAll).view.set)).1 $$ Hf
    icases Hfs with ⟨Hfs, Hfr⟩
    ihave Hr' := (Entails.of_eq (pts_rV_set (F := F) d L _)) $$ Hr
    ihave Hs' := (Entails.of_eq (pts_sV_set (F := F) d L _)) $$ Hs
    iapply (SparseCore.wp_indirectGatherLocal countersEmb 𝒱₀ (thr d L) none (hg := gathers_S16000x128_S600x128) (default : HIx 1)
        (rV).view.dmaCredit (SparseCore.sum_rowCredit_eq_dmaCredit _ _ (fun _ => rfl)) (by decide) (chunk_inRows iv d L hin t k0_h1 fs _ rfl)) $$ [Hfs Hr' Hs' HsemG]
    · isplitl [Hfs]; · iexact Hfs
      isplitl [Hr']; · iexact Hr'
      isplitl [Hs']; · iexact Hs'
      iexact HsemG
    iintro Hfl
    sl_exec
    -- its wait
    iapply (Transfers.wp_waitLocalO countersEmb 𝒱₀ (thr d L) none (default : HIx 1) (rfl : (rV).view.dmaCredit = _)) $$ [Hfl HO]
    · isplitl [Hfl]; · iexact Hfl
      isplitl [HO]; · iexact HO
      iapply (Transfers.MayWaits.elim (SemLoc.dma cc0_scratch2.sem)) $$ Hmw
    iintro ⟨⟨Hr', Hfs, Hs'⟩, HsemG, HO⟩
    ihave Hf := (pointsTo_split_subset (q := q) (f := fv d) (S := Finset.univ) (Finset.subset_univ (fAll).view.set)).2 $$ [Hfs Hfr]; · isplitl [Hfs] <;> iassumption
    ihave Hr := (Entails.of_eq (pts_rV_set (F := F) d L _).symm) $$ Hr'
    ihave Hs := (Entails.of_eq (pts_sV_set (F := F) d L _).symm) $$ Hs'
    sl_exec
    sl_step
    isplitl []; · iexact Hmw
    isplitl [Hf]; · iexact Hf
    isplitl [Hi]; · iexact Hi
    isplitl [Hoc Hor]
    · -- the chunk, written with the gathered rows, joined to the rest of the task's part
      iapply (pointsTo_split_subset (q := fullShare) (f := upTo (fv d) (iv d) (ov d) (t.val + 1)) (S := part (wid L)) (oChunk_subset L t k0_h1)).2
      isplitl [Hoc]
      · iapply (Entails.of_eq (pointsTo_congr (ℓ := oLoc d) (I := (oChunk L t k0_h1).view.set) (q := fullShare) fun i hi =>
          (chunk_value L t k0_h1 (fv d) (iv d) (upTo (fv d) (iv d) (ov d) t.val) fs fr (chunk_inRows iv d L hin t k0_h1 fs _ rfl) rfl i hi).trans
            (upTo_succ_on L t k0_h1 (fv d) (iv d) (ov d) i hi).symm))
        iexact Hoc
      · iapply (Entails.of_eq (pointsTo_congr (ℓ := oLoc d) (I := part (wid L) \ (oChunk L t k0_h1).view.set) (q := fullShare)
          (upTo_succ_off L t k0_h1 (fv d) (iv d) (ov d))))
        iexact Hor
    isplitl [Hs]; · iexists _; iexact Hs
    isplitl [Hr]; · iexists _; iexact Hr
    isplitl [HsemG]; · iexact HsemG
    isplitl [HsemA]; · iexact HsemA
    isplitl [HsemB]; · iexact HsemB
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  · -- the trip is not taken
    sl_exec
    sl_step
    isplitl []; · iexact Hmw
    isplitl [Hf]; · iexact Hf
    isplitl [Hi]; · iexact Hi
    isplitl [Ho]
    · iapply (Entails.of_eq (pointsTo_congr (ℓ := oLoc d) (I := part (wid L)) (q := fullShare) (upTo_succ_skip L t k0_h1 (fv d) (iv d) (ov d))))
      iexact Ho
    isplitl [Hs]; · iexists _; iexact Hs
    isplitl [Hr]; · iexists _; iexact Hr
    isplitl [HsemG]; · iexact HsemG
    isplitl [HsemA]; · iexact HsemA
    isplitl [HsemB]; · iexact HsemB
    iexists W'; isplitr
    · ipureintro; exact hW'
    · iexact HO

/-! ### The task's own resources -/

/-- What task number `w` is handed and hands back: a share `q` of the table and of the list, and its part of the
    result, holding `g`. -/
def tileRes (q : PosShare TreeShare) (d : Dev nD) (w : ℕ) (g : Buf (Elt F) (oLoc d)) : sProp 𝕄 :=
  iprop((fLoc d ↦{q} fv d) ∗ (iLoc d ↦{q} iv d) ∗ oLoc d ↦[part w]{fullShare} g)

abbrev cellG (d : Dev nD) (L : grid0.Coords) : GSem nD τ sig := (thr d L, .dma cc0_scratch2.sem)
abbrev cellA (d : Dev nD) (L : grid0.Coords) : GSem nD τ sig := (thr d L, .dma cc0_scoped0.sem)
abbrev cellB (d : Dev nD) (L : grid0.Coords) : GSem nD τ sig := (thr d L, .dma cc0_scoped1.sem)

omit [FloatOps F] in
/-- The three semaphores the task uses are among its own. -/
theorem ownSems0_tile :
    (ownSems0 (thr d L) : sProp 𝕄)
      = iprop(semVal (cellG d L) 0 ∗ semVal (cellA d L) 0 ∗ semVal (cellB d L) 0
          ∗ bigSep ((((ownCells (thr d L)).erase (cellG d L)).erase (cellA d L)).erase (cellB d L)) fun g => semVal g 0) := by
  have hA : cellA d L ≠ cellG d L := fun e => absurd (congrArg Prod.snd e) (show (SemLoc.dma cc0_scoped0.sem : SemLoc sig) ≠ .dma cc0_scratch2.sem by decide)
  have hB : cellB d L ≠ cellG d L := fun e => absurd (congrArg Prod.snd e) (show (SemLoc.dma cc0_scoped1.sem : SemLoc sig) ≠ .dma cc0_scratch2.sem by decide)
  have hC : cellB d L ≠ cellA d L := fun e => absurd (congrArg Prod.snd e) (show (SemLoc.dma cc0_scoped1.sem : SemLoc sig) ≠ .dma cc0_scoped0.sem by decide)
  have mG : cellG d L ∈ ownCells (thr d L) := mem_ownCells.mpr ⟨rfl, by show (SemLoc.dma cc0_scratch2.sem : SemLoc sig).isScoped .scVector = true; decide⟩
  have mA : cellA d L ∈ ownCells (thr d L) := mem_ownCells.mpr ⟨rfl, by show (SemLoc.dma cc0_scoped0.sem : SemLoc sig).isScoped .scVector = true; decide⟩
  have mB : cellB d L ∈ ownCells (thr d L) := mem_ownCells.mpr ⟨rfl, by show (SemLoc.dma cc0_scoped1.sem : SemLoc sig).isScoped .scVector = true; decide⟩
  unfold SparseCore.Cfg.ownSems0
  rw [SparseCore.bigSep_erase' mG, SparseCore.bigSep_erase' (Finset.mem_erase.mpr ⟨hA, mA⟩),
    SparseCore.bigSep_erase' (Finset.mem_erase.mpr ⟨hC, Finset.mem_erase.mpr ⟨hB, mB⟩⟩)]

omit [FloatOps F] in
/-- The two scratch buffers are among the task's own. -/
theorem ownBufs_tile :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  have h0 := SparseCore.Cfg.mem_ownRefs_of_owner (p := Proc.scVector (cV L) (jV L)) (b := (Proc.scVector (cV L) (jV L)).devRef cc0_scratch0) rfl
  have h1 := SparseCore.Cfg.mem_ownRefs_of_owner (p := Proc.scVector (cV L) (jV L)) (b := (Proc.scVector (cV L) (jV L)).devRef cc0_scratch1) rfl
  have hne : (Proc.scVector (cV L) (jV L)).devRef cc0_scratch1 ≠ (Proc.scVector (cV L) (jV L)).devRef cc0_scratch0 :=
    fun e => absurd (Proc.devRef_injective _ e) (show (cc0_scratch1 : Ref sig .scVector) ≠ cc0_scratch0 by decide)
  unfold SparseCore.Cfg.ownBufs
  exact (SparseCore.bigSep_erase' h0).trans (congrArg _ (SparseCore.bigSep_erase' (Finset.mem_erase.mpr ⟨hne, h1⟩)))

set_option maxHeartbeats 4000000 in
/-- The whole task, from shares `q` of the table and of the list and its part of the result: the part ends gathered. -/
theorem task (q : PosShare TreeShare) (hF : (K (F := F)).Facts) (hin : InRows (F := F) iv) (O : CellTallies nD τ sig (HIx 1)) (W : Waits sig (HIx 1)) (hO : ∀ g, O g none = 0) :
    iprop(levAts (K (F := F)).L (K (F := F)).lev ∗ emp
        ∗ tileRes fv iv q d (wid L) (ov d)
        ∗ scopedBufs (thr d L) ∗ scopedSems0 (thr d L) ∗ owes (thr d L) O W)
      ⊢ wp frame (wpE (defs₀ (F := F)) 𝒱₀ (thr d L) none) Set.univ
          (cc0__sc_gather_body L fV (Memref.isWhole_whole _) iV (Memref.isWhole_whole _) oV (Memref.isWhole_whole _)
            sV (Memref.isWhole_whole _) rV (Memref.isWhole_whole _) cc0_scratch2 cc0_scoped0 cc0_scoped1)
          fun _ => iprop(tileRes fv iv q d (wid L) (rowsOf (fv d) (iv d))
            ∗ scopedBufs (thr d L) ∗ scopedSems0 (thr d L)
            ∗ ∃ W', ⌜∀ p ∈ W', p ∈ W ∨ p.2 = none⌝ ∗ owes (thr d L) O W') := by
  simp only [cc0__sc_gather_body_eq_skeleton]; unfold cc0__sc_gather_body_skel
  rw [(K (F := F)).scopedBufs_V hF d (cV L) (jV L), SparseCore.Cfg.scopedSems0_V (Val := Elt F) d (cV L) (jV L), ownSems0_tile, ownBufs_tile]
  unfold tileRes
  iintro ⟨#Hlv, -, ⟨Hf, Hi, Ho⟩, ⟨⟨%fs, Hs⟩, ⟨%fr, Hr⟩, Hbufs⟩, ⟨HsemG, HsemA, HsemB, Hsems⟩, HO⟩
  ihave Hmw := (show levAts (K (F := F)).L (K (F := F)).lev ⊢ Transfers.MayWaits (thr d L) (none : HIx 1) O from
    (K (F := F)).mayWaits_none (thr := thr d L) hO) $$ Hlv
  sl_for (inv fv iv ov d L q O W) $$ [Hmw Hf Hi Ho Hs Hr HsemG HsemA HsemB HO]
  case region =>
    intro k _
    exact trip fv iv ov d L q hin O W k
  · unfold inv
    isplitl [Hmw]; · iexact Hmw
    isplitl [Hf]; · iexact Hf
    isplitl [Hi]; · iexact Hi
    isplitl [Ho]; · rw [upTo_zero]; iexact Ho
    isplitl [Hs]; · iexists _; iexact Hs
    isplitl [Hr]; · iexists _; iexact Hr
    isplitl [HsemG]; · iexact HsemG
    isplitl [HsemA]; · iexact HsemA
    isplitl [HsemB]; · iexact HsemB
    iexists W; isplitr
    · ipureintro; exact fun p hp => .inl hp
    · iexact HO
  iintro %_ HI
  unfold inv
  icases HI with ⟨-, Hf, Hi, Ho, ⟨%gs, Hs⟩, ⟨%gr, Hr⟩, HsemG, HsemA, HsemB, %W', %hW', HO⟩
  sl_exec
  sl_step
  isplitl [Hf Hi Ho]
  · isplitl [Hf]; · iexact Hf
    isplitl [Hi]; · iexact Hi
    rw [← upTo_last (fv d) (iv d) (ov d)]; iexact Ho
  isplitl [Hs Hr Hbufs]
  · isplitl [Hs]; · iexists _; iexact Hs
    isplitl [Hr]; · iexists _; iexact Hr
    iexact Hbufs
  isplitl [HsemG HsemA HsemB Hsems]
  · isplitl [HsemG]; · iexact HsemG
    isplitl [HsemA]; · iexact HsemA
    isplitl [HsemB]; · iexact HsemB
    iexact Hsems
  iexists W'; isplitr
  · ipureintro; exact hW'
  · iexact HO

end Cert.Proof.TileIdeal

end
-- ==== Proof.LaunchIdeal.lean ====
/-
  The launch of the SparseCore gather: the reshape of the row numbers on the TensorCore, then the one call, whose two
  SparseCores and 2 × 16 tasks split the operands — a share of the table and of the list each, and the task's own part
  of the result — and bring them back with the parts gathered. The program's run is stated with the value: the result
  is the table's rows at the list's entries.
-/
module

public import proofs.«01_k».proof.Proof.TileIdeal
public import proofs.«01_k».proof.Proof.Gen.Pre_idx_in_rows

@[expose] public section

noncomputable section

namespace Cert.Proof.LaunchIdeal

open Cert.KernelIdeal Cert.KernelIdeal.Gen Cert.Proof.TileIdeal

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type}

abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nCore_zero : (K (F := F)).nCore 0 = 2 := rfl
theorem nSub_zero : (K (F := F)).nSub 0 = 16 := rfl

local notation "𝕄" => MT nD τ sig (HIx 1) (Elt F) ℕ UU ℕ

abbrev EH : Emb (URounds (GSem nD τ sig) ℕ) (MT nD τ sig (HIx 1) (Elt F) ℕ UU ℕ) := embL

/-! ## The shares and the parts -/

/-- SparseCore `c`'s share of an array, and its task `i`'s. -/
abbrev coreShare (c : Fin 2) : PosShare TreeShare := pieceOf fullShare 2 (by decide) c
abbrev taskShare (c : Fin 2) (i : Fin 16) : PosShare TreeShare := pieceOf (coreShare c) 16 (by decide) i

/-- The number of SparseCore `c`'s task `i`. -/
abbrev num (c : Fin 2) (i : Fin 16) : ℕ := 2 * i.val + c.val

/-- The rows of the result SparseCore `c`'s tasks serve. -/
def corePart (c : Fin 2) : Finset S144000x128.Idx := Finset.univ.filter fun i => (i 0).val / 600 % 2 = c.val

theorem mem_corePart {c : Fin 2} {i : S144000x128.Idx} : i ∈ corePart c ↔ (i 0).val / 600 % 2 = c.val := by simp [corePart]

theorem corePart_eq (c : Fin 2) : (Finset.univ : Finset (Fin 16)).biUnion (fun i => part (num c i)) = corePart c := by
  ext x
  simp only [Finset.mem_biUnion, Finset.mem_univ, true_and, mem_part, mem_corePart, num]
  have hc := c.isLt
  constructor
  · rintro ⟨i, h⟩; have := i.isLt; omega
  · intro h
    exact ⟨⟨(x 0).val / 600 % 32 / 2, by omega⟩, by dsimp only; omega⟩

theorem parts_disjoint (c : Fin 2) : ∀ i ∈ (Finset.univ : Finset (Fin 16)), ∀ j ∈ (Finset.univ : Finset (Fin 16)), i ≠ j →
    Disjoint (part (num c i)) (part (num c j)) := by
  intro i _ j _ h
  refine Finset.disjoint_left.mpr fun x hx hy => h (Fin.ext ?_)
  rw [mem_part] at hx hy
  unfold num at hx hy; omega

theorem cores_cover : (Finset.univ : Finset (Fin 2)).biUnion corePart = Finset.univ := by
  ext x
  simp only [Finset.mem_biUnion, Finset.mem_univ, true_and, mem_corePart, iff_true]
  exact ⟨⟨(x 0).val / 600 % 2, by omega⟩, rfl⟩

theorem cores_disjoint : ∀ i ∈ (Finset.univ : Finset (Fin 2)), ∀ j ∈ (Finset.univ : Finset (Fin 2)), i ≠ j → Disjoint (corePart i) (corePart j) := by
  intro i _ j _ h
  refine Finset.disjoint_left.mpr fun x hx hy => h (Fin.ext ?_)
  rw [mem_corePart] at hx hy
  exact hx.symm.trans hy

/-! ## What the call carries -/

section Pieces

variable (fv : (d : Dev nD) → Buf (Elt F) (fLoc d)) (iv : (d : Dev nD) → Buf (Elt F) (iLoc d))

/-- All of the table, the list and the result, the result holding `g`. -/
def allRes (d : Dev nD) (g : Buf (Elt F) (oLoc d)) : sProp 𝕄 :=
  iprop((fLoc d ↦{fullShare} fv d) ∗ (iLoc d ↦{fullShare} iv d) ∗ oLoc d ↦{fullShare} g)

/-- What SparseCore `c` is handed: its share of the table and of the list, and its part of the result, holding `g`. -/
def coreRes (d : Dev nD) (c : Fin 2) (g : Buf (Elt F) (oLoc d)) : sProp 𝕄 :=
  iprop((fLoc d ↦{coreShare c} fv d) ∗ (iLoc d ↦{coreShare c} iv d) ∗ oLoc d ↦[corePart c]{fullShare} g)

/-- A SparseCore's holdings are its tasks' together. -/
theorem coreRes_tasks (d : Dev nD) (c : Fin 2) (g : Buf (Elt F) (oLoc d)) :
    (coreRes fv iv d c g : sProp 𝕄) = bigSep Finset.univ fun i : Fin 16 => tileRes fv iv (taskShare c i) d (num c i) g := by
  unfold coreRes tileRes
  rw [bigSep_sep', bigSep_sep', ← corePart_eq, pointsTo_biUnion Finset.univ (ℓ := oLoc d) (fun i => part (num c i)) (parts_disjoint c),
    pointsTo_piecesOf (ℓ := fLoc d) Finset.univ (fv d) (o := 16) (by decide) (coreShare c),
    pointsTo_piecesOf (ℓ := iLoc d) Finset.univ (iv d) (o := 16) (by decide) (coreShare c)]

/-- The whole is the two SparseCores' holdings together. -/
theorem allRes_cores (d : Dev nD) (g : Buf (Elt F) (oLoc d)) :
    (allRes fv iv d g : sProp 𝕄) = bigSep Finset.univ fun c : Fin 2 => coreRes fv iv d c g := by
  unfold allRes coreRes
  rw [bigSep_sep', bigSep_sep', ← pointsTo_biUnion Finset.univ (ℓ := oLoc d) corePart cores_disjoint, cores_cover,
    pointsTo_piecesOf (ℓ := fLoc d) Finset.univ (fv d) (o := 2) (by decide) fullShare,
    pointsTo_piecesOf (ℓ := iLoc d) Finset.univ (iv d) (o := 2) (by decide) fullShare]

end Pieces

variable (fv : (d : Dev nD) → Buf (Elt F) (fLoc d)) (iv : (d : Dev nD) → Buf (Elt F) (iLoc d)) (ov : (d : Dev nD) → Buf (Elt F) (oLoc d))

/-- The one call takes the table, the list and the result and brings them back, the result at the gathered rows. -/
def P : (K (F := F)).Pay (nD := nD) (Val := Elt F) (Name := ℕ) (U := UU) where
  st := fun q d c => match q with | 0 => coreRes fv iv d (Fin.cast nCore_zero c) (ov d)
  dn := fun q d c => match q with | 0 => coreRes fv iv d (Fin.cast nCore_zero c) (rowsOf (fv d) (iv d))
  go := fun q d c i => match q with
    | 0 => tileRes fv iv (taskShare (Fin.cast nCore_zero c) (Fin.cast nSub_zero i)) d (num (Fin.cast nCore_zero c) (Fin.cast nSub_zero i)) (ov d)
  td := fun q d c i => match q with
    | 0 => tileRes fv iv (taskShare (Fin.cast nCore_zero c) (Fin.cast nSub_zero i)) d (num (Fin.cast nCore_zero c) (Fin.cast nSub_zero i)) (rowsOf (fv d) (iv d))
  x := fun _ _ => iprop(emp)

instance coreRes_storable (d : Dev nD) (c : Fin 2) (g : Buf (Elt F) (oLoc d)) : BI.Storable (upEmb : UEmb _ 𝕄) (coreRes fv iv d c g) := by
  unfold coreRes; infer_instance
instance tileRes_storable (q : PosShare TreeShare) (d : Dev nD) (w : ℕ) (g : Buf (Elt F) (oLoc d)) : BI.Storable (upEmb : UEmb _ 𝕄) (tileRes fv iv q d w g) := by
  unfold tileRes; infer_instance

instance P_storable : (P fv iv ov).IsStorable where
  st q d c := match q with | 0 => coreRes_storable fv iv d (Fin.cast nCore_zero c) (ov d)
  dn q d c := match q with | 0 => coreRes_storable fv iv d (Fin.cast nCore_zero c) (rowsOf (fv d) (iv d))
  go q d c i := match q with
    | 0 => tileRes_storable fv iv (taskShare (Fin.cast nCore_zero c) (Fin.cast nSub_zero i)) d (num (Fin.cast nCore_zero c) (Fin.cast nSub_zero i)) (ov d)
  td q d c i := match q with
    | 0 => tileRes_storable fv iv (taskShare (Fin.cast nCore_zero c) (Fin.cast nSub_zero i)) d (num (Fin.cast nCore_zero c) (Fin.cast nSub_zero i)) (rowsOf (fv d) (iv d))

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's operands split into its tasks' and the tasks' results join into its own. -/
theorem vecSplit : (K (F := F)).VecSplit' (P fv iv ov) 0 := by
  intro d c
  show (coreRes fv iv d (Fin.cast nCore_zero c) (ov d) : sProp 𝕄) ⊢ |={Set.univ}=> iprop(
      (bigSep Finset.univ fun i : Fin ((K (F := F)).nSub 0) =>
        tileRes fv iv (taskShare (Fin.cast nCore_zero c) (Fin.cast nSub_zero i)) d (num (Fin.cast nCore_zero c) (Fin.cast nSub_zero i)) (ov d))
      ∗ ((bigSep Finset.univ fun i : Fin ((K (F := F)).nSub 0) =>
          tileRes fv iv (taskShare (Fin.cast nCore_zero c) (Fin.cast nSub_zero i)) d (num (Fin.cast nCore_zero c) (Fin.cast nSub_zero i)) (rowsOf (fv d) (iv d)))
          -∗ coreRes fv iv d (Fin.cast nCore_zero c) (rowsOf (fv d) (iv d))))
  rw [bigSep_tasks (F := F) (fun i => tileRes fv iv (taskShare (Fin.cast nCore_zero c) i) d (num (Fin.cast nCore_zero c) i) (ov d)),
    bigSep_tasks (F := F) (fun i => tileRes fv iv (taskShare (Fin.cast nCore_zero c) i) d (num (Fin.cast nCore_zero c) i) (rowsOf (fv d) (iv d))),
    ← coreRes_tasks, ← coreRes_tasks]
  iintro H; imodintro
  isplitl [H]; · iexact H
  iintro H; iexact H

variable [FloatOps F]

/-! ## The tasks' obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather_body (coordsV c s)
          fV (Memref.isWhole_whole _) iV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task of the call does what the call's payloads say. -/
theorem tileObl (hF : (K (F := F)).Facts) (hin : InRows (F := F) iv) : (K (F := F)).TileObl (D (F := F)) 𝒱 (P fv iv ov) v₀ 0 := by
  intro d c i O W hO _ _
  simp only [show (P fv iv ov).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (task fv iv ov d (coordsV ⟨_, hci.1⟩ ⟨_, hci.2⟩) (taskShare (Fin.cast nCore_zero c) (Fin.cast nSub_zero i)) hF hin O W hO).trans
    (wp_mono frame _ _ fun _ => obl_post)

/-! ## The launch element -/

def u₀ : UU := (initOf (K (F := F)).hsCells (K (F := F)).hsToks, 1)

omit [FloatOps F] in
theorem bigSep_emp {I : Type} (s : Finset I) : (bigSep s fun _ => iprop(emp)) = (iprop(emp) : sProp 𝕄) := bigSep_emp_const s

omit [FloatOps F] in
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P fv iv ov).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp]; iempintro
  rw [show (bigSep Finset.univ fun thr : Thread nD τ => bigSep Finset.univ fun q : Fin 1 => (P fv iv ov).x q thr) = bigSep Finset.univ fun _ => iprop(emp) from
    bigSep_congr fun _ _ => bigSep_univ_of_subsingleton (0 : Fin 1), bigSep_emp]
  iempintro

/-! ## @main on the TensorCore -/

variable (m : (ℓ : Loc nD τ sig) → Buf (Elt F) ℓ) (ρ : Dev nD → PrngReg)

/-- The row numbers as given. -/
abbrev nLoc (d : Dev nD) : Loc nD τ sig := (SparseCore.T d).loc main_arg1

/-- The flat list of the row numbers. -/
abbrev flat (x : S16000x9.Idx → BitVec 32) : S144000.Idx → BitVec 32 := shapeCast S144000 x shapeCasts_S16000x9_S144000

/-- The table, the flat list and the result's launch contents. -/
abbrev fm (d : Dev nD) : Buf (Elt F) (fLoc d) := m (fLoc d)
abbrev im (d : Dev nD) : Buf (Elt F) (iLoc d) := flat (m (nLoc d))
abbrev om (d : Dev nD) : Buf (Elt F) (oLoc d) := m (oLoc d)

/-- The result: the table's rows at the list's entries. -/
abbrev gathered (d : Dev nD) : Buf (Elt F) (oLoc d) := rowsOf (fm m d) (im m d)

abbrev f' : DevRef τ sig := Proc.devRef .tc (main_arg0 : Ref sig .tc)
abbrev n' : DevRef τ sig := Proc.devRef .tc (main_arg1 : Ref sig .tc)
abbrev i' : DevRef τ sig := Proc.devRef .tc (main_v0 : Ref sig .tc)
abbrev o' : DevRef τ sig := Proc.devRef .tc (main_v1 : Ref sig .tc)
abbrev opFlat : HloOp τ sig (Elt F) := StableHlo.reshape main_arg1 main_v0 rfl shapeCasts_S16000x9_S144000

/-- The TensorCore's arrays. -/
abbrev S4 : Finset (DevRef τ sig) := {f', n', i', o'}

omit [FloatOps F] in
theorem held_S4 (d : Dev nD) (W : Valuation τ sig (Elt F)) :
    (held (T d) S4 W : sProp 𝕄) = iprop((fLoc d ↦{fullShare} W f') ∗ (nLoc d ↦{fullShare} W n') ∗ (iLoc d ↦{fullShare} W i') ∗ oLoc d ↦{fullShare} W o') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((fLoc d ↦{fullShare} W main_arg0) ∗ (nLoc d ↦{fullShare} W main_arg1)
      ∗ (iLoc d ↦{fullShare} W main_v0) ∗ oLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The launch valuation, and the valuation after the reshape. -/
def V0 (d : Dev nD) : Valuation τ sig (Elt F) := fun b => m (d, b)

omit [FloatOps F] in
theorem unscoped_held (d : Dev nD) : (unscopedBufs d (fun b => m ((SparseCore.T d).loc b)) : sProp 𝕄) = held (T d) S4 (V0 m d) := by
  rw [unscopedBufs_eq, held_S4]; rfl

omit [FloatOps F] in
theorem held_V1 (d : Dev nD) :
    (held (T d) S4 ((opFlat (F := F)).result (V0 m d)) : sProp 𝕄) ⊢ iprop((nLoc d ↦{fullShare} m (nLoc d)) ∗ allRes (fm m) (im m) d (om m d)) := by
  have hf : (opFlat (F := F)).result (V0 m d) f' = m (fLoc d) :=
    (opFlat (F := F)).result_of_not_mem (V0 m d) (b := f') (show f' ∉ ({i'} : Finset (DevRef τ sig)) by decide)
  have hn : (opFlat (F := F)).result (V0 m d) n' = m (nLoc d) :=
    (opFlat (F := F)).result_of_not_mem (V0 m d) (b := n') (show n' ∉ ({i'} : Finset (DevRef τ sig)) by decide)
  have ho : (opFlat (F := F)).result (V0 m d) o' = m (oLoc d) :=
    (opFlat (F := F)).result_of_not_mem (V0 m d) (b := o') (show o' ∉ ({i'} : Finset (DevRef τ sig)) by decide)
  have hi : (opFlat (F := F)).result (V0 m d) i' = im m d := StableHlo.reshape_result _ _ _ _ _ _ _
  rw [held_S4, hf, hn, ho, hi]
  unfold allRes
  iintro ⟨Hf, Hn, Hi, Ho⟩
  isplitl [Hn]; · iexact Hn
  isplitl [Hf]; · iexact Hf
  isplitl [Hi]; · iexact Hi
  iexact Ho

omit [FloatOps F] in
theorem hFlat : (opFlat (F := F)).bufs ⊆ S4 := by
  show ({n', i'} : Finset (DevRef τ sig)) ⊆ S4; decide

/-- What the call takes for the two SparseCores, and what it hands back. -/
theorem st0_eq (d : Dev nD) : (bigSep Finset.univ fun c : Fin ((K (F := F)).nCore 0) => (P fv iv ov).st 0 d c) = allRes fv iv d (ov d) := by
  rw [allRes_cores]; exact bigSep_cores (F := F) fun c => coreRes fv iv d c (ov d)
theorem dn0_eq (d : Dev nD) : (bigSep Finset.univ fun c : Fin ((K (F := F)).nCore 0) => (P fv iv ov).dn 0 d c) = allRes fv iv d (rowsOf (fv d) (iv d)) := by
  rw [allRes_cores]; exact bigSep_cores (F := F) fun c => coreRes fv iv d c (rowsOf (fv d) (iv d))

/-- What @main leaves the claim: the two arguments at their launch contents, the result at the gathered rows. -/
abbrev FIN (d : Dev nD) : sProp 𝕄 :=
  iprop((fLoc d ↦{fullShare} m (fLoc d)) ∗ (nLoc d ↦{fullShare} m (nLoc d)) ∗ oLoc d ↦{fullShare} gathered m d)

/-- @main on device `d`'s TensorCore: the reshape, then the call. -/
theorem hmain (κ : GSem nD τ sig → ℕ) (d : Dev nD) :
    iprop((K (F := F)).ctx EH (P (fm m) (im m) (om m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opFlat) (S := S4) hFlat (V := V0 m d)) $$ [Hb Hheld]
  · isplitl [Hb]; · iexact Hb
    iexact Hheld
  iintro ⟨Hb, Hheld⟩
  ihave Hh := (held_V1 (F := F) m d) $$ Hheld
  icases Hh with ⟨Hn, Hall⟩
  rw [wp_ret]; imodintro
  iapply ((K (F := F)).wp_run (D (F := F)) 𝒱 (EH := EH) (P := P (fm m) (im m) (om m)) κ d 0) $$ [Hst Hn Hall Hb Hts]
  isplitr; · iexact Hctx
  isplitl [Hst]; · iexact Hst
  isplitl [Hall]
  · rw [st0_eq]; iexact Hall
  iintro ⟨Hst, Hdn⟩
  ihave Hdn' := (Entails.of_eq (dn0_eq (fm m) (im m) (om m) d)) $$ Hdn
  unfold allRes
  icases Hdn' with ⟨Hf, Hi, Ho⟩
  imodintro
  isplitl [Hst]; · iexact Hst
  isplitr [Hb Hts]
  · isplitl [Hf]; · iexact Hf
    isplitl [Hn]; · iexact Hn
    iexact Ho
  isplitl [Hb] <;> iassumption

def fq (d : Dev nD) (s' : Phys nD τ sig (Elt F)) : Prop :=
  s'.mem.mem (oLoc d) = gathered m d ∧ s'.mem.mem (fLoc d) = m (fLoc d) ∧ s'.mem.mem (nLoc d) = m (nLoc d)

omit [FloatOps F] in
theorem hfin (d : Dev nD) (s' : Phys nD τ sig (Elt F)) : iprop(FIN m d ∗ SI s') ⊢ (⌜fq m d s'⌝ : sProp 𝕄) := by
  iintro ⟨⟨Hf, Hn, Ho⟩, HSI⟩
  ihave H := (persistent_entails_right (SI_pointsTo_agree (st := s') (ℓ := fLoc d) (I := Finset.univ) (q := fullShare) (f := m (fLoc d)))) $$ [HSI Hf]
  · isplitl [HSI] <;> iassumption
  icases H with ⟨%h1, HSI, -⟩
  ihave H := (persistent_entails_right (SI_pointsTo_agree (st := s') (ℓ := nLoc d) (I := Finset.univ) (q := fullShare) (f := m (nLoc d)))) $$ [HSI Hn]
  · isplitl [HSI] <;> iassumption
  icases H with ⟨%h2, HSI, -⟩
  ihave H := (SI_pointsTo_agree (st := s') (ℓ := oLoc d) (I := Finset.univ) (q := fullShare) (f := gathered m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- The run's post: the result is the gathered rows, the arguments are unchanged, the semaphores are back at zero. -/
def QC : PUnit × MemSt nD τ sig (Elt F) → Prop := fun r =>
  (∀ c : Dev nD, r.2.mem (oLoc c) = gathered m c ∧ r.2.mem (fLoc c) = m (fLoc c) ∧ r.2.mem (nLoc c) = m (nLoc c)) ∧ r.2.sem = fun _ => 0

/-- What the proof asks of the launch memory: every row number is a row of the table. -/
def PreOK : Prop := ∀ (d : Dev nD) (j : S16000x9.Idx), (m (nLoc d) j : BitVec 32).toNat < 16000

omit [FloatOps F] in
theorem inRows (hpre : PreOK m) : InRows (F := F) (im m) := fun d _ => hpre d _

/-- Every run of the program ends, with the result at the gathered rows. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (fm m) (im m) (om m)) (A := ∅) facts v₀
    (fun q hq => match q with | 0 => nomatch hq)
    (fun q _ => match q with | 0 => tileObl (fm m) (im m) (om m) facts (inRows m hpre))
    (fun q _ => match q with | 0 => SparseCore.Cfg.VecSplit.of_plain (vecSplit (fm m) (im m) (om m)))
    m ρ main (fun _ => iprop(emp)) (FIN m) (u₀ (F := F)) (sep_elim_left.trans (hu₀ (fm m) (im m) (om m))) (hmain m ρ) (fq m) (hfin m) (QC m)
    (fun _ h hz => ⟨h, hz⟩)

/-- The precondition, all ones, bounds every row number: it is non-negative as a signed word and below 16000. -/
theorem ok_of_pre {F : FTy → Type} [FloatOps F] (x : S16000x128.Idx → Elt F .f32) (n : S16000x9.Idx → BitVec 32)
    (h : Cert.Pre_idx_in_rows.fn (F := F) x n = fun _ => 1#1) (j : S16000x9.Idx) : (n j).toNat < 16000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have key : ∀ v : BitVec 32, IntOp.andi (IntOp.cmpi .sge v 0#32) (IntOp.cmpi .slt v 16000#32) = 1#1 → v.toNat < 16000 := by
    intro v e
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  have e := congrFun h j
  simp only [Cert.Pre_idx_in_rows.fn, andi, cmpi, broadcastInDim, constantI] at e
  exact key _ e

end Cert.Proof.LaunchIdeal

end
-- ==== Proof.Claims.lean ====
/-
  The claims about the SparseCore gather: its frames, and that its result is the reference's, the table's rows at the
  flat list's entries.
-/
module

public import proofs.«01_k».proof.Proof.Launch
public import proofs.«01_k».proof.Proof.LaunchIdeal
public import proofs.«01_k».proof.Proof.Gen.ReferenceIdeal.Read
public import Idealize.ShloMosaic.Lib.Routing.Ops

@[expose] public section

noncomputable section

namespace Cert.Proof.Claims

open Idealize.ShloMosaic Idealize.ShloMosaic.ValueIdx Idealize.ShloMosaic.TcCoe Idealize.SL.Sem Cert.ReferenceIdeal Cert.ReferenceIdeal.Gen

variable {F : FTy → Type} [FloatOps F]

/-- The wrapped row number, at a list whose entries are in range, is the entry. -/
theorem wrap_eq (v : BitVec 32) (h : v.toNat < 16000) :
    Scalar.select (IntOp.cmpi .slt v 0#32) (IntOp.addi v 16000#32) v = v := by
  have e : IntOp.cmpi .slt v 0#32 = 0#1 := by
    simp only [IntOp.cmpi, BitVec.slt_eq_decide, BitVec.toInt_eq_toNat_cond, BitVec.toNat_ofNat, Nat.reducePow, Nat.reduceMod]
    rw [decide_eq_false (by omega)]; rfl
  rw [e]; rfl

/-- What the reference computes, at a list of in-range row numbers: the table's rows at the list's entries. -/
theorem reference_eq (f : S16000x128.Idx → Elt F .f32) (x : S16000x9.Idx → BitVec 32) (h : ∀ j, (x j).toNat < 16000) :
    Host.gather gather_S16000x128_S144000x1_S144000x128_1_0_n_n_0_1_1128 f
        (broadcastInDim S144000x1 ![0] bcast_S144000_S144000x1_0
          (select (cmpi .slt (shapeCast S144000 x shapeCasts_S16000x9_S144000) (broadcastInDim S144000 ![] bcast_S_S144000 (constantI S_ 32 0#32)))
            (addi (shapeCast S144000 x shapeCasts_S16000x9_S144000) (broadcastInDim S144000 ![] bcast_S_S144000 (constantI S_ 32 16000#32)))
            (shapeCast S144000 x shapeCasts_S16000x9_S144000)))
      = TileIdeal.rowsOf (F := F) f (LaunchIdeal.flat x) := by
  funext i
  have hb : (LaunchIdeal.flat x (TileIdeal.listIdx (i 0))).toNat < 16000 := h _
  rw [show i = ix2 (n0 := 144000) (n1 := 128) (i 0) (i 1) from eq_ix2 i]
  refine (Routing.gather_row gather_S16000x128_S144000x1_S144000x128_1_0_n_n_0_1_1128 rfl rfl rfl rfl rfl f _ (i 0) (i 1)
    (⟨(LaunchIdeal.flat x (TileIdeal.listIdx (i 0))).toNat, hb⟩ : Fin 16000) ?_ (by norm_num)).trans ?_
  · refine Eq.trans ?_ ((wrap_eq (LaunchIdeal.flat x (TileIdeal.listIdx (i 0))) hb).trans (BitVec.eq_of_toNat_eq (by simp)))
    have e (k : S144000.Idx) (hk : k = TileIdeal.listIdx (i 0)) (g : S144000.Idx → BitVec 32) : g k = g (TileIdeal.listIdx (i 0)) := congrArg g hk
    rw [broadcastInDim]
    refine (e _ ?_ _).trans ?_
    · funext a; match a with | 0 => rfl
    · have key (y : S144000.Idx → BitVec 32) (k : S144000.Idx) :
          select (cmpi .slt y (broadcastInDim S144000 ![] bcast_S_S144000 (constantI S_ 32 0#32)))
            (addi y (broadcastInDim S144000 ![] bcast_S_S144000 (constantI S_ 32 16000#32))) y k
            = Scalar.select (IntOp.cmpi .slt (y k) 0#32) (IntOp.addi (y k) 16000#32) (y k) := rfl
      exact key _ _
  · unfold TileIdeal.rowsOf
    refine congrArg f ?_
    funext a
    match a with
    | 0 => exact Fin.ext (Nat.min_eq_left (Nat.le_of_lt_succ hb)).symm
    | 1 => rfl

/-- The kernel as printed runs, leaves its arguments as they were and its semaphores at zero. -/
theorem frame_p : Cert.quiescent_Kernel := fun m ρ hpre =>
  (θ_run Cert.Kernel.defs _ _).mono (fun _ h => ⟨fun c => (h.1 c).2, h.2⟩)
    (Launch.run_main (F := Bits) m ρ fun d j => Launch.ok_of_pre _ _ (hpre d) j)

/-- Likewise its idealization. -/
theorem frame_pi : Cert.quiescent_KernelIdeal := fun m ρ hpre =>
  (θ_run Cert.KernelIdeal.defs _ _).mono (fun _ h => ⟨fun c => (h.1 c).2, h.2⟩)
    (LaunchIdeal.run_main (F := Ideal) m ρ fun d j => LaunchIdeal.ok_of_pre _ _ (hpre d) j)

/-- Likewise the reference, which has no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ri_pre : Cert.quiescent_ReferenceIdeal_pre_idx_in_rows := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and the reference end with the same result: the table's rows at the flat list's entries. -/
theorem algebraic : Cert.algebraic_KernelIdeal_ReferenceIdeal := by
  intro m ρ m' ρ' hpre hagree
  have hok : LaunchIdeal.PreOK (F := Ideal) m := fun d j => LaunchIdeal.ok_of_pre _ _ (hpre d) j
  refine ⟨fun c => LaunchIdeal.gathered m c,
    (θ_run Cert.KernelIdeal.defs _ _).mono (fun _ h c => h.1 c) (LaunchIdeal.run_main (F := Ideal) m ρ hok), ?_⟩
  refine (θ_run Cert.ReferenceIdeal.defs _ _).mono (fun r h c => ⟨(h c).1.trans ?_, (h c).2⟩)
    (Cert.ReferenceIdeal.Value.run (F := Ideal) m' ρ')
  obtain ⟨h0, h1⟩ := hagree c
  rw [h0, h1]
  exact reference_eq (F := Ideal) _ _ (hok c)

end Cert.Proof.Claims

end
-- ==== Proof.PointsRun.lean ====
/-
  The run of the first two calls (the batch sums, then the normalized first convolution): at the end every unscoped
  buffer of the TensorCore holds what the fold through the program's four segments says.
-/
module

public import proofs.«01_k».proof.Proof.Gen.PointsIdeal.Frame

@[expose] public section

set_option maxRecDepth 16384

noncomputable section

namespace Cert.Proof.PointsRun

open Cert.PointsIdeal Cert.PointsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unfolding plain definitions in a metavariable's type
set_option backward.isDefEq.respectTransparency.types false in
/-- Every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h _ => h)

/-- The two results end at what the second region's arrays hold, and the arguments as they were. -/
theorem run : θ_run defs (onTc (τ := τ) (main (F := F))) ⟨m, fun _ => 0, ρ⟩ (fun r => ∀ c : Dev nD,
      r.2.mem ((c.tc : Thread nD τ).loc main_v20_0) = (dat1 (V3 m ρ) c).arrAt 4 cfg1.N
      ∧ r.2.mem ((c.tc : Thread nD τ).loc main_v20_1) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v20_0 (by decide))).trans (W4_arr m ρ c 4),
     (h c _ (mem_uc main_v20_1 (by decide))).trans (W4_arr m ρ c 5),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

end Cert.Proof.PointsRun

end
-- ==== Proof.Moments.lean ====
module

public import Idealize.ShloMosaic.Lib.Pipeline.ValueKit
public import Idealize.ShloMosaic.Lib.Pointwise

/-!
Finite extended reals: what keeps them finite, the two ways to write a batch variance, and what a precondition that
says "every entry is below infinity in absolute value" gives.
-/

@[expose] public section

noncomputable section

namespace Cert.Proof.Moments

open Idealize.ShloMosaic

/-- An extended real that is a real number. -/
def IsReal (x : EReal) : Prop := ∃ r : ℝ, x = (r : EReal)

theorem IsReal.add {x y : EReal} : IsReal x → IsReal y → IsReal (x + y)
  | ⟨a, ha⟩, ⟨b, hb⟩ => ⟨a + b, by rw [ha, hb, EReal.coe_add]⟩

theorem IsReal.sub {x y : EReal} : IsReal x → IsReal y → IsReal (x - y)
  | ⟨a, ha⟩, ⟨b, hb⟩ => ⟨a - b, by rw [ha, hb, EReal.coe_sub]⟩

theorem IsReal.mul {x y : EReal} : IsReal x → IsReal y → IsReal (x * y)
  | ⟨a, ha⟩, ⟨b, hb⟩ => ⟨a * b, by rw [ha, hb, EReal.coe_mul]⟩

theorem IsReal.zero : IsReal 0 := ⟨0, rfl⟩

theorem IsReal.max {x y : EReal} (hx : IsReal x) (hy : IsReal y) : IsReal (max x y) := by
  rcases max_choice x y with h | h <;> rw [h] <;> assumption

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} {s : Finset ι} {f : ι → EReal} (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- Division of a real number by a positive one. -/
theorem IsReal.div {x : EReal} {n : ℝ} (hn : n ≠ 0) (hx : IsReal x) : IsReal (Ideal.div x (n : EReal)) := by
  obtain ⟨r, rfl⟩ := hx
  rw [Ideal.div_coe hn]
  exact ⟨r * (1 / n), by rw [EReal.coe_mul]⟩

/-- The mean of the squares less the square of the mean is the mean of the squared deviations, over finite numbers. -/
theorem var_eq {ι : Type*} [Fintype ι] (z : ι → EReal) (hz : ∀ i, IsReal (z i)) (n : ℝ) (hn : n ≠ 0)
    (hc : (Fintype.card ι : ℝ) = n) :
    Ideal.div (∑ i, z i * z i) (n : EReal) - Ideal.div (∑ i, z i) (n : EReal) * Ideal.div (∑ i, z i) (n : EReal)
      = Ideal.div (∑ i, (z i - Ideal.div (∑ k, z k) (n : EReal)) * (z i - Ideal.div (∑ k, z k) (n : EReal))) (n : EReal) := by
  choose w hw using hz
  obtain rfl : z = fun i => (w i : EReal) := funext hw
  simp only [Ideal.div_coe hn, ← EReal.coe_mul, ← coe_sum, ← EReal.coe_sub]
  refine congrArg _ ?_
  have key : ∀ μ : ℝ, ∑ i, (w i - μ) * (w i - μ) = ∑ i, w i * w i - 2 * μ * ∑ i, w i + n * (μ * μ) := fun μ => by
    rw [← hc, Finset.mul_sum, ← Finset.sum_sub_distrib]
    have : (Fintype.card ι : ℝ) * (μ * μ) = ∑ _i : ι, μ * μ := by simp [Finset.sum_const, nsmul_eq_mul]
    rw [this, ← Finset.sum_add_distrib]
    exact Finset.sum_congr rfl fun i _ => by ring
  rw [key]
  field_simp
  ring

/-- The mean of squared deviations of finite numbers is finite and not negative, and so is what is taken under the root. -/
theorem dev_nonneg {ι : Type*} [Fintype ι] (z : ι → EReal) (hz : ∀ i, IsReal (z i)) (μ : EReal) (hμ : IsReal μ) (n : ℝ) (hn : 0 < n) :
    ∃ r : ℝ, 0 ≤ r ∧ Ideal.div (∑ i, (z i - μ) * (z i - μ)) (n : EReal) = (r : EReal) := by
  choose w hw using hz
  obtain ⟨u, rfl⟩ := hμ
  obtain rfl : z = fun i => (w i : EReal) := funext hw
  refine ⟨(∑ i, (w i - u) * (w i - u)) * (1 / n), mul_nonneg (Finset.sum_nonneg fun i _ => mul_self_nonneg _) (by positivity), ?_⟩
  simp only [Ideal.div_coe hn.ne', ← EReal.coe_mul, ← coe_sum, ← EReal.coe_sub]

/-- A conjunction folded over a list is one only if every member is. -/
theorem of_foldl_andi {α : Type*} (p : α → BitVec 1) (l : List α) (a : BitVec 1)
    (h : l.foldl (fun r n => IntOp.andi r (p n)) a = 1#1) : a = 1#1 ∧ ∀ n ∈ l, p n = 1#1 := by
  have key : ∀ u v : BitVec 1, IntOp.andi u v = 1#1 → u = 1#1 ∧ v = 1#1 := by decide
  induction l generalizing a with
  | nil => exact ⟨h, fun _ hn => absurd hn List.not_mem_nil⟩
  | cons b l ih =>
    obtain ⟨h1, h2⟩ := ih _ h
    obtain ⟨h3, h4⟩ := key _ _ h1
    exact ⟨h3, fun n hn => (List.mem_cons.mp hn).elim (fun e => e ▸ h4) (h2 n)⟩

/-- Every entry of a mask whose conjunction over all axes is one is one. -/
theorem of_reduce_andi {s t u : Shape} {axes : List (Fin s.rank)} (x : s.Idx → BitVec 1) (init : u.Idx → BitVec 1)
    (h : s.ReducesTo axes t) (hu : 0 < u.numel) (ht : ∀ j j' : t.Idx, j = j') (j : t.Idx)
    (e : Host.reduce IntOp.andi x init h hu j = 1#1) (i : s.Idx) : x i = 1#1 := by
  have := (of_foldl_andi (fun n => x (s.rowMajor.symm n)) _ _ e).2 (s.rowMajor i)
    (List.mem_filter.mpr ⟨List.mem_finRange _, by simp [ht _ j]⟩)
  simpa using this

/-- An extended real whose absolute value is below infinity is a real number. -/
theorem isReal_of_cmp (x : EReal) (h : Ideal.cmp .olt (max x (-x)) (Ideal.ofBits .f32 0x7F800000#32) = 1#1) : IsReal x := by
  have hb : Ideal.ofBits .f32 0x7F800000#32 = ⊤ := by simp [Ideal.ofBits, Ideal.ieee]
  rw [hb] at h
  induction x using EReal.rec with
  | bot => simp [Ideal.cmp] at h
  | top => simp [Ideal.cmp] at h
  | coe r => exact ⟨r, rfl⟩

end Cert.Proof.Moments

end
-- ==== Proof.PointsSpec.lean ====
module

public import proofs.«01_k».proof.Proof.Gen.PointsRefIdeal.Read
public import proofs.«01_k».proof.Proof.Moments
public import Idealize.ShloMosaic.Lib.Pipeline.ValueKit
public import Idealize.ShloMosaic.Lib.Pointwise

/-!
The first convolution's normalised, rectified features written as sums over all points, and its reference read as them.
-/

@[expose] public section

set_option maxRecDepth 16384

noncomputable section

namespace Cert.Proof.PointsSpec

open Idealize.ShloMosaic

/-- The constant added under the root. -/
abbrev eps : EReal := Ideal.ofBits FTy.f32 925353388#32

/-- The number of points, 16000, as the constant the programs divide by. -/
abbrev count : EReal := Ideal.ofBits FTy.f32 0x467A0000#32

/-- The mean of a column over all points. -/
def mean (z : Fin 16000 → EReal) : EReal := Ideal.div (∑ n, z n) count

/-- The mean of a column's squared deviations from its mean. -/
def var (z : Fin 16000 → EReal) : EReal := Ideal.div (∑ n, (z n - mean z) * (z n - mean z)) count

/-- An entry after normalisation, scaling and rectification. -/
def norm (z m v g b : EReal) : EReal := max (Ideal.div (z - m) (Ideal.sqrt (v + eps)) * g + b) 0

open Cert.PointsRefIdeal Cert.PointsRefIdeal.Gen Cert.PointsRefIdeal.Read

variable (x : FVec Ideal S16000x4 .f32) (w : FVec Ideal S4x128 .f32) (bb g b : FVec Ideal S128 .f32)

/-- The convolution at point `r`, channel `l`. -/
def z (r : Fin 16000) (l : Fin 128) : EReal := ∑ k, x (ix2 r k) * w (ix2 k l) + bb (ix1 l)

/-- The features at point `r`, channel `l`. -/
def feat (r : Fin 16000) (l : Fin 128) : EReal :=
  norm (z x w bb r l) (mean fun n => z x w bb n l) (var fun n => z x w bb n l) (g (ix1 l)) (b (ix1 l))

/-- The squared length of a point's features. -/
def sq (r : Fin 16000) : EReal := ∑ l, feat x w bb g b r l * feat x w bb g b r l

variable (x0 : FVec Ideal S8x1x2000x4 .f32) (x1 : FVec Ideal S128x4x1x1 .f32)

theorem v6_at (r : Fin 16000) (l : Fin 128) :
    val_main_v6 (F := Ideal) x0 x1 bb (ix2 r l) = z (val_main_v0 (F := Ideal) x0) (val_main_v2 (F := Ideal) x1) bb r l := by
  pointwise [val_main_v6, val_main_v5, val_main_v4, val_main_v3]
  rfl

theorem v9_at (l : Fin 128) :
    val_main_v9 (F := Ideal) x0 x1 bb (ix1 l) = mean fun n => z (val_main_v0 (F := Ideal) x0) (val_main_v2 (F := Ideal) x1) bb n l := by
  pointwise [val_main_v9, val_main_v8, val_main_v7, val_main_cst, val_main_cst_0]
  simp only [v6_at]
  rfl

theorem v16_at (l : Fin 128) :
    val_main_v16 (F := Ideal) x0 x1 bb (ix1 l) = var fun n => z (val_main_v0 (F := Ideal) x0) (val_main_v2 (F := Ideal) x1) bb n l := by
  pointwise [val_main_v16, val_main_v15, val_main_v14, val_main_v13, val_main_v12, val_main_v11, val_main_v10, val_main_cst_1, val_main_cst_2]
  simp only [v6_at, v9_at]
  rfl

theorem v32_at (r : Fin 16000) (l : Fin 128) :
    val_main_v32 (F := Ideal) x0 x1 bb g b (ix2 r l) = feat (val_main_v0 (F := Ideal) x0) (val_main_v2 (F := Ideal) x1) bb g b r l := by
  pointwise [val_main_v32, val_main_v31, val_main_v30, val_main_v29, val_main_v28, val_main_v27, val_main_v26, val_main_v25, val_main_v24, val_main_v23,
    val_main_v22, val_main_v21, val_main_v20, val_main_v19, val_main_v18, val_main_v17, val_main_cst_3, val_main_call0_v0, val_main_call0_cst]
  simp only [v6_at, v9_at, v16_at]
  rfl

theorem v35_at (r : Fin 16000) :
    val_main_v35 (F := Ideal) x0 x1 bb g b (ix2 r 0) = sq (val_main_v0 (F := Ideal) x0) (val_main_v2 (F := Ideal) x1) bb g b r := by
  pointwise [val_main_v35, val_main_v34, val_main_v33, val_main_cst_4]
  simp only [v32_at]
  rfl

end Cert.Proof.PointsSpec

end
-- ==== Proof.Rows.lean ====
module

public import Idealize.ShloMosaic.Lib.Pipeline.ValueKit
public import Idealize.ShloMosaic.Lib.Pointwise

/-!
Stores and loads of one row, or a stretch of one row, of a matrix, at an entry.
-/

@[expose] public section

noncomputable section

namespace Cert.Proof.Rows

open Idealize.ShloMosaic

variable {Val : EltTy → Type} {e : EltTy} {R C a b w : Nat}

/-- A matrix's shape. -/
abbrev M (R C : Nat) : Shape := ⟨2, ![R, C]⟩

/-- Entry `l` of the stretch of row `a` from column `b`. -/
theorem idx_eq (inb) (l : Fin w) (i : Fin R) (j : Fin C) (hi : i.val = a) (hj : j.val = b + l.val) :
    (Rect.unit (s := M R C) ![a, b] ![1, w] inb).idx (ix2 (n0 := 1) (n1 := w) 0 l) = ix2 i j := by
  funext x
  refine Fin.ext ?_
  rw [Rect.idx_unit_val]
  match x with
  | 0 => exact hi.symm
  | 1 => exact hj.symm

/-- The last store, where it reaches. -/
theorem canon_hit [∀ e, Nonempty (Val e)] (inb) (p : (M 1 w).Idx → Val e) (L : List (View.Piece Val (M R C) e)) (i : Fin R) (j : Fin C) (l : Fin w)
    (hi : i.val = a) (hj : j.val = b + l.val) :
    View.canon (⟨Rect.unit (s := M R C) ![a, b] ![1, w] inb, p⟩ :: L) (ix2 i j) = p (ix2 0 l) := by
  rw [← idx_eq inb l i j hi hj]
  exact View.canon_cons_emb (Rect.unit (s := M R C) ![a, b] ![1, w] inb) p L (ix2 (n0 := 1) (n1 := w) 0 l)

/-- The last store, where it does not reach. -/
theorem canon_miss [∀ e, Nonempty (Val e)] (inb) (p : (M 1 w).Idx → Val e) (L : List (View.Piece Val (M R C) e)) (i : Fin R) (j : Fin C)
    (h : i.val ≠ a ∨ j.val < b ∨ b + w ≤ j.val) :
    View.canon (⟨Rect.unit (s := M R C) ![a, b] ![1, w] inb, p⟩ :: L) (ix2 i j) = View.canon L (ix2 i j) := by
  refine View.canon_cons_of_not_mem _ L fun hm => ?_
  have hm' := (Rect.mem_set_unit (inb := inb)).mp hm
  have h0 := hm' 0
  have h1 := hm' 1
  simp only [Matrix.cons_val_zero, Matrix.cons_val_one] at h0 h1
  change a ≤ i.val ∧ i.val < a + 1 at h0
  change b ≤ j.val ∧ j.val < b + w at h1
  omega

/-- A load, of what stores left. -/
theorem readCov_at [∀ e, Nonempty (Val e)] {sig : RefSig} {κ : Kind} {sp : Space} (v : View sig κ sp (M R C) e) (L : List (View.Piece Val (M R C) e)) (inb)
    (l : Fin w) (i : Fin R) (j : Fin C) (hi : i.val = a) (hj : j.val = b + l.val) :
    v.readCov L (Rect.unit (s := M R C) ![a, b] ![1, w] inb).toLoadRect (ix2 (n0 := 1) (n1 := w) 0 l) = View.canon L (ix2 i j) := by
  rw [View.readCov_eq_canon', ← idx_eq inb l i j hi hj]

/-- A load of an array. -/
theorem ld_at (X : (M R C).Idx → Val e) (inb) (l : Fin w) (i : Fin R) (j : Fin C) (hi : i.val = a) (hj : j.val = b + l.val) :
    View.ld X (Rect.unit (s := M R C) ![a, b] ![1, w] inb) (ix2 (n0 := 1) (n1 := w) 0 l) = X (ix2 i j) := by
  rw [← idx_eq inb l i j hi hj]

end Cert.Proof.Rows

end
-- ==== Proof.PointsValue.lean ====
module

public import proofs.«01_k».proof.Proof.PointsRun
public import proofs.«01_k».proof.Proof.PointsSpec
public import proofs.«01_k».proof.Proof.Rows
public import Idealize.ShloMosaic.Lib.Pipeline.ValueKit
public import Idealize.ShloMosaic.Lib.Pointwise

/-!
The first two calls' results, entry by entry: the batch sums, the host's moments of them, the features and their squared lengths.
-/

@[expose] public section

set_option maxRecDepth 16384

noncomputable section

namespace Cert.Proof.PointsValue

open Cert.PointsIdeal Cert.PointsIdeal.Gen
open Idealize.ShloMosaic Idealize.ShloMosaic.TcCoe Idealize.SL.Sem
open Idealize.ShloMosaic.Pipeline (Dat)
open Cert.Proof.Rows

theorem pay01 (x : FVec Ideal S1000x4 .f32) (w : FVec Ideal S4x128 .f32) (bb : FVec Ideal S1x128 .f32) (r : Fin 1000) (l : Fin 128) :
    k0_pay1 (F := Ideal) x w bb (ix2 r l) = ∑ k : Fin 4, x (ix2 r k) * w (ix2 k l) + bb (ix2 0 l) := by
  pointwise [k0_pay1]

theorem pay02 (i : S2x128.Idx) : k0_pay2 (F := Ideal) i = (0 : EReal) := by
  pointwise [k0_pay2]

theorem pay03 (x : FVec Ideal S1000x4 .f32) (w : FVec Ideal S4x128 .f32) (bb p : FVec Ideal S1x128 .f32) (l : Fin 128) :
    k0_pay3 (F := Ideal) x w bb p (ix2 0 l) = p (ix2 0 l) + ∑ r : Fin 1000, k0_pay1 (F := Ideal) x w bb (ix2 r l) := by
  unfold k0_pay3
  generalize k0_pay1 (F := Ideal) x w bb = q
  pointwise

theorem pay04 (x : FVec Ideal S1000x4 .f32) (w : FVec Ideal S4x128 .f32) (bb p : FVec Ideal S1x128 .f32) (l : Fin 128) :
    k0_pay4 (F := Ideal) x w bb p (ix2 0 l)
      = p (ix2 0 l) + ∑ r : Fin 1000, k0_pay1 (F := Ideal) x w bb (ix2 r l) * k0_pay1 (F := Ideal) x w bb (ix2 r l) := by
  unfold k0_pay4
  generalize k0_pay1 (F := Ideal) x w bb = q
  pointwise

variable (V : (c : Dev nD) → (b : Ref sig .tc) → Buf (Elt Ideal) ((c : Thread nD τ).loc b))

/-- One point's convolution in the block of grid point `t`. -/
def zb (c : Dev nD) (t : Fin cfg0.N) (r : Fin 1000) (l : Fin 128) : EReal :=
  k0_pay1 (F := Ideal) (iblk0 V c 0 t) (iblk0 V c 1 t) (iblk0 V c 2 t) (ix2 r l)

theorem first0 (c : Dev nD) (t : Fin cfg0.N) (h : t.val % 16 = 0) (l : Fin 128) :
    outsAt0 V c t.val t.isLt (ix2 0 l) = (0 : EReal) + ∑ r, zb V c t r l := by
  rw [outsAt0_A V c t h]; frame_out
  refine (canon_miss (R := 2) (C := 128) (a := 1) (b := 0) (w := 128) _ _ _ 0 l (.inl (by decide))).trans ?_
  refine (canon_hit (R := 2) (C := 128) (a := 0) (b := 0) (w := 128) _ _ _ 0 l l rfl (Nat.zero_add _).symm).trans ?_
  refine (pay03 _ _ _ _ l).trans ?_
  congr 1
  refine (readCov_at (R := 2) (C := 128) (a := 0) (b := 0) (w := 128) _ _ _ l 0 l rfl (Nat.zero_add _).symm).trans ?_
  rw [View.canon_cons_unit_lit]
  · exact pay02 _
  · intro a; fin_cases a <;> rfl

theorem first1 (c : Dev nD) (t : Fin cfg0.N) (h : t.val % 16 = 0) (l : Fin 128) :
    outsAt0 V c t.val t.isLt (ix2 1 l) = (0 : EReal) + ∑ r, zb V c t r l * zb V c t r l := by
  rw [outsAt0_A V c t h]; frame_out
  refine (canon_hit (R := 2) (C := 128) (a := 1) (b := 0) (w := 128) _ _ _ 1 l l rfl (Nat.zero_add _).symm).trans ?_
  refine (pay04 _ _ _ _ l).trans ?_
  congr 1
  refine (readCov_at (R := 2) (C := 128) (a := 1) (b := 0) (w := 128) _ _ _ l 1 l rfl (Nat.zero_add _).symm).trans ?_
  refine (canon_miss (R := 2) (C := 128) (a := 0) (b := 0) (w := 128) _ _ _ 1 l (.inl (by decide))).trans ?_
  rw [View.canon_cons_unit_lit]
  · exact pay02 _
  · intro a; fin_cases a <;> rfl

theorem next0 (c : Dev nD) (t : Fin cfg0.N) (h : ¬ t.val % 16 = 0) (l : Fin 128) (hp : t.val - 1 < cfg0.N) :
    outsAt0 V c t.val t.isLt (ix2 0 l) = outsAt0 V c (t.val - 1) hp (ix2 0 l) + ∑ r, zb V c t r l := by
  rw [outsAt0_B V c t h]; frame_out
  refine (canon_miss (R := 2) (C := 128) (a := 1) (b := 0) (w := 128) _ _ _ 0 l (.inl (by decide))).trans ?_
  refine (canon_hit (R := 2) (C := 128) (a := 0) (b := 0) (w := 128) _ _ _ 0 l l rfl (Nat.zero_add _).symm).trans ?_
  refine (pay03 _ _ _ _ l).trans ?_
  congr 1
  exact ld_at (R := 2) (C := 128) (a := 0) (b := 0) (w := 128) _ _ l 0 l rfl (Nat.zero_add _).symm

theorem next1 (c : Dev nD) (t : Fin cfg0.N) (h : ¬ t.val % 16 = 0) (l : Fin 128) (hp : t.val - 1 < cfg0.N) :
    outsAt0 V c t.val t.isLt (ix2 1 l) = outsAt0 V c (t.val - 1) hp (ix2 1 l) + ∑ r, zb V c t r l * zb V c t r l := by
  rw [outsAt0_B V c t h]; frame_out
  refine (canon_hit (R := 2) (C := 128) (a := 1) (b := 0) (w := 128) _ _ _ 1 l l rfl (Nat.zero_add _).symm).trans ?_
  refine (pay04 _ _ _ _ l).trans ?_
  congr 1
  exact ld_at (R := 2) (C := 128) (a := 1) (b := 0) (w := 128) _ _ l 1 l rfl (Nat.zero_add _).symm

theorem whole0 (c : Dev nD) (l : Fin 128) :
    (dat0 V c).arrAt 3 cfg0.N (ix2 0 l) = ∑ t : Fin cfg0.N, ∑ r, zb V c t r l := by
  have e : (dat0 V c).arrAt 3 cfg0.N = outsAt0 V c t0_15.val t0_15.isLt := by
    refine (dat0 V c).arrAt_eq_of_after_last 3 t0_15 (by decide +kernel) _ fun j => ?_
    blk_simp
    rw [after0_3]
  rw [e]
  refine (Pipeline.eq_sum_fin_of_reset_step_apply_last (fun n h (l : Fin 128) => (outsAt0 V c n h (ix2 0 l) : EReal)) 16 (fun _ => 0)
    (fun t l => ∑ r, zb V c t r l) (fun t h l => first0 V c t h l) (fun t h l => next0 V c t h l _) (le_of_eq N_0) t0_15 rfl l).trans ?_
  exact zero_add _

theorem whole1 (c : Dev nD) (l : Fin 128) :
    (dat0 V c).arrAt 3 cfg0.N (ix2 1 l) = ∑ t : Fin cfg0.N, ∑ r, zb V c t r l * zb V c t r l := by
  have e : (dat0 V c).arrAt 3 cfg0.N = outsAt0 V c t0_15.val t0_15.isLt := by
    refine (dat0 V c).arrAt_eq_of_after_last 3 t0_15 (by decide +kernel) _ fun j => ?_
    blk_simp
    rw [after0_3]
  rw [e]
  refine (Pipeline.eq_sum_fin_of_reset_step_apply_last (fun n h (l : Fin 128) => (outsAt0 V c n h (ix2 1 l) : EReal)) 16 (fun _ => 0)
    (fun t l => ∑ r, zb V c t r l * zb V c t r l) (fun t h l => first1 V c t h l) (fun t h l => next1 V c t h l _) (le_of_eq N_0) t0_15 rfl l).trans ?_
  exact zero_add _

theorem idx0 : ∀ t : Fin cfg0.N, win0_0.index t = ![t.val, 0] ∧ win0_1.index t = ![0, 0] ∧ win0_2.index t = ![0, 0] :=
  (by decide +kernel : ∀ t : Fin grid0.N, _)

theorem idx1 : ∀ t : Fin cfg1.N, win1_0.index t = ![t.val, 0] ∧ win1_1.index t = ![0, 0] ∧ win1_2.index t = ![0, 0]
    ∧ win1_3.index t = ![0, 0] ∧ win1_4.index t = ![t.val, 0] ∧ win1_5.index t = ![t.val, 0] :=
  (by decide +kernel : ∀ t : Fin grid1.N, _)

/-- The convolution of a row of an array. -/
def zrow (x : FVec Ideal S16000x4 .f32) (w : FVec Ideal S4x128 .f32) (bb : FVec Ideal S1x128 .f32) (r : Fin 16000) (l : Fin 128) : EReal :=
  ∑ k, x (ix2 r k) * w (ix2 k l) + bb (ix2 0 l)

theorem zb_eq (c : Dev nD) (t : Fin cfg0.N) (r : Fin 1000) (l : Fin 128) (h : t.val * 1000 + r.val < 16000) :
    zb V c t r l = zrow (V c main_v0) (V c main_v2) (V c main_v3) ⟨t.val * 1000 + r.val, h⟩ l := by
  unfold zb zrow
  rw [pay01]
  have e0 : ∀ k : Fin 4, iblk0 V c 0 t (ix2 r k) = V c main_v0 (ix2 ⟨t.val * 1000 + r.val, h⟩ k) := fun k => by blk_ext! [iblk0, idx0 t]
  have e1 : ∀ k : Fin 4, iblk0 V c 1 t (ix2 k l) = V c main_v2 (ix2 k l) := fun k => by blk_ext! [iblk0, idx0 t]
  have e2 : iblk0 V c 2 t (ix2 0 l) = V c main_v3 (ix2 0 l) := by blk_ext! [iblk0, idx0 t]
  simp only [e0, e1, e2]

/-- The mean of each channel, from the two rows of sums. -/
def meanRow (S : FVec Ideal S2x128 .f32) : FVec Ideal S128 .f32 :=
  Host.divf (shapeCast S128 (extractStridedSlice S1x128 ![0, 0] S slices_S2x128_S1x128_0_0) shapeCasts_S1x128_S128)
    (broadcastInDim S128 ![] bcast_S_S128 (constant (F := Ideal) S_ .f32 0x467A0000#32))

/-- The mean of each channel's squares less the square of its mean. -/
def varRow (S : FVec Ideal S2x128 .f32) : FVec Ideal S128 .f32 :=
  subf (Host.divf (shapeCast S128 (extractStridedSlice S1x128 ![1, 0] S slices_S2x128_S1x128_1_0) shapeCasts_S1x128_S128)
    (broadcastInDim S128 ![] bcast_S_S128 (constant (F := Ideal) S_ .f32 0x467A0000#32))) (mulf (meanRow S) (meanRow S))

/-- The four rows the second call reads. -/
def stack (a0 a1 a2 a3 : FVec Ideal S128 .f32) : FVec Ideal S4x128 .f32 :=
  concatenate S4x128 0 [⟨S1x128, broadcastInDim S1x128 ![1] bcast_S128_S1x128_1 a0⟩, ⟨S1x128, broadcastInDim S1x128 ![1] bcast_S128_S1x128_1 a1⟩,
    ⟨S1x128, broadcastInDim S1x128 ![1] bcast_S128_S1x128_1 a2⟩, ⟨S1x128, broadcastInDim S1x128 ![1] bcast_S128_S1x128_1 a3⟩]
    concatenates_S1x128_S1x128_S1x128_S1x128_S4x128_d0

theorem meanRow_at (S : FVec Ideal S2x128 .f32) (l : Fin 128) :
    meanRow S (ix1 l) = Ideal.div (S (ix2 0 l)) (Ideal.ofBits .f32 0x467A0000#32) := by
  pointwise [meanRow]

theorem varRow_at (S : FVec Ideal S2x128 .f32) (l : Fin 128) :
    varRow S (ix1 l) = Ideal.div (S (ix2 1 l)) (Ideal.ofBits .f32 0x467A0000#32) - meanRow S (ix1 l) * meanRow S (ix1 l) := by
  unfold varRow
  generalize meanRow S = q
  pointwise

theorem stack0 (a0 a1 a2 a3 : FVec Ideal S128 .f32) (l : Fin 128) : stack a0 a1 a2 a3 (ix2 0 l) = a0 (ix1 l) := by
  pointwise [stack]

theorem stack1 (a0 a1 a2 a3 : FVec Ideal S128 .f32) (l : Fin 128) : stack a0 a1 a2 a3 (ix2 1 l) = a1 (ix1 l) := by
  pointwise [stack]

theorem stack2 (a0 a1 a2 a3 : FVec Ideal S128 .f32) (l : Fin 128) : stack a0 a1 a2 a3 (ix2 2 l) = a2 (ix1 l) := by
  pointwise [stack]

theorem stack3 (a0 a1 a2 a3 : FVec Ideal S128 .f32) (l : Fin 128) : stack a0 a1 a2 a3 (ix2 3 l) = a3 (ix1 l) := by
  pointwise [stack]

theorem after_v19 (W : Valuation τ sig (Elt Ideal)) : StableHlo.after hostOps1 W (Proc.devRef .tc main_v19)
    = stack (meanRow (W (Proc.devRef .tc main_v4))) (varRow (W (Proc.devRef .tc main_v4)))
        (W (Proc.devRef .tc main_arg3)) (W (Proc.devRef .tc main_arg4)) := by
  simp only [hostOps1, StableHlo.after_cons, StableHlo.after_nil]
  rfl

variable (m : (ℓ : Loc nD τ sig) → Buf (Elt Ideal) ℓ) (ρ : Dev nD → PrngReg)

/-- The two rows of sums the first call leaves. -/
def sums (c : Dev nD) : FVec Ideal S2x128 .f32 := (dat0 (V1 m ρ) c).arrAt 3 cfg0.N

theorem v19_eq (c : Dev nD) : V3 m ρ c main_v19
    = stack (meanRow (sums m ρ c)) (varRow (sums m ρ c)) (m ((c : Thread nD τ).loc main_arg3)) (m ((c : Thread nD τ).loc main_arg4)) := by
  refine (after_v19 _).trans ?_
  rw [W2_args m ρ c main_arg3 (by decide), W2_args m ρ c main_arg4 (by decide)]
  rw [show W2 m ρ c (Proc.devRef .tc main_v4) = sums m ρ c from W2_arr m ρ c 3]

theorem V3_v0 (c : Dev nD) : V3 m ρ c main_v0 = V1 m ρ c main_v0 :=
  (W3_of m ρ c main_v0 (by decide)).trans (W2_of m ρ c main_v0 (by decide))

theorem V3_v2 (c : Dev nD) : V3 m ρ c main_v2 = V1 m ρ c main_v2 :=
  (W3_of m ρ c main_v2 (by decide)).trans (W2_of m ρ c main_v2 (by decide))

theorem V3_v3 (c : Dev nD) : V3 m ρ c main_v3 = V1 m ρ c main_v3 :=
  (W3_of m ρ c main_v3 (by decide)).trans (W2_of m ρ c main_v3 (by decide))

theorem V1_v0 (c : Dev nD) : V1 m ρ c main_v0 = shapeCast S16000x4 (m ((c : Thread nD τ).loc main_arg0)) shapeCasts_S8x1x2000x4_S16000x4 := by
  show StableHlo.after hostOps0 _ (Proc.devRef .tc main_v0) = _
  simp only [hostOps0, StableHlo.after_cons, StableHlo.after_nil]
  rfl

theorem V1_v2 (c : Dev nD) : V1 m ρ c main_v2
    = transpose S4x128 [1, 0] (shapeCast S128x4 (m ((c : Thread nD τ).loc main_arg1)) shapeCasts_S128x4x1x1_S128x4) transposes_S128x4_S4x128_1_0 := by
  show StableHlo.after hostOps0 _ (Proc.devRef .tc main_v2) = _
  simp only [hostOps0, StableHlo.after_cons, StableHlo.after_nil]
  rfl

theorem V1_v3 (c : Dev nD) : V1 m ρ c main_v3 = shapeCast S1x128 (m ((c : Thread nD τ).loc main_arg2)) shapeCasts_S128_S1x128 := by
  show StableHlo.after hostOps0 _ (Proc.devRef .tc main_v3) = _
  simp only [hostOps0, StableHlo.after_cons, StableHlo.after_nil]
  rfl

theorem pay11 (x : FVec Ideal S2000x4 .f32) (w : FVec Ideal S4x128 .f32) (bb mm v g b : FVec Ideal S1x128 .f32) (r : Fin 2000) (l : Fin 128) :
    k1_pay1 (F := Ideal) x w bb mm v g b (ix2 r l)
      = PointsSpec.norm (∑ k : Fin 4, x (ix2 r k) * w (ix2 k l) + bb (ix2 0 l)) (mm (ix2 0 l)) (v (ix2 0 l)) (g (ix2 0 l)) (b (ix2 0 l)) := by
  pointwise [k1_pay1]
  rfl

theorem pay12 (x : FVec Ideal S2000x4 .f32) (w : FVec Ideal S4x128 .f32) (bb mm v g b : FVec Ideal S1x128 .f32) (r : Fin 2000) (l : Fin 1) :
    k1_pay2 (F := Ideal) x w bb mm v g b (ix2 r l)
      = ∑ x_1 : Fin 128, k1_pay1 (F := Ideal) x w bb mm v g b (ix2 r x_1) * k1_pay1 (F := Ideal) x w bb mm v g b (ix2 r x_1) := by
  unfold k1_pay2
  generalize k1_pay1 (F := Ideal) x w bb mm v g b = q
  pointwise

/-- The points, the weights and the result at a point, over the arguments. -/
def xs (c : Dev nD) : FVec Ideal S16000x4 .f32 :=
  shapeCast S16000x4 (m ((c : Thread nD τ).loc main_arg0)) shapeCasts_S8x1x2000x4_S16000x4

/-- The weights as a 4×128 matrix. -/
def ws (c : Dev nD) : FVec Ideal S4x128 .f32 :=
  transpose S4x128 [1, 0] (shapeCast S128x4 (m ((c : Thread nD τ).loc main_arg1)) shapeCasts_S128x4x1x1_S128x4) transposes_S128x4_S4x128_1_0

/-- The convolution at a point, over the arguments. -/
abbrev zs (c : Dev nD) : Fin 16000 → Fin 128 → EReal := PointsSpec.z (xs m c) (ws m c) (m ((c : Thread nD τ).loc main_arg2))

theorem bias_at (b : FVec Ideal S128 .f32) (l : Fin 128) : shapeCast S1x128 b shapeCasts_S128_S1x128 (ix2 0 l) = b (ix1 l) := by
  pointwise

theorem zrow_eq (c : Dev nD) (r : Fin 16000) (l : Fin 128) :
    zrow (V1 m ρ c main_v0) (V1 m ρ c main_v2) (V1 m ρ c main_v3) r l = zs m c r l := by
  rw [V1_v0, V1_v2, V1_v3]
  unfold zrow
  rw [bias_at]
  rfl

theorem sums0 (c : Dev nD) (l : Fin 128) : sums m ρ c (ix2 0 l) = ∑ n, zs m c n l := by
  refine (whole0 (V1 m ρ) c l).trans ?_
  refine Fin.sum_mul_add_congr (L := 16000) (S := cfg0.N) (n := 1000) fun s k hl => ?_
  exact (zb_eq (V1 m ρ) c s k l hl).trans (zrow_eq m ρ c _ l)

theorem sums1 (c : Dev nD) (l : Fin 128) : sums m ρ c (ix2 1 l) = ∑ n, zs m c n l * zs m c n l := by
  refine (whole1 (V1 m ρ) c l).trans ?_
  refine Fin.sum_mul_add_congr (L := 16000) (S := cfg0.N) (n := 1000) fun s k hl => ?_
  exact congrArg (fun e => e * e) ((zb_eq (V1 m ρ) c s k l hl).trans (zrow_eq m ρ c _ l))

theorem count_eq : PointsSpec.count = ((16000 : ℝ) : EReal) := by
  simp [Ideal.ofBits, Ideal.ieee, -EReal.coe_mul]; norm_num

theorem mean_eq (c : Dev nD) (l : Fin 128) : meanRow (sums m ρ c) (ix1 l) = PointsSpec.mean fun n => zs m c n l := by
  rw [meanRow_at, sums0]; rfl

theorem var_eq (c : Dev nD) (l : Fin 128) (hz : ∀ n, Moments.IsReal (zs m c n l)) :
    varRow (sums m ρ c) (ix1 l) = PointsSpec.var fun n => zs m c n l := by
  rw [varRow_at, mean_eq, sums1]
  unfold PointsSpec.var PointsSpec.mean
  rw [show Ideal.ofBits .f32 0x467A0000#32 = ((16000 : ℝ) : EReal) from count_eq]
  rw [count_eq]
  exact Moments.var_eq (fun n => zs m c n l) hz 16000 (by norm_num) (by simp)

/-- The features over the arguments. -/
abbrev feats (c : Dev nD) : Fin 16000 → Fin 128 → EReal :=
  PointsSpec.feat (xs m c) (ws m c) (m ((c : Thread nD τ).loc main_arg2)) (m ((c : Thread nD τ).loc main_arg3)) (m ((c : Thread nD τ).loc main_arg4))

/-- The row of point `r` of cloud `t`. -/
def rowOf (t : Fin cfg1.N) (r : Fin 2000) : Fin 16000 :=
  ⟨t.val * 2000 + r.val, by have := t.isLt; have e : cfg1.N = 8 := N_1; omega⟩

theorem feat_at (c : Dev nD) (hz : ∀ n l, Moments.IsReal (zs m c n l)) (t : Fin cfg1.N) (r : Fin 2000) (l : Fin 128) :
    k1_pay1 (F := Ideal) (iblk1 (V3 m ρ) c 0 t) (iblk1 (V3 m ρ) c 1 t) (iblk1 (V3 m ρ) c 2 t) (View.ld (iblk1 (V3 m ρ) c 3 t) r1_3)
      (View.ld (iblk1 (V3 m ρ) c 3 t) r1_4) (View.ld (iblk1 (V3 m ρ) c 3 t) r1_5) (View.ld (iblk1 (V3 m ρ) c 3 t) r1_6) (ix2 r l)
      = feats m c (rowOf t r) l := by
  refine (pay11 _ _ _ _ _ _ _ r l).trans ?_
  have e0 : ∀ (V : (c : Dev nD) → (b : Ref sig .tc) → Buf (Elt Ideal) ((c : Thread nD τ).loc b)) (k : Fin 4),
      iblk1 V c 0 t (ix2 r k) = V c main_v0 (ix2 (rowOf t r) k) := fun V k => by blk_ext! [iblk1, idx1 t, rowOf]
  have e1 : ∀ (V : (c : Dev nD) → (b : Ref sig .tc) → Buf (Elt Ideal) ((c : Thread nD τ).loc b)) (k : Fin 4),
      iblk1 V c 1 t (ix2 k l) = V c main_v2 (ix2 k l) := fun V k => by blk_ext! [iblk1, idx1 t]
  have e2 : ∀ (V : (c : Dev nD) → (b : Ref sig .tc) → Buf (Elt Ideal) ((c : Thread nD τ).loc b)),
      iblk1 V c 2 t (ix2 0 l) = V c main_v3 (ix2 0 l) := fun V => by blk_ext! [iblk1, idx1 t]
  have e3 : ∀ (V : (c : Dev nD) → (b : Ref sig .tc) → Buf (Elt Ideal) ((c : Thread nD τ).loc b)) (i : Fin 4),
      iblk1 V c 3 t (ix2 i l) = V c main_v19 (ix2 i l) := fun V i => by blk_ext! [iblk1, idx1 t]
  have g0 : View.ld (iblk1 (V3 m ρ) c 3 t) r1_3 (ix2 0 l) = PointsSpec.mean fun n => zs m c n l := by
    refine (ld_at (R := 4) (C := 128) (a := 0) (b := 0) (w := 128) _ _ l 0 l rfl (Nat.zero_add _).symm).trans ?_
    rw [e3, v19_eq, stack0, mean_eq]
  have g1 : View.ld (iblk1 (V3 m ρ) c 3 t) r1_4 (ix2 0 l) = PointsSpec.var fun n => zs m c n l := by
    refine (ld_at (R := 4) (C := 128) (a := 1) (b := 0) (w := 128) _ _ l 1 l rfl (Nat.zero_add _).symm).trans ?_
    rw [e3, v19_eq, stack1, var_eq m ρ c l fun n => hz n l]
  have g2 : View.ld (iblk1 (V3 m ρ) c 3 t) r1_5 (ix2 0 l) = m ((c : Thread nD τ).loc main_arg3) (ix1 l) := by
    refine (ld_at (R := 4) (C := 128) (a := 2) (b := 0) (w := 128) _ _ l 2 l rfl (Nat.zero_add _).symm).trans ?_
    rw [e3, v19_eq, stack2]
  have g3 : View.ld (iblk1 (V3 m ρ) c 3 t) r1_6 (ix2 0 l) = m ((c : Thread nD τ).loc main_arg4) (ix1 l) := by
    refine (ld_at (R := 4) (C := 128) (a := 3) (b := 0) (w := 128) _ _ l 3 l rfl (Nat.zero_add _).symm).trans ?_
    rw [e3, v19_eq, stack3]
  rw [g0, g1, g2, g3]
  simp only [e0, e1, e2]
  rw [V3_v0, V3_v2, V3_v3]
  have h := zrow_eq m ρ c (rowOf t r) l
  unfold zrow at h
  rw [h]
  rfl

/-- What a grid point writes of the features. -/
theorem block4 (c : Dev nD) (hz : ∀ n l, Moments.IsReal (zs m c n l)) (t : Fin cfg1.N) (y : S2000x128.Idx) :
    out1_4 (iblk1 (V3 m ρ) c 0 t) (iblk1 (V3 m ρ) c 1 t) (iblk1 (V3 m ρ) c 2 t) (iblk1 (V3 m ρ) c 3 t) y = feats m c (rowOf t (y 0)) (y 1) := by
  frame_out
  obtain ⟨i, j, rfl⟩ : ∃ (i : Fin 2000) (j : Fin 128), y = ix2 i j := ⟨y 0, y 1, eq_ix2 y⟩
  exact feat_at m ρ c hz t i j

/-- What a grid point writes of the squared lengths. -/
theorem block5 (c : Dev nD) (hz : ∀ n l, Moments.IsReal (zs m c n l)) (t : Fin cfg1.N) (y : S2000x1.Idx) :
    out1_5 (iblk1 (V3 m ρ) c 0 t) (iblk1 (V3 m ρ) c 1 t) (iblk1 (V3 m ρ) c 2 t) (iblk1 (V3 m ρ) c 3 t) y
      = ∑ l, feats m c (rowOf t (y 0)) l * feats m c (rowOf t (y 0)) l := by
  frame_out
  obtain ⟨i, j, rfl⟩ : ∃ (i : Fin 2000) (j : Fin 1), y = ix2 i j := ⟨y 0, y 1, eq_ix2 y⟩
  refine (pay12 _ _ _ _ _ _ _ i j).trans ?_
  exact Finset.sum_congr rfl fun l _ => congrArg (fun e => e * e) (feat_at m ρ c hz t i l)

theorem final4 (c : Dev nD) (hz : ∀ n l, Moments.IsReal (zs m c n l)) :
    (dat1 (V3 m ρ) c).arrAt 4 cfg1.N = fun i => feats m c (i 0) (i 1) := by
  refine (dat1 (V3 m ρ) c).arrAt_eq_of_covers 4 _ (by decide +kernel) fun t _ y => ?_
  blk_simp
  rw [after1_4]
  refine (block4 m ρ c hz t y).trans ?_
  have e : ((View.whole main_v20_0).slice (win1_4.rect t)).emb y = ix2 (n0 := 16000) (n1 := 128) (rowOf t (y 0)) (y 1) := by
    blk_ext [idx1 t, rowOf]
  rw [e]
  rfl

theorem final5 (c : Dev nD) (hz : ∀ n l, Moments.IsReal (zs m c n l)) :
    (dat1 (V3 m ρ) c).arrAt 5 cfg1.N = fun i => ∑ l, feats m c (i 0) l * feats m c (i 0) l := by
  refine (dat1 (V3 m ρ) c).arrAt_eq_of_covers 5 _ (by decide +kernel) fun t _ y => ?_
  blk_simp
  rw [after1_5]
  refine (block5 m ρ c hz t y).trans ?_
  have e : ((View.whole main_v20_1).slice (win1_5.rect t)).emb y = ix2 (n0 := 16000) (n1 := 1) (rowOf t (y 0)) 0 := by
    blk_ext [idx1 t, rowOf]
  rw [e]
  rfl

end Cert.Proof.PointsValue

end
-- ==== Proof.PointsClaims.lean ====
module

public import proofs.«01_k».proof.Proof.PointsValue
public import proofs.«01_k».proof.Proof.Gen.PointsRefIdeal.Run
public import proofs.«01_k».proof.Proof.Gen.Pre_points_finite
public import proofs.«01_k».proof.Defs

/-!
The claims about the first two calls: their reference runs and leaves its arguments alone, and, over finite points, weights
and biases, they end with the same features and squared lengths.
-/

@[expose] public section

set_option maxRecDepth 16384

noncomputable section

namespace Cert.Proof.PointsClaims

open Idealize.ShloMosaic Idealize.ShloMosaic.TcCoe Idealize.SL.Sem
open Cert.Proof.Moments (IsReal)

/-- The reference runs, leaves its arguments as they were, and has no semaphore. -/
theorem frame_ri : Cert.quiescent_PointsRefIdeal := fun m ρ _ =>
  (θ_run Cert.PointsRefIdeal.defs _ _).mono (fun r h => ⟨fun c => (h c).2.2, sem_eq_zero_of_no_sems (by decide) r.2⟩)
    (Cert.PointsRefIdeal.Value.run (F := Ideal) m ρ)

/-- The same from the memories of the precondition. -/
theorem frame_ri_pre : Cert.quiescent_PointsRefIdeal_pre_points_finite := fun m ρ _ => frame_ri m ρ trivial

section

open Cert.PointsIdeal Cert.PointsIdeal.Gen

variable (m : (ℓ : Loc nD τ sig) → Buf (Elt Ideal) ℓ)

/-- Under the precondition the points, the weights and the biases are real numbers. -/
theorem args_real (h : Cert.Pre_PointsIdeal_points_finite m) (c : Dev nD) :
    (∀ i : S8x1x2000x4.Idx, IsReal (m ((c : Thread nD τ).loc main_arg0) i))
      ∧ (∀ i : S128x4x1x1.Idx, IsReal (m ((c : Thread nD τ).loc main_arg1) i))
      ∧ (∀ i : S128.Idx, IsReal (m ((c : Thread nD τ).loc main_arg2) i)) := by
  have e := congrFun (h c) ValueIdx.ix0
  have key : ∀ u v : BitVec 1, IntOp.andi u v = 1#1 → u = 1#1 ∧ v = 1#1 := by decide
  obtain ⟨e1, e2⟩ := key _ _ e
  obtain ⟨e0, e1⟩ := key _ _ e1
  have hs : ∀ j j' : Cert.Pre_points_finite.S_.Idx, j = j' := fun j j' => funext fun a => a.elim0
  exact ⟨fun i => Moments.isReal_of_cmp _ (Moments.of_reduce_andi _ _ _ _ hs _ e0 i),
    fun i => Moments.isReal_of_cmp _ (Moments.of_reduce_andi _ _ _ _ hs _ e1 i),
    fun i => Moments.isReal_of_cmp _ (Moments.of_reduce_andi _ _ _ _ hs _ e2 i)⟩

theorem z_real (h : Cert.Pre_PointsIdeal_points_finite m) (c : Dev nD) (n : Fin 16000) (l : Fin 128) :
    IsReal (PointsValue.zs m c n l) := by
  obtain ⟨h0, h1, h2⟩ := args_real m h c
  exact (IsReal.sum fun k _ => IsReal.mul (h0 _) (h1 _)).add (h2 _)

end

/-- The two calls and the reference end with the same features and squared lengths. -/
theorem algebraic : Cert.algebraic_PointsIdeal_PointsRefIdeal_pre_points_finite := by
  intro m ρ m' ρ' hpre hagree
  refine ⟨fun c => (Cert.PointsIdeal.Gen.dat1 (Cert.PointsIdeal.Gen.V3 m ρ) c).arrAt 4 Cert.PointsIdeal.cfg1.N,
    fun c => (Cert.PointsIdeal.Gen.dat1 (Cert.PointsIdeal.Gen.V3 m ρ) c).arrAt 5 Cert.PointsIdeal.cfg1.N,
    PointsRun.run (F := Ideal) m ρ, ?_⟩
  refine (θ_run Cert.PointsRefIdeal.defs _ _).mono (fun r h c => ⟨(h c).1.trans ?_, (h c).2.1.trans ?_, (h c).2.2⟩)
    (Cert.PointsRefIdeal.Value.run (F := Ideal) m' ρ')
  · obtain ⟨h0, h1, h2, h3, h4⟩ := hagree c
    rw [Cert.PointsRefIdeal.Read.val_main_v32_eq, h0, h1, h2, h3, h4]
    refine Eq.trans ?_ (PointsValue.final4 m ρ c (z_real m hpre c)).symm
    funext i
    obtain ⟨a, b, rfl⟩ : ∃ (a : Fin 16000) (b : Fin 128), i = ix2 a b := ⟨i 0, i 1, eq_ix2 i⟩
    exact PointsSpec.v32_at _ _ _ _ _ a b
  · obtain ⟨h0, h1, h2, h3, h4⟩ := hagree c
    rw [Cert.PointsRefIdeal.Read.val_main_v35_eq, h0, h1, h2, h3, h4]
    refine Eq.trans ?_ (PointsValue.final5 m ρ c (z_real m hpre c)).symm
    funext i
    obtain ⟨a, b, rfl⟩ : ∃ (a : Fin 16000) (b : Fin 1), i = ix2 a b := ⟨i 0, i 1, eq_ix2 i⟩
    obtain rfl : b = 0 := Subsingleton.elim _ _
    exact PointsSpec.v35_at _ _ _ _ _ a

end Cert.Proof.PointsClaims

end
-- ==== Proof.Nearest.lean ====
module

public import Idealize.ShloMosaic.Lib.Pipeline.ValueKit
public import Idealize.ShloMosaic.Lib.Pointwise
public import Idealize.ShloMosaic.Lib.SortPrefix
public import Idealize.ShloMosaic.Lib.WordArith

/-!
The greatest entries of a row, found one at a time: the first place that holds the row's maximum is taken and its entry is
replaced by minus infinity. Over entries none of which is minus infinity this takes the places in the order of the stable
descending sort.
-/

@[expose] public section

noncomputable section

namespace Cert.Proof.Nearest

open Idealize.ShloMosaic

/-- A row of 2000 scores. -/
abbrev Row : Type := Fin 2000 → EReal

theorem low : Ideal.ofBits FTy.f32 4286578688#32 = ⊥ := by
  simp [Ideal.ofBits, Ideal.ieee]

/-- The least place of the row's maximum, as the call computes it: the minimum over places of the place's number where the
    entry is the maximum, and of a large number elsewhere. -/
def bestRow (p : Row) : BitVec 32 :=
  Finset.fold IntOp.minsi (2147483647#32)
    (fun x => if p x = Finset.fold max (Ideal.ofBits FTy.f32 4286578688#32) (fun x => p x) Finset.univ then BitVec.ofNat 32 x.val else 1073741824#32)
    Finset.univ

/-- The row with that place's entry replaced. -/
def nextRow (p : Row) : Row := fun l =>
  Scalar.select (IntOp.cmpi CmpIPredicate.eq (BitVec.ofNat 32 l.val) (bestRow p)) (Ideal.ofBits FTy.f32 4286578688#32) (p l)

/-- A signed minimum of words without their sign bit is one of them, or the start, and none is less. -/
theorem fold_minsi (f : Fin 2000 → BitVec 32) (hf : ∀ x, (f x).toNat < 2 ^ 31) (s : Finset (Fin 2000)) :
    (Finset.fold IntOp.minsi (2147483647#32) f s).toNat < 2 ^ 31
      ∧ (Finset.fold IntOp.minsi (2147483647#32) f s = 2147483647#32 ∨ ∃ x, Finset.fold IntOp.minsi (2147483647#32) f s = f x)
      ∧ ∀ x ∈ s, (Finset.fold IntOp.minsi (2147483647#32) f s).toNat ≤ (f x).toNat := by
  classical
  induction s using Finset.induction_on with
  | empty => exact ⟨by simp, Or.inl (by simp), by simp⟩
  | insert a s ha ih =>
    obtain ⟨h1, h2, h3⟩ := ih
    rw [Finset.fold_insert ha]
    generalize Finset.fold IntOp.minsi (2147483647#32) f s = v at h1 h2 h3 ⊢
    have e := WordArith.toNat_minsi_of_lt (f a) v (hf a) h1
    refine ⟨by rw [e]; exact lt_of_le_of_lt (min_le_right _ _) h1, ?_, fun x hx => ?_⟩
    · rcases le_total (f a).toNat v.toNat with h | h
      · exact Or.inr ⟨a, BitVec.eq_of_toNat_eq (e.trans (min_eq_left h))⟩
      · have : IntOp.minsi (f a) v = v := BitVec.eq_of_toNat_eq (e.trans (min_eq_right h))
        rw [this]; exact h2
    · rw [e]
      rcases Finset.mem_insert.mp hx with rfl | hx
      · exact min_le_left _ _
      · exact (min_le_right _ _).trans (h3 x hx)

/-- A maximum from minus infinity is one of the entries, and none is greater. -/
theorem fold_max (p : Row) : ∃ x0, p x0 = Finset.fold max (Ideal.ofBits FTy.f32 4286578688#32) (fun x => p x) Finset.univ
    ∧ ∀ x, p x ≤ p x0 := by
  rw [low]
  obtain ⟨x0, -, h⟩ := Finset.exists_mem_eq_sup (Finset.univ : Finset (Fin 2000)) ⟨0, Finset.mem_univ _⟩ p
  exact ⟨x0, h.symm, fun x => h ▸ Finset.le_sup (f := p) (Finset.mem_univ x)⟩

/-- The call's minimum is the number of the first place that holds the row's maximum. -/
theorem best_exists (p : Row) : ∃ σ : Fin 2000, bestRow p = BitVec.ofNat 32 σ.val ∧ (∀ k, p k ≤ p σ) ∧ ∀ k, p k = p σ → σ ≤ k := by
  obtain ⟨x0, hx0, hmax⟩ := fold_max p
  have hn : ∀ x : Fin 2000, (BitVec.ofNat 32 x.val).toNat = x.val := fun x => by
    rw [BitVec.toNat_ofNat]; exact Nat.mod_eq_of_lt (by omega)
  have key := fold_minsi
    (fun x => if p x = Finset.fold max (Ideal.ofBits FTy.f32 4286578688#32) (fun x => p x) Finset.univ then BitVec.ofNat 32 x.val else 1073741824#32)
    (fun x => by
      show (ite _ _ _ : BitVec 32).toNat < _
      split
      · rw [hn]; omega
      · decide) Finset.univ
  change (bestRow p).toNat < 2 ^ 31 ∧ (bestRow p = 2147483647#32 ∨ ∃ x, bestRow p = _) ∧ ∀ x ∈ Finset.univ, (bestRow p).toNat ≤ _ at key
  obtain ⟨-, h2, h3⟩ := key
  simp only [← hx0] at h2 h3
  have hle : ∀ k, p k = p x0 → (bestRow p).toNat ≤ k.val := fun k hk => by
    have := h3 k (Finset.mem_univ _)
    rwa [if_pos hk, hn] at this
  have h0 := hle x0 rfl
  rcases h2 with h2 | ⟨σ, h2⟩
  · rw [h2] at h0
    exact absurd h0 (by simp; omega)
  · by_cases hσ : p σ = p x0
    · rw [if_pos hσ] at h2
      refine ⟨σ, h2, fun k => hσ ▸ hmax k, fun k hk => ?_⟩
      have := hle k (hk.trans hσ)
      rw [h2, hn] at this
      exact this
    · rw [if_neg hσ] at h2
      rw [h2] at h0
      exact absurd h0 (by simp; omega)

/-- The first place that holds the row's maximum. -/
def first (p : Row) : Fin 2000 := (best_exists p).choose

theorem best_eq (p : Row) : bestRow p = BitVec.ofNat 32 (first p).val := (best_exists p).choose_spec.1

theorem le_first (p : Row) (k : Fin 2000) : p k ≤ p (first p) := (best_exists p).choose_spec.2.1 k

theorem first_le (p : Row) (k : Fin 2000) (h : p k = p (first p)) : first p ≤ k := (best_exists p).choose_spec.2.2 k h

theorem next_eq (p : Row) (l : Fin 2000) : nextRow p l = if first p = l then ⊥ else p l := by
  unfold nextRow
  rw [best_eq, low]
  have e : IntOp.cmpi CmpIPredicate.eq (BitVec.ofNat 32 l.val) (BitVec.ofNat 32 (first p).val) = BitVec.ofBool (decide (first p = l)) := by
    show BitVec.ofBool _ = _
    congr 1
    rw [beq_eq_decide]
    refine decide_eq_decide.mpr ⟨fun h => ?_, fun h => by rw [h]⟩
    have h' := congrArg BitVec.toNat h
    rw [BitVec.toNat_ofNat, BitVec.toNat_ofNat, Nat.mod_eq_of_lt (by omega), Nat.mod_eq_of_lt (by omega)] at h'
    exact Fin.ext h'.symm
  rw [e]
  by_cases h : first p = l
  · rw [if_pos h, decide_eq_true h]; rfl
  · rw [if_neg h, decide_eq_false h]; rfl

/-- The place taken in round `r`. -/
def sel (q : Row) (r : Nat) : Fin 2000 := first (nextRow^[r] q)

theorem best_iterate (q : Row) (r : Nat) : bestRow (nextRow^[r] q) = BitVec.ofNat 32 (sel q r).val := best_eq _

open Classical in
/-- After `r` rounds the places taken hold minus infinity, the others their entries. -/
theorem iterate_eq (q : Row) (r : Nat) (l : Fin 2000) : nextRow^[r] q l = if ∃ j < r, sel q j = l then ⊥ else q l := by
  induction r with
  | zero => simp
  | succ r ih =>
    rw [Function.iterate_succ_apply', next_eq, ih]
    by_cases h : first (nextRow^[r] q) = l
    · rw [if_pos h, if_pos ⟨r, Nat.lt_succ_self r, h⟩]
    · rw [if_neg h]
      refine if_congr ⟨fun ⟨j, hj, e⟩ => ⟨j, Nat.lt_succ_of_lt hj, e⟩, fun ⟨j, hj, e⟩ => ⟨j, ?_, e⟩⟩ rfl rfl
      refine lt_of_le_of_ne (Nat.le_of_lt_succ hj) fun hjr => h ?_
      subst hjr; exact e

variable (q : Row) (hq : ∀ k, q k ≠ ⊥)
include hq

/-- A round takes a place not taken before. -/
theorem fresh (r : Nat) (hr : r < 2000) (j : Nat) (hj : j < r) : sel q j ≠ sel q r := by
  classical
  intro e
  obtain ⟨l, hl⟩ : ∃ l : Fin 2000, l ∉ (Finset.range r).image (sel q) := by
    by_contra hall
    push Not at hall
    have : Fintype.card (Fin 2000) ≤ r :=
      (Finset.card_le_card (fun l _ => hall l : Finset.univ ⊆ (Finset.range r).image (sel q))).trans
        (Finset.card_image_le.trans (Finset.card_range r).le)
    rw [Fintype.card_fin] at this
    omega
  have hl' : ¬ ∃ j < r, sel q j = l := fun ⟨j, hj, e⟩ => hl (Finset.mem_image.mpr ⟨j, Finset.mem_range.mpr hj, e⟩)
  have h := le_first (nextRow^[r] q) l
  rw [iterate_eq, if_neg hl', iterate_eq q r (first (nextRow^[r] q)), if_pos ⟨j, hj, e⟩] at h
  exact hq l (le_bot_iff.mp h)

/-- A place not taken so far is not before the one a round takes. -/
theorem not_before (r : Nat) (hr : r < 2000) (k : Fin 2000) (hk : ∀ j < r, sel q j ≠ k) :
    q k ≤ q (sel q r) ∧ (q k = q (sel q r) → sel q r ≤ k) := by
  have hk' : ¬ ∃ j < r, sel q j = k := fun ⟨j, hj, e⟩ => hk j hj e
  have hs : ¬ ∃ j < r, sel q j = sel q r := fun ⟨j, hj, e⟩ => fresh q hq r hr j hj e
  have e1 : nextRow^[r] q k = q k := by rw [iterate_eq, if_neg hk']
  have e2 : nextRow^[r] q (sel q r) = q (sel q r) := by rw [iterate_eq, if_neg hs]
  have h := le_first (nextRow^[r] q) k
  have h' := first_le (nextRow^[r] q) k
  change nextRow^[r] q k ≤ nextRow^[r] q (sel q r) at h
  change nextRow^[r] q k = nextRow^[r] q (sel q r) → sel q r ≤ k at h'
  rw [e1, e2] at h h'
  exact ⟨h, h'⟩

omit hq in
/-- Sorting positions in ascending order by two relations that agree on every pair with the later position first gives one
    result: an insertion only ever asks whether a later position goes before an earlier one. -/
theorem sort_congr {n : Nat} (R R' : Fin n → Fin n → Bool) (h : ∀ a b : Fin n, a < b → R b a = R' b a) :
    sortedFrom R = sortedFrom R' := by
  have key : ∀ l : List (Fin n), l.Pairwise (· < ·) → stableSort R l = stableSort R' l := by
    intro l hl
    induction l with
    | nil => rfl
    | cons a l ih =>
      rw [List.pairwise_cons] at hl
      unfold stableSort
      rw [ih hl.2]
      exact insertBefore_congr R R' a _ fun b hb => h a b (hl.1 b ((perm_stableSort R' l).mem_iff.mp hb))
  have e : sortPositions n R = sortPositions n R' := key _ (List.pairwise_lt_finRange n)
  funext k
  unfold sortedFrom
  exact List.get_of_eq e _

/-- The stable descending sort of the row begins with the places the rounds take. -/
theorem sorted_eq (R : Fin 2000 → Fin 2000 → Bool) (hR : ∀ k k', R k k' = decide (q k' < q k)) (i : Fin 9) :
    sortedFrom R (i.castLE (by decide)) = sel q i.val := by
  have hB := StrictTotalBefore.of_key_then_position (fun a b : EReal => decide (b < a)) q (by simp)
    (fun a b c h1 h2 => by simp only [decide_eq_true_eq] at *; exact h2.trans h1)
    (fun a b => by simp only [decide_eq_true_eq]; rcases lt_trichotomy a b with h | h | h <;> simp [h])
  rw [sort_congr R (fun k k' => decide (q k' < q k) || (decide (q k = q k') && decide (k < k'))) fun a b hab => by
    rw [hR, decide_eq_false (not_lt.mpr hab.le), Bool.and_false, Bool.or_false]]
  have hno : ∀ (r : Fin 9) (p : Fin 2000), (∀ j < r.val, sel q j ≠ p) →
      (decide (q (sel q r.val) < q p) || (decide (q p = q (sel q r.val)) && decide (p < sel q r.val))) = false := fun r p hp => by
    obtain ⟨h1, h2⟩ := not_before q hq r.val (by omega) p hp
    rw [decide_eq_false (not_lt.mpr h1), Bool.false_or]
    by_cases e : q p = q (sel q r.val)
    · rw [decide_eq_false (not_lt.mpr (h2 e)), Bool.and_false]
    · rw [decide_eq_false e, Bool.false_and]
  refine hB.sortedFrom_eq_of_prefix (by decide) (fun i : Fin 9 => sel q i.val) (fun i j e => ?_) (fun i j hij => ?_) (fun i p hp => ?_) i
  · rcases lt_trichotomy i.val j.val with h | h | h
    · exact absurd e (fresh q hq j.val (by omega) i.val h)
    · exact Fin.ext h
    · exact absurd e.symm (fresh q hq i.val (by omega) j.val h)
  · exact hno i (sel q j.val) fun l hl => fresh q hq j.val (by omega) l (by have : i.val < j.val := hij; omega)
  · exact hno i p fun l hl => hp ⟨l, by omega⟩

end Cert.Proof.Nearest

end
-- ==== Proof.KnnRounds.lean ====
module

public import proofs.«01_k».proof.Proof.Gen.KnnIdeal.Frame
public import proofs.«01_k».proof.Proof.Nearest
public import Idealize.ShloMosaic.Lib.Pipeline.ValueKit
public import Idealize.ShloMosaic.Lib.Pointwise

/-!
The neighbour search's stores at a grid point: nine rounds over each half of the block's rows, each round's store the places
taken by that round.
-/

@[expose] public section

set_option maxRecDepth 16384

noncomputable section

namespace Cert.Proof.KnnRounds

open Cert.KnnIdeal Cert.KnnIdeal.Gen
open Idealize.ShloMosaic Idealize.ShloMosaic.TcCoe Idealize.SL.Sem
open Cert.Proof.Nearest (bestRow nextRow)

/-- The number of its column at every entry. -/
abbrev cols : IVec S200x2000 32 := iota .tc S200x2000 32 [1] iota_S200x2000_d1_w32

/-- A half of the block's scores. -/
abbrev Half : Type := FVec Ideal S200x2000 .f32

/-- The place of every row's maximum. -/
def best (p : Half) : IVec S200x1 32 := k0_pay12 (F := Ideal) cols p

/-- The scores with those places' entries replaced. -/
def next (p : Half) : Half := k0_pay14 (F := Ideal) cols p

/-- The scores after a number of rounds. -/
def rounds (p : Half) : Nat → Half
  | 0 => p
  | t + 1 => next (rounds p t)

/-- Where a row's maximum stands. -/
def mask (p : Half) : IVec S200x2000 1 :=
  cmpf .oeq p (broadcastTo S200x2000 (shapeCast S200x1
    (multiReduction (F := Ideal) .maximumf [1] S200 p 0xFF800000#32 reduces_S200x2000_S200 (.inl rfl) rfl) shapeCasts_S200_S200x1) broadcasts_S200x1_S200x2000)

/-- A store: the places plus the first row of the cloud. -/
def put (v : BitVec 32) (a : IVec S200x1 32) : IVec S200x1 32 := addi a (broadcast S200x1 v)

theorem best_at (p : Half) (i : Fin 200) (l : Fin 1) : best p (ix2 i l) = bestRow fun x => p (ix2 i x) := by
  unfold best
  pointwise [k0_pay12]
  rfl

theorem next_at (p : Half) (i : Fin 200) (l : Fin 2000) : next p (ix2 i l) = nextRow (fun x => p (ix2 i x)) l := by
  have e : bestRow (fun x => p (ix2 i x)) = k0_pay12 (F := Ideal) cols p (ix2 i 0) := (best_at p i 0).symm
  unfold next nextRow k0_pay14
  rw [e]
  generalize k0_pay12 (F := Ideal) cols p = a
  pointwise

theorem iterate_at (p : Half) (r : Nat) (i : Fin 200) :
    (fun l => rounds p r (ix2 i l)) = nextRow^[r] fun l => p (ix2 i l) := by
  induction r with
  | zero => rfl
  | succ r ih =>
    rw [Function.iterate_succ_apply', ← ih]
    exact funext fun l => next_at _ i l

/-- A round's store at a row. -/
theorem put_at (v : BitVec 32) (p : Half) (r : Nat) (i : Fin 200) (l : Fin 1) :
    put v (best (rounds p r)) (ix2 i l) = IntOp.addi (bestRow (nextRow^[r] fun l => p (ix2 i l))) v := by
  rw [← iterate_at p r i, ← best_at _ i l]
  rfl

section

variable (v : BitVec 32) (p : Half)

theorem s10 : k0_pay10 v cols (mask p) = put v (best p) := rfl
theorem s11 : k0_pay11 (F := Ideal) cols p (mask p) = next p := rfl
theorem s16 : k0_pay16 (F := Ideal) v cols p (mask p) = put v (best (next p)) := rfl
theorem s13 : k0_pay13 (F := Ideal) v cols p = put v (best p) := rfl
theorem s14 : k0_pay14 (F := Ideal) cols p = next p := rfl
theorem s21 : k0_pay21 (F := Ideal) v cols p = put v (best p) := rfl
theorem s22 : k0_pay22 (F := Ideal) cols p = next p := rfl
theorem s26 : k0_pay26 (F := Ideal) cols p = best (next p) := rfl
theorem s27 : k0_pay27 (F := Ideal) v cols p = put v (best (next p)) := rfl
theorem s33 : k0_pay33 (F := Ideal) v cols p (best p) = put v (best (next p)) := rfl
theorem s34 : k0_pay34 (F := Ideal) cols p (best p) = next (next p) := rfl
theorem s40 : k0_pay40 (F := Ideal) v cols p = put v (best p) := rfl
theorem s47 : k0_pay47 (F := Ideal) v cols (k0_pay41 (F := Ideal) cols p) (k0_pay45 (F := Ideal) cols p) = put v (best (next p)) := rfl
theorem s48 : k0_pay48 (F := Ideal) cols (k0_pay41 (F := Ideal) cols p) (k0_pay45 (F := Ideal) cols p) = next (next p) := rfl
theorem s53 : k0_pay53 (F := Ideal) v cols (k0_pay41 (F := Ideal) cols p) (k0_pay45 (F := Ideal) cols p) = put v (best (next (next p))) := rfl
theorem s57 : k0_pay57 (F := Ideal) v cols (k0_pay48 (F := Ideal) cols (k0_pay41 (F := Ideal) cols p) (k0_pay45 (F := Ideal) cols p))
    (k0_pay54 (F := Ideal) cols (k0_pay41 (F := Ideal) cols p) (k0_pay45 (F := Ideal) cols p)) = put v (best (next (next (next p)))) := rfl
theorem s24 : k0_pay24 (F := Ideal) v cols (next p) (k0_pay17 (F := Ideal) cols p (mask p)) (k0_pay18 (F := Ideal)) = put v (best (next (next p))) := rfl
theorem s25 : k0_pay25 (F := Ideal) cols (next p) (k0_pay17 (F := Ideal) cols p (mask p)) (k0_pay18 (F := Ideal)) = next (next (next p)) := rfl
theorem s30 : k0_pay30 (F := Ideal) v cols p = put v (best p) := rfl
theorem s31 : k0_pay31 (F := Ideal) cols p = next p := rfl
theorem s37 : k0_pay37 v (k0_pay35 (F := Ideal) cols p) = put v (best (next p)) := rfl
theorem s43 : k0_pay43 (F := Ideal) v cols (k0_pay31 (F := Ideal) cols p) (k0_pay35 (F := Ideal) cols p) = put v (best (next (next p))) := rfl
theorem s44 : k0_pay44 (F := Ideal) cols (k0_pay31 (F := Ideal) cols p) (k0_pay35 (F := Ideal) cols p) = next (next (next p)) := rfl
theorem s50 : k0_pay50 (F := Ideal) v cols p = put v (best p) := rfl
theorem s51 : k0_pay51 (F := Ideal) cols p = next p := rfl
theorem s56 : k0_pay56 (F := Ideal) v cols p = put v (best p) := rfl
theorem s58 : k0_pay1 (k0_pay58 (F := Ideal) cols p) (k0_pay59 v) = put v (best (next p)) := rfl

end

section

variable (p : Half)

theorem r1 : rounds p 1 = next p := rfl
theorem r2 : rounds p 2 = next (next p) := rfl
theorem r3 : rounds p 3 = next (next (next p)) := rfl
theorem r4 : rounds p 4 = next (rounds p 3) := rfl
theorem r5 : rounds p 5 = next (next (rounds p 3)) := rfl
theorem r6 : rounds p 6 = next (rounds p 5) := rfl
theorem r6' : rounds p 6 = next (next (next (rounds p 3))) := rfl
theorem r7 : rounds p 7 = next (next (rounds p 5)) := rfl
theorem r7' : rounds p 7 = next (rounds p 6) := rfl
theorem r8 : rounds p 8 = next (next (next (rounds p 5))) := rfl
theorem r8' : rounds p 8 = next (rounds p 7) := rfl

end

section

variable (v0 : Vec Ideal S2000x128 .f32) (v1 : Vec Ideal S400x128 .f32) (v5 : Vec Ideal S1x1x2000 .f32) (v11 : Vec Ideal S400x1 .f32)

theorem s8 : k0_pay8 (F := Ideal) v0 v1 v5 v11 = mask (k0_pay4 (F := Ideal) v0 v1 v5 v11) := by
  unfold k0_pay8 mask
  generalize k0_pay4 (F := Ideal) v0 v1 v5 v11 = p
  rfl

theorem s7 : k0_pay7 (F := Ideal) v0 v1 v5 v11 = next (k0_pay3 (F := Ideal) v0 v1 v5 v11) := by
  unfold k0_pay7 k0_pay5
  generalize k0_pay3 (F := Ideal) v0 v1 v5 v11 = p
  rfl

theorem s6 (i : grid0.Coords) : k0_pay6 (F := Ideal) i v0 v1 v5 v11
    = put (Scalar.muli (BitVec.ofNat 32 (i 0).val) 2000#32) (best (k0_pay3 (F := Ideal) v0 v1 v5 v11)) := by
  unfold k0_pay6 k0_pay5
  generalize k0_pay3 (F := Ideal) v0 v1 v5 v11 = p
  rfl

end

section

variable (i : grid0.Coords) (x0 : Vec Ideal S2000x128 .f32) (x1 : Vec Ideal S400x128 .f32) (x2 : Vec Ideal S1x1x2000 .f32) (x3 : Vec Ideal S400x1 .f32)

/-- The scores of the block's first rows before the first round. -/
abbrev p0 : Half := k0_pay3 (F := Ideal) (View.ld x0 r0_0) (View.ld x1 r0_1) (View.ld x2 r0_2) (View.ld x3 r0_3)

/-- The scores of the block's last rows before the first round. -/
abbrev p1 : Half := k0_pay4 (F := Ideal) (View.ld x0 r0_0) (View.ld x1 r0_1) (View.ld x2 r0_2) (View.ld x3 r0_3)

/-- The scores of the whole block. -/
abbrev whole : FVec Ideal S400x2000 .f32 := k0_pay2 (F := Ideal) (View.ld x0 r0_0) (View.ld x1 r0_1) (View.ld x2 r0_2) (View.ld x3 r0_3)

/-- The number of the cloud's first row. -/
abbrev base : BitVec 32 := Scalar.muli (BitVec.ofNat 32 (i 0).val) 2000#32

theorem e62 : k0_pay62 (F := Ideal) i x0 x1 x2 x3 = next (p0 x0 x1 x2 x3) := by
  unfold k0_pay62
  exact s7 _ _ _ _

theorem e65 : k0_pay65 (F := Ideal) i x0 x1 x2 x3 = next (next (p0 x0 x1 x2 x3)) := by
  unfold k0_pay65 k0_pay60
  rw [e62, s14]

theorem e68 : k0_pay68 (F := Ideal) i x0 x1 x2 x3 = rounds (p0 x0 x1 x2 x3) 3 := by
  unfold k0_pay68 k0_pay60
  rw [e65, s22, r3]

theorem e70 : k0_pay70 (F := Ideal) i x0 x1 x2 x3 = best (rounds (p0 x0 x1 x2 x3) 3) := by
  unfold k0_pay70 k0_pay60
  rw [e65, s26, r3]

theorem e72 : k0_pay72 (F := Ideal) i x0 x1 x2 x3 = rounds (p0 x0 x1 x2 x3) 5 := by
  unfold k0_pay72 k0_pay60
  rw [e68, e70, s34, r5]

theorem e74 : k0_pay74 (F := Ideal) i x0 x1 x2 x3 = k0_pay41 (F := Ideal) cols (rounds (p0 x0 x1 x2 x3) 5) := by
  unfold k0_pay74 k0_pay60
  rw [e72]

theorem e76 : k0_pay76 (F := Ideal) i x0 x1 x2 x3 = k0_pay45 (F := Ideal) cols (rounds (p0 x0 x1 x2 x3) 5) := by
  unfold k0_pay76 k0_pay60
  rw [e72]

theorem e63 : k0_pay63 (F := Ideal) i x0 x1 x2 x3 = mask (p1 x0 x1 x2 x3) := by
  unfold k0_pay63
  exact s8 _ _ _ _

theorem e64 : k0_pay64 (F := Ideal) i x0 x1 x2 x3 = next (p1 x0 x1 x2 x3) := by
  unfold k0_pay64 k0_pay60 k0_pay61
  rw [e63]
  exact s11 _

theorem e66 : k0_pay66 (F := Ideal) i x0 x1 x2 x3 = k0_pay17 (F := Ideal) cols (p1 x0 x1 x2 x3) (mask (p1 x0 x1 x2 x3)) := by
  unfold k0_pay66 k0_pay60 k0_pay61
  rw [e63]

theorem e69 : k0_pay69 (F := Ideal) i x0 x1 x2 x3 = rounds (p1 x0 x1 x2 x3) 3 := by
  unfold k0_pay69 k0_pay60 k0_pay67
  rw [e64, e66, s25, r3]

theorem e71 : k0_pay71 (F := Ideal) i x0 x1 x2 x3 = k0_pay31 (F := Ideal) cols (rounds (p1 x0 x1 x2 x3) 3) := by
  unfold k0_pay71 k0_pay60
  rw [e69]

theorem e73 : k0_pay73 (F := Ideal) i x0 x1 x2 x3 = k0_pay35 (F := Ideal) cols (rounds (p1 x0 x1 x2 x3) 3) := by
  unfold k0_pay73 k0_pay60
  rw [e69]

theorem e75 : k0_pay75 (F := Ideal) i x0 x1 x2 x3 = rounds (p1 x0 x1 x2 x3) 6 := by
  unfold k0_pay75 k0_pay60
  rw [e71, e73, s44, r6']

theorem e77 : k0_pay77 (F := Ideal) i x0 x1 x2 x3 = rounds (p1 x0 x1 x2 x3) 7 := by
  unfold k0_pay77 k0_pay60
  rw [e75, s51, r7']

/-- What the block holds at a row and a round. -/
def entry (r : Fin 400) (t : Nat) : BitVec 32 :=
  IntOp.addi (bestRow (nextRow^[t] fun l => whole x0 x1 x2 x3 (ix2 r l))) (base i)

theorem tile (h : Nat) (p : Half) (hp : ∀ (k : Fin 200) (l : Fin 2000) (r : Fin 400), r.val = h + k.val → p (ix2 k l) = whole x0 x1 x2 x3 (ix2 r l))
    (t : Nat) (y : S400x9.Idx) (P : IVec S200x1 32) (hP : P = put (base i) (best (rounds p t))) :
    View.TileAt (S := S400x9) (Val := Elt Ideal) (e := .i32) y ![h, t] S200x1.size P (entry i x0 x1 x2 x3 (y 0) (y 1).val) := by
  intro x hx
  obtain ⟨k, l, rfl⟩ : ∃ (k : Fin 200) (l : Fin 1), x = ix2 k l := ⟨x 0, x 1, eq_ix2 x⟩
  have h0 : (y 0).val = h + k.val := hx 0
  have h1 : (y 1).val = t + l.val := hx 1
  have h2 : (y 1).val = t := by omega
  rw [hP, put_at, h2]
  unfold entry
  congr 2
  exact congrArg _ (funext fun z => hp k z (y 0) h0)

theorem half0 (k : Fin 200) (l : Fin 2000) (r : Fin 400) (h : r.val = 0 + k.val) :
    p0 x0 x1 x2 x3 (ix2 k l) = whole x0 x1 x2 x3 (ix2 r l) := by
  unfold p0 k0_pay3 whole
  generalize k0_pay2 (F := Ideal) _ _ _ _ = w
  refine congrArg w (funext fun a => Fin.ext ?_)
  match a with
  | 0 => exact h.symm
  | 1 => exact Nat.zero_add _

theorem half1 (k : Fin 200) (l : Fin 2000) (r : Fin 400) (h : r.val = 200 + k.val) :
    p1 x0 x1 x2 x3 (ix2 k l) = whole x0 x1 x2 x3 (ix2 r l) := by
  unfold p1 k0_pay4 whole
  generalize k0_pay2 (F := Ideal) _ _ _ _ = w
  refine congrArg w (funext fun a => Fin.ext ?_)
  match a with
  | 0 => exact h.symm
  | 1 => exact Nat.zero_add _

/-- The block after a grid point, entry by entry. -/
theorem out_at (y : S400x9.Idx) : out0_4 (F := Ideal) i x0 x1 x2 x3 y = entry i x0 x1 x2 x3 (y 0) (y 1).val := by
  unfold out0_4
  have T0 := tile i x0 x1 x2 x3 0 (p0 x0 x1 x2 x3) (half0 x0 x1 x2 x3)
  have T1 := tile i x0 x1 x2 x3 200 (p1 x0 x1 x2 x3) (half1 x0 x1 x2 x3)
  refine View.canon_eq_of_allAt _ y _ (cover0_4 _ _ _ _ _ _ _ _ _ _ _ _ _ _ _ _ _ _ y) ?_
  refine View.allAt_cons_unit _ _ _ _ _ (T1 8 y _ ?_) <| View.allAt_cons_unit _ _ _ _ _ (T0 8 y _ ?_) <|
    View.allAt_cons_unit _ _ _ _ _ (T1 7 y _ ?_) <| View.allAt_cons_unit _ _ _ _ _ (T0 7 y _ ?_) <|
    View.allAt_cons_unit _ _ _ _ _ (T1 6 y _ ?_) <| View.allAt_cons_unit _ _ _ _ _ (T0 6 y _ ?_) <|
    View.allAt_cons_unit _ _ _ _ _ (T1 5 y _ ?_) <| View.allAt_cons_unit _ _ _ _ _ (T0 5 y _ ?_) <|
    View.allAt_cons_unit _ _ _ _ _ (T1 4 y _ ?_) <| View.allAt_cons_unit _ _ _ _ _ (T0 4 y _ ?_) <|
    View.allAt_cons_unit _ _ _ _ _ (T1 3 y _ ?_) <| View.allAt_cons_unit _ _ _ _ _ (T0 3 y _ ?_) <|
    View.allAt_cons_unit _ _ _ _ _ (T1 2 y _ ?_) <| View.allAt_cons_unit _ _ _ _ _ (T0 2 y _ ?_) <|
    View.allAt_cons_unit _ _ _ _ _ (T1 1 y _ ?_) <| View.allAt_cons_unit _ _ _ _ _ (T0 1 y _ ?_) <|
    View.allAt_cons_unit _ _ _ _ _ (T1 0 y _ ?_) <| View.allAt_cons_unit _ _ _ _ _ (T0 0 y _ ?_) <| View.allAt_nil _ _
  · rw [e77, k0_pay60, s58, r8']
  · rw [e74, e76, k0_pay60, s57, r8]
  · rw [e77, k0_pay60, s56]
  · rw [e74, e76, k0_pay60, s53, r7]
  · rw [e75, k0_pay60, s50]
  · rw [e74, e76, k0_pay60, s47, r6]
  · rw [e71, e73, k0_pay60, s43, r5]
  · rw [e72, k0_pay60, s40]
  · rw [e73, s37, r4]
  · rw [e68, e70, k0_pay60, s33, r4]
  · rw [e69, k0_pay60, s30]
  · rw [e65, k0_pay60, s27, r3]
  · rw [e64, e66, k0_pay60, k0_pay67, s24, r2]
  · rw [e65, k0_pay60, s21, r2]
  · rw [e63, k0_pay60, k0_pay61, s16, r1]
  · rw [e62, k0_pay60, s13, r1]
  · rw [e63, k0_pay60, s10]; rfl
  · rw [s6]; rfl

end

end Cert.Proof.KnnRounds

end
-- ==== Proof.KnnSpec.lean ====
module

public import proofs.«01_k».proof.Proof.Gen.KnnRefIdeal.Read
public import proofs.«01_k».proof.Proof.Nearest
public import proofs.«01_k».proof.Proof.Moments
public import Idealize.ShloMosaic.Lib.Pipeline.ValueKit
public import Idealize.ShloMosaic.Lib.Pointwise

/-!
The neighbour search written over its arguments: the scores of a point against its cloud, the places the rounds take; and the
reference, a stable descending sort, read as those places.
-/

@[expose] public section

set_option maxRecDepth 16384

noncomputable section

namespace Cert.Proof.KnnSpec

open Idealize.ShloMosaic
open Cert.Proof.Moments (IsReal)
open Cert.Proof.Nearest (Row sel bestRow nextRow)

/-- The features of all points. -/
abbrev Feat : Type := FVec Ideal (⟨2, ![16000, 128]⟩ : Shape) .f32

/-- Their squared lengths. -/
abbrev Len : Type := FVec Ideal (⟨2, ![16000, 1]⟩ : Shape) .f32

/-- Row `n` of cloud `c` among all rows. -/
def rowOf (c : Fin 8) (n : Fin 2000) : Fin 16000 := ⟨c.val * 2000 + n.val, by omega⟩

/-- Minus the squared distance of a point of a cloud to each point of the cloud. -/
def score (f : Feat) (s : Len) (c : Fin 8) (n : Fin 2000) : Row := fun k =>
  0 - s (ix2 (rowOf c k) 0) - Ideal.ofBits FTy.f32 3221225472#32 * ∑ x : Fin 128, f (ix2 (rowOf c n) x) * f (ix2 (rowOf c k) x) - s (ix2 (rowOf c n) 0)

/-- The row number of a point's neighbour `t`. -/
def result (f : Feat) (s : Len) (c : Fin 8) (n : Fin 2000) (t : Nat) : BitVec 32 :=
  IntOp.addi (BitVec.ofNat 32 (sel (score f s c n) t).val) (IntOp.muli (BitVec.ofNat 32 c.val) 2000#32)

theorem two_real : IsReal (Ideal.ofBits FTy.f32 3221225472#32) := ⟨-2, by simp [Ideal.ofBits, Ideal.ieee, -EReal.coe_mul]; norm_num⟩

/-- Over finite arguments no score is minus infinity. -/
theorem score_ne_bot (f : Feat) (s : Len) (hf : ∀ i, IsReal (f i)) (hs : ∀ i, IsReal (s i)) (c : Fin 8) (n k : Fin 2000) :
    score f s c n k ≠ ⊥ := by
  have h : IsReal (score f s c n k) :=
    ((IsReal.zero.sub (hs _)).sub (two_real.mul (IsReal.sum fun x _ => (hf _).mul (hf _)))).sub (hs _)
  obtain ⟨r, e⟩ := h
  rw [e]
  exact EReal.coe_ne_bot r

open Cert.KnnRefIdeal Cert.KnnRefIdeal.Gen Cert.KnnRefIdeal.Read

variable (f : Feat) (s : Len)

theorem v11_at (c : Fin 8) (n k : Fin 2000) : val_main_v11 (F := Ideal) f s (ix3 c n k) = score f s c n k := by
  pointwise [val_main_v11, val_main_v10, val_main_v9, val_main_v8, val_main_v7, val_main_v6, val_main_v5, val_main_v4, val_main_v3, val_main_v2, val_main_v1,
    val_main_v0, val_main_cst]
  unfold score rowOf
  rw [zero_sub]

/-- Whether a score goes before another in the descending sort. -/
def before (q : Row) (k k' : Fin 2000) : Bool := FloatOps.cmpfTotal (F := Ideal) (φ := .f32) .gt (q k) (q k') == 1#1

theorem before_eq (q : Row) (k k' : Fin 2000) : before q k k' = decide (q k' < q k) := by
  show (BitVec.ofBool (decide (q k' < q k)) == 1#1) = _
  by_cases h : q k' < q k
  · rw [decide_eq_true h]; rfl
  · rw [decide_eq_false h]; rfl

theorem along_eq (j : S8x2000x2000.Idx) (k : Fin 2000) : j.along 2 k = ix3 (n0 := 8) (n1 := 2000) (n2 := 2000) (j 0) (j 1) k := by
  funext a
  match a with
  | 0 => rfl
  | 1 => rfl
  | 2 => rfl

/-- The second operand of a sort of two, at an index. -/
theorem sort2_at {s : Shape} {α β : Type} (d : Nat) (hd : d < s.rank) (cmp : α × β → α × β → BitVec 1) (x : s.Idx → α) (y : s.Idx → β) (j : s.Idx) :
    (Host.sort2 s d cmp x y).2 j = y (j.along ⟨d, hd⟩ (sortedFrom (fun k k' =>
      cmp (x (j.along ⟨d, hd⟩ k), y (j.along ⟨d, hd⟩ k)) (x (j.along ⟨d, hd⟩ k'), y (j.along ⟨d, hd⟩ k')) == 1#1) (j ⟨d, hd⟩))) := by
  unfold Host.sort2
  rw [dif_pos hd]

/-- The sorted positions along the last axis. -/
theorem sort_at (v : FVec Ideal S8x2000x2000 .f32) (j : S8x2000x2000.Idx) :
    (Host.sort2 S8x2000x2000 2 (fun l r => FloatOps.cmpfTotal (F := Ideal) (φ := .f32) .gt l.1 r.1) v
      (fun i => if hd : 2 < S8x2000x2000.rank then iotaInDim S8x2000x2000 32 ⟨2, hd⟩ i else 0#32)).2 j
      = BitVec.ofNat 32 (sortedFrom (before fun k => v (ix3 (j 0) (j 1) k)) (j 2)).val := by
  have e : before (fun k => v (ix3 (n0 := 8) (n1 := 2000) (n2 := 2000) (j 0) (j 1) k))
      = fun k k' : Fin 2000 => FloatOps.cmpfTotal (F := Ideal) (φ := .f32) .gt (v (j.along 2 k)) (v (j.along 2 k')) == 1#1 :=
    funext fun k => funext fun k' => by rw [along_eq, along_eq]; rfl
  rw [e, sort2_at 2 (by decide)]
  have h : ∀ z : Fin 2000, (if hd : 2 < S8x2000x2000.rank then iotaInDim S8x2000x2000 32 ⟨2, hd⟩ (j.along 2 z) else 0#32) = BitVec.ofNat 32 z.val := fun z => by
    rw [along_eq]; rfl
  exact h _

/-- A round's number as a place along the last axis. -/
def up (t : Fin 9) : Fin 2000 := ⟨t.val, by omega⟩

theorem slice_at (w : IVec S8x2000x2000 32) (c : Fin 8) (n : Fin 2000) (t : Fin 9) :
    extractStridedSlice S8x2000x9 (fun _ => 0) w sliceFits_S8x2000x2000_S8x2000x9 (ix3 c n t) = w (ix3 c n (up t)) := by
  refine congrArg w (funext fun a => Fin.ext ?_)
  match a with
  | 0 => exact Nat.zero_add _
  | 1 => exact Nat.zero_add _
  | 2 => exact Nat.zero_add _

theorem topK_at (v : FVec Ideal S8x2000x2000 .f32) (c : Fin 8) (n : Fin 2000) (t : Fin 9) :
    (Host.topK S8x2000x9 2 (FloatOps.cmpfTotal (F := Ideal) (φ := .f32) .gt) v sliceFits_S8x2000x2000_S8x2000x9).2 (ix3 c n t)
      = BitVec.ofNat 32 (sortedFrom (before fun k => v (ix3 c n k)) (up t)).val :=
  (slice_at _ c n t).trans (sort_at v (ix3 c n (up t)))

/-- The sort's place `t` along a point's scores. -/
theorem indices_at (c : Fin 8) (n : Fin 2000) (t : Fin 9) : val_main_indices (F := Ideal) f s (ix3 c n t)
    = BitVec.ofNat 32 (sortedFrom (before (score f s c n)) (up t)).val := by
  have e : (fun k => val_main_v11 (F := Ideal) f s (ix3 c n k)) = score f s c n := funext fun k => v11_at f s c n k
  rw [← e]
  unfold val_main_indices
  generalize val_main_v11 (F := Ideal) f s = v
  exact topK_at v c n t

theorem v18_at (hf : ∀ i, IsReal (f i)) (hs : ∀ i, IsReal (s i)) (c : Fin 8) (n : Fin 2000) (t : Fin 9) :
    val_main_v18 (F := Ideal) f s (ix2 (rowOf c n) t) = result f s c n t.val := by
  have e : val_main_v18 (F := Ideal) f s (ix2 (rowOf c n) t) = val_main_v17 (F := Ideal) f s (ix3 c n t) := by
    rw [val_main_v18_apply]
    refine congrArg _ (funext fun a => Fin.ext ?_)
    have := t.isLt
    have := n.isLt
    match a with
    | 0 => show ((c.val * 2000 + n.val) * 9 + t.val) / 18000 = c.val; omega
    | 1 => show ((c.val * 2000 + n.val) * 9 + t.val) / 9 % 2000 = n.val; omega
    | 2 => show ((c.val * 2000 + n.val) * 9 + t.val) % 9 = t.val; omega
  have e16 : val_main_v16 (F := Ideal) (ix3 c n t) = IntOp.muli (BitVec.ofNat 32 c.val) 2000#32 := by
    pointwise [val_main_v16, val_main_v15, val_main_v14, val_main_v13, val_main_v12, val_main_c]
    exact BitVec.mul_comm _ _
  have es : sortedFrom (before (score f s c n)) (up t) = sel (score f s c n) t.val :=
    Nearest.sorted_eq (score f s c n) (score_ne_bot f s hf hs c n) _ (before_eq _) t
  rw [e, val_main_v17_apply, e16, indices_at, es]
  rfl

end Cert.Proof.KnnSpec

end
-- ==== Proof.KnnValue.lean ====
module

public import proofs.«01_k».proof.Proof.KnnRounds
public import proofs.«01_k».proof.Proof.KnnSpec

/-!
The neighbour search's block at a grid point, read entry by entry, is the places of `KnnSpec`; the blocks make up the result.
-/

@[expose] public section

set_option maxRecDepth 16384

noncomputable section

namespace Cert.Proof.KnnValue

open Cert.KnnIdeal Cert.KnnIdeal.Gen
open Idealize.ShloMosaic Idealize.ShloMosaic.TcCoe Idealize.SL.Sem
open Idealize.ShloMosaic.Pipeline (Dat)
open Cert.Proof.KnnSpec (rowOf score result)

theorem pay2_at (v0 : FVec Ideal S2000x128 .f32) (v1 : FVec Ideal S400x128 .f32) (v5 : FVec Ideal S1x1x2000 .f32) (v11 : FVec Ideal S400x1 .f32)
    (r : Fin 400) (l : Fin 2000) : k0_pay2 (F := Ideal) v0 v1 v5 v11 (ix2 r l)
      = 0 - v5 (ix3 0 0 l) - Ideal.ofBits FTy.f32 3221225472#32 * ∑ x : Fin 128, v1 (ix2 r x) * v0 (ix2 l x) - v11 (ix2 r 0) := by
  pointwise [k0_pay2]

variable (m : (ℓ : Loc nD τ sig) → Buf (Elt Ideal) ℓ)

/-- The cloud a grid point works on. -/
def cloud (t : Fin cfg0.N) : Fin 8 := ⟨t.val / 5, by have h : t.val < 40 := t.isLt; omega⟩

/-- The place in its cloud of a row of a grid point's block. -/
def place (t : Fin cfg0.N) (r : Fin 400) : Fin 2000 := ⟨t.val % 5 * 400 + r.val, by omega⟩

theorem idx : ∀ t : Fin cfg0.N, win0_0.index t = ![t.val / 5, 0] ∧ win0_1.index t = ![t.val, 0] ∧ win0_2.index t = ![t.val / 5, 0, 0]
    ∧ win0_3.index t = ![t.val, 0] ∧ win0_4.index t = ![t.val, 0] ∧ (grid0.coords t 0).val = t.val / 5 :=
  (by decide +kernel : ∀ t : Fin grid0.N, _)

theorem rd0 (c : Dev nD) (t : Fin cfg0.N) (k : Fin 2000) (x : Fin 128) :
    iblk m c 0 t (ix2 k x) = m ((c : Thread nD τ).loc main_arg0) (ix2 (rowOf (cloud t) k) x) := by
  blk_ext! [iblk, V, idx t, rowOf, cloud]

theorem rd1 (c : Dev nD) (t : Fin cfg0.N) (r : Fin 400) (x : Fin 128) :
    iblk m c 1 t (ix2 r x) = m ((c : Thread nD τ).loc main_arg0) (ix2 (rowOf (cloud t) (place t r)) x) := by
  blk_ext! [iblk, V, idx t, rowOf, cloud, place]

theorem rd2 (c : Dev nD) (t : Fin cfg0.N) (k : Fin 2000) :
    iblk m c 2 t (ix3 0 0 k) = m ((c : Thread nD τ).loc main_arg1) (ix2 (rowOf (cloud t) k) 0) := by
  blk_ext! [iblk, V, idx t, rowOf, cloud]

theorem rd3 (c : Dev nD) (t : Fin cfg0.N) (r : Fin 400) :
    iblk m c 3 t (ix2 r 0) = m ((c : Thread nD τ).loc main_arg1) (ix2 (rowOf (cloud t) (place t r)) 0) := by
  blk_ext! [iblk, V, idx t, rowOf, cloud, place]

/-- The cloud of a row. -/
def cloudOf (n : Fin 16000) : Fin 8 := ⟨n.val / 2000, by omega⟩

/-- Its place there. -/
def placeOf (n : Fin 16000) : Fin 2000 := ⟨n.val % 2000, by omega⟩

theorem rowOf_of (n : Fin 16000) : rowOf (cloudOf n) (placeOf n) = n :=
  Fin.ext (by show n.val / 2000 * 2000 + n.val % 2000 = n.val; omega)

theorem cloudOf_row (c : Fin 8) (n : Fin 2000) : cloudOf (rowOf c n) = c :=
  Fin.ext (by show (c.val * 2000 + n.val) / 2000 = c.val; omega)

theorem placeOf_row (c : Fin 8) (n : Fin 2000) : placeOf (rowOf c n) = n :=
  Fin.ext (by show (c.val * 2000 + n.val) % 2000 = n.val; omega)

/-- A row of the block's scores is the scores of its point against its cloud. -/
theorem whole_at (c : Dev nD) (t : Fin cfg0.N) (r : Fin 400) :
    (fun l => KnnRounds.whole (iblk m c 0 t) (iblk m c 1 t) (iblk m c 2 t) (iblk m c 3 t) (ix2 r l))
      = score (m ((c : Thread nD τ).loc main_arg0)) (m ((c : Thread nD τ).loc main_arg1)) (cloud t) (place t r) := by
  funext l
  have l0 : ∀ X : Vec Ideal S2000x128 .f32, View.ld X r0_0 = X := fun X => View.ld_unit_lit _ X (by decide)
  have l1 : ∀ X : Vec Ideal S400x128 .f32, View.ld X r0_1 = X := fun X => View.ld_unit_lit _ X (by decide)
  have l2 : ∀ X : Vec Ideal S1x1x2000 .f32, View.ld X r0_2 = X := fun X => View.ld_unit_lit _ X (by decide)
  have l3 : ∀ X : Vec Ideal S400x1 .f32, View.ld X r0_3 = X := fun X => View.ld_unit_lit _ X (by decide)
  unfold KnnRounds.whole
  rw [l0, l1, l2, l3, pay2_at]
  simp only [rd0, rd1, rd2, rd3]
  rfl

/-- What a grid point writes, entry by entry. -/
theorem block_at (c : Dev nD) (t : Fin cfg0.N) (y : S400x9.Idx) :
    out0_4 (F := Ideal) (grid0.coords t) (iblk m c 0 t) (iblk m c 1 t) (iblk m c 2 t) (iblk m c 3 t) y
      = result (m ((c : Thread nD τ).loc main_arg0)) (m ((c : Thread nD τ).loc main_arg1)) (cloud t) (place t (y 0)) (y 1).val := by
  rw [KnnRounds.out_at]
  unfold KnnRounds.entry result
  rw [whole_at m c t (y 0), Nearest.best_iterate]
  congr 1
  show IntOp.muli (BitVec.ofNat 32 (grid0.coords t 0).val) 2000#32 = _
  rw [(idx t).2.2.2.2.2]
  rfl

/-- The neighbours of every row. -/
def table (f : KnnSpec.Feat) (s : KnnSpec.Len) : IVec S16000x9 32 := fun i => result f s (cloudOf (i 0)) (placeOf (i 0)) (i 1).val

theorem table_at (f : KnnSpec.Feat) (s : KnnSpec.Len) (c : Fin 8) (n : Fin 2000) (t : Fin 9) :
    table f s (ix2 (rowOf c n) t) = result f s c n t.val := by
  show result f s (cloudOf (rowOf c n)) (placeOf (rowOf c n)) t.val = _
  rw [cloudOf_row, placeOf_row]

/-- The row and column of the result that an entry of a grid point's block is written to. -/
theorem emb_at (t : Fin cfg0.N) (y : S400x9.Idx) : ((View.whole main_v1).slice (win0_4.rect t)).emb y
    = ix2 (n0 := 16000) (n1 := 9) (rowOf (cloud t) (place t (y 0))) (y 1) := by
  blk_ext [idx t, rowOf, cloud, place]

/-- The call's result array is the table of the neighbours over its arguments. -/
theorem final (c : Dev nD) : (dats m 0 c).arrAt 4 cfg0.N
    = table (m ((c : Thread nD τ).loc main_arg0)) (m ((c : Thread nD τ).loc main_arg1)) := by
  refine (dats m 0 c).arrAt_eq_of_covers 4 _ (by decide +kernel) fun t _ y => ?_
  blk_simp
  rw [after0_4]
  refine (block_at m c t y).trans ?_
  rw [emb_at t y]
  exact (table_at _ _ _ _ _).symm

/-- The call runs, its result array holds what the blocks make up, and its arguments are left alone. -/
theorem run (ρ : Dev nD → PrngReg) : θ_run defs (onTc (τ := τ) (main (F := Ideal))) ⟨m, fun _ => 0, ρ⟩ fun r => ∀ c : Dev nD,
      r.2.mem ((c : Thread nD τ).loc main_v1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1 4,
      ((h c).1 1).trans (((dats m 0 c).arrAt_in 1 rfl _).trans ((A_eq m c 1).trans (V_main_arg0 m c))),
      ((h c).1 3).trans (((dats m 0 c).arrAt_in 3 rfl _).trans ((A_eq m c 3).trans (V_main_arg1 m c)))⟩)
    (run_main m ρ)

end Cert.Proof.KnnValue

end
-- ==== Proof.KnnClaims.lean ====
module

public import proofs.«01_k».proof.Proof.KnnValue
public import proofs.«01_k».proof.Proof.Gen.KnnRefIdeal.Run
public import proofs.«01_k».proof.Proof.Gen.Knn.Frame
public import proofs.«01_k».proof.Proof.Gen.Pre_knn_finite
public import proofs.«01_k».proof.Defs

/-!
The claims about the neighbour search: its reference runs and leaves its arguments alone, and, over finite features and squared
lengths, the two end with the same neighbours.
-/

@[expose] public section

set_option maxRecDepth 16384

noncomputable section

namespace Cert.Proof.KnnClaims

open Idealize.ShloMosaic Idealize.ShloMosaic.TcCoe Idealize.SL.Sem
open Cert.Proof.Moments (IsReal)

/-- The reference runs, leaves its arguments as they were, and has no semaphore. -/
theorem frame_ri : Cert.quiescent_KnnRefIdeal := fun m ρ _ =>
  (θ_run Cert.KnnRefIdeal.defs _ _).mono (fun r h => ⟨fun c => (h c).2, sem_eq_zero_of_no_sems (by decide) r.2⟩)
    (Cert.KnnRefIdeal.Value.run (F := Ideal) m ρ)

/-- The same from the memories of the precondition. -/
theorem frame_ri_pre : Cert.quiescent_KnnRefIdeal_pre_knn_finite := fun m ρ _ => frame_ri m ρ trivial

section

open Cert.KnnIdeal Cert.KnnIdeal.Gen

variable (m : (ℓ : Loc nD τ sig) → Buf (Elt Ideal) ℓ)

/-- Under the precondition the features and the squared lengths are real numbers. -/
theorem args_real (h : Cert.Pre_KnnIdeal_knn_finite m) (c : Dev nD) :
    (∀ i : S16000x128.Idx, IsReal (m ((c : Thread nD τ).loc main_arg0) i))
      ∧ ∀ i : S16000x1.Idx, IsReal (m ((c : Thread nD τ).loc main_arg1) i) := by
  have e := congrFun (h c) ValueIdx.ix0
  have key : ∀ u v : BitVec 1, IntOp.andi u v = 1#1 → u = 1#1 ∧ v = 1#1 := by decide
  obtain ⟨e0, e1⟩ := key _ _ e
  have hs : ∀ j j' : Cert.Pre_knn_finite.S_.Idx, j = j' := fun j j' => funext fun a => a.elim0
  exact ⟨fun i => Moments.isReal_of_cmp _ (Moments.of_reduce_andi _ _ _ _ hs _ e0 i),
    fun i => Moments.isReal_of_cmp _ (Moments.of_reduce_andi _ _ _ _ hs _ e1 i)⟩

end

/-- The call and the reference end with the same neighbours. -/
theorem algebraic : Cert.algebraic_KnnIdeal_KnnRefIdeal_pre_knn_finite := by
  intro m ρ m' ρ' hpre hagree
  refine ⟨fun c => (Cert.KnnIdeal.Gen.dats m 0 c).arrAt 4 Cert.KnnIdeal.cfg0.N, KnnValue.run m ρ, ?_⟩
  refine (θ_run Cert.KnnRefIdeal.defs _ _).mono (fun r h c => ⟨(h c).1.trans ?_, (h c).2⟩)
    (Cert.KnnRefIdeal.Value.run (F := Ideal) m' ρ')
  obtain ⟨h0, h1⟩ := hagree c
  rw [Cert.KnnRefIdeal.Read.val_main_v18_eq, h0, h1]
  refine Eq.trans ?_ (KnnValue.final m c).symm
  obtain ⟨hf, hl⟩ := args_real m hpre c
  funext i
  obtain ⟨a, b, rfl⟩ : ∃ (a : Fin 16000) (b : Fin 9), i = ix2 a b := ⟨i 0, i 1, eq_ix2 i⟩
  have e := KnnSpec.v18_at _ _ hf hl (KnnValue.cloudOf a) (KnnValue.placeOf a) b
  rw [KnnValue.rowOf_of] at e
  exact e

end Cert.Proof.KnnClaims

end
-- ==== Proof.AnnRun.lean ====
/-
  The run of the three calls of the aggregation and the host's moments between and after them: at the end every unscoped
  buffer of the TensorCore holds what the fold through the program's seven segments says.
-/
module

public import proofs.«01_k».proof.Proof.Gen.AnnIdeal.Frame

@[expose] public section

set_option maxRecDepth 16384

noncomputable section

namespace Cert.Proof.AnnRun

open Cert.AnnIdeal Cert.AnnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unfolding plain definitions in a metavariable's type
set_option backward.isDefEq.respectTransparency.types false in
/-- Every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitr [HO]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun _ h _ => h)

/-- The three results end at the last boundary's contents, and the arguments as they were. -/
theorem run : θ_run defs (onTc (τ := τ) (main (F := F))) ⟨m, fun _ => 0, ρ⟩ (fun r => ∀ c : Dev nD,
      r.2.mem ((c.tc : Thread nD τ).loc main_v44_0) = W7 m ρ c (Proc.devRef .tc main_v44_0)
      ∧ r.2.mem ((c.tc : Thread nD τ).loc main_v48) = W7 m ρ c (Proc.devRef .tc main_v48)
      ∧ r.2.mem ((c.tc : Thread nD τ).loc main_v54) = W7 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨h c _ (mem_uc main_v44_0 (by decide)), h c _ (mem_uc main_v48 (by decide)), h c _ (mem_uc main_v54 (by decide)),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c)⟩) (run_all m ρ)

end Cert.Proof.AnnRun

end
-- ==== Proof.Blocks.lean ====
module

public import Idealize.ShloMosaic.Lib.Pipeline.ValueKit
public import Idealize.ShloMosaic.Lib.Pointwise

/-!
Stores and loads of a rectangle of a matrix, or of a slab of a three-axis array, at an entry; and a sum over two leading axes.
-/

@[expose] public section

noncomputable section

namespace Cert.Proof.Blocks

open Idealize.ShloMosaic

variable {Val : EltTy → Type} {e : EltTy} {R C a b h w : Nat}

/-- A matrix's shape. -/
abbrev M (R C : Nat) : Shape := ⟨2, ![R, C]⟩

/-- A three-axis array's shape. -/
abbrev A (P R C : Nat) : Shape := ⟨3, ![P, R, C]⟩

/-- Entry `(k, l)` of the rectangle from row `a` and column `b`. -/
theorem idx_eq (inb) (k : Fin h) (l : Fin w) (i : Fin R) (j : Fin C) (hi : i.val = a + k.val) (hj : j.val = b + l.val) :
    (Rect.unit (s := M R C) ![a, b] ![h, w] inb).idx (ix2 (n0 := h) (n1 := w) k l) = ix2 i j := by
  funext x
  refine Fin.ext ?_
  rw [Rect.idx_unit_val]
  match x with
  | 0 => exact hi.symm
  | 1 => exact hj.symm

/-- The last store, where it reaches. -/
theorem canon_hit [∀ e, Nonempty (Val e)] (inb) (p : (M h w).Idx → Val e) (L : List (View.Piece Val (M R C) e)) (i : Fin R) (j : Fin C)
    (k : Fin h) (l : Fin w) (hi : i.val = a + k.val) (hj : j.val = b + l.val) :
    View.canon (⟨Rect.unit (s := M R C) ![a, b] ![h, w] inb, p⟩ :: L) (ix2 i j) = p (ix2 k l) := by
  rw [← idx_eq inb k l i j hi hj]
  exact View.canon_cons_emb (Rect.unit (s := M R C) ![a, b] ![h, w] inb) p L (ix2 (n0 := h) (n1 := w) k l)

/-- The last store, at a column it does not reach. -/
theorem canon_miss [∀ e, Nonempty (Val e)] (inb) (p : (M h w).Idx → Val e) (L : List (View.Piece Val (M R C) e)) (i : Fin R) (j : Fin C)
    (hm : j.val < b ∨ b + w ≤ j.val) :
    View.canon (⟨Rect.unit (s := M R C) ![a, b] ![h, w] inb, p⟩ :: L) (ix2 i j) = View.canon L (ix2 i j) := by
  refine View.canon_cons_of_not_mem _ L fun hx => ?_
  have h1 := (Rect.mem_set_unit (inb := inb)).mp hx 1
  simp only [Matrix.cons_val_one] at h1
  change b ≤ j.val ∧ j.val < b + w at h1
  omega

/-- A load of a matrix's rectangle. -/
theorem ld_at (X : (M R C).Idx → Val e) (inb) (k : Fin h) (l : Fin w) (i : Fin R) (j : Fin C) (hi : i.val = a + k.val) (hj : j.val = b + l.val) :
    View.ld X (Rect.unit (s := M R C) ![a, b] ![h, w] inb) (ix2 (n0 := h) (n1 := w) k l) = X (ix2 i j) := by
  rw [← idx_eq inb k l i j hi hj]

/-- A load of the slab at one place of the first axis. -/
theorem ld_first {P : Nat} (X : (A P R C).Idx → Val e) (inb) (p : Fin P) (i : Fin R) (j : Fin C) (hp : p.val = a) :
    View.ld X (Rect.unit (s := A P R C) ![a, 0, 0] ![1, R, C] inb) (ix3 (n0 := 1) (n1 := R) (n2 := C) 0 i j) = X (ix3 p i j) := by
  show X _ = X _
  refine congrArg X (funext fun x => Fin.ext ?_)
  rw [Rect.idx_unit_val]
  match x with
  | 0 => exact hp.symm
  | 1 => exact Nat.zero_add _
  | 2 => exact Nat.zero_add _

/-- A load of the slab at one place of the middle axis. -/
theorem ld_middle {P : Nat} (X : (A P R C).Idx → Val e) (inb) (p : Fin P) (i : Fin R) (j : Fin C) (hi : i.val = a) :
    View.ld X (Rect.unit (s := A P R C) ![0, a, 0] ![P, 1, C] inb) (ix3 (n0 := P) (n1 := 1) (n2 := C) p 0 j) = X (ix3 p i j) := by
  show X _ = X _
  refine congrArg X (funext fun x => Fin.ext ?_)
  rw [Rect.idx_unit_val]
  match x with
  | 0 => exact Nat.zero_add _
  | 1 => exact hi.symm
  | 2 => exact Nat.zero_add _

/-- A host sum over the first two of three axes. -/
theorem hostReduceAdd_first_two {n0 n1 n2 : Nat} (hr : (A n0 n1 n2).ReducesTo [0, 1] (⟨1, ![n2]⟩ : Shape)) (v : (A n0 n1 n2).Idx → EReal)
    (init : EReal) (l : Fin n2) :
    Ideal.hostReduceAdd hr v init (ix1 l) = init + ∑ p : Fin n0 × Fin n1, v (ix3 p.1 p.2 l) := by
  refine congrArg (init + ·) ?_
  refine Finset.sum_filter_eq_sum_of_fiber _ (fun p : Fin n0 × Fin n1 => ix3 p.1 p.2 l) (fun p q e => Prod.ext (congrFun e 0) (congrFun e 1)) (fun i => ?_) v
  constructor
  · intro e
    refine ⟨(i 0, i 1), ?_⟩
    have e0 : (i 2).val = l.val := congrArg (fun y : (⟨1, ![n2]⟩ : Shape).Idx => (y 0).val) e
    funext x
    match x with
    | 0 => rfl
    | 1 => rfl
    | 2 => exact Fin.ext e0.symm
  · rintro ⟨p, rfl⟩
    funext x
    match x with
    | 0 => exact Fin.ext rfl

end Cert.Proof.Blocks

end
-- ==== Proof.AnnSpec.lean ====
module

public import proofs.«01_k».proof.Proof.Gen.AnnRefIdeal.Read
public import proofs.«01_k».proof.Proof.PointsSpec
public import proofs.«01_k».proof.Proof.Blocks

/-!
The aggregation's two convolutions and the batch normalisation between them written as sums, and its reference read as them.
-/

@[expose] public section

set_option maxRecDepth 16384

noncomputable section

namespace Cert.Proof.AnnSpec

open Idealize.ShloMosaic
open Cert.AnnRefIdeal Cert.AnnRefIdeal.Gen Cert.AnnRefIdeal.Read

/-- The number of windows, 48000, as the constant the programs divide by. -/
abbrev count : EReal := Ideal.ofBits FTy.f32 0x473B8000#32

/-- The mean of a column over all windows. -/
def mean (z : Fin 16000 → Fin 3 → EReal) : EReal := Ideal.div (∑ p : Fin 16000 × Fin 3, z p.1 p.2) count

/-- The mean of a column's squared deviations from its mean. -/
def var (z : Fin 16000 → Fin 3 → EReal) : EReal :=
  Ideal.div (∑ p : Fin 16000 × Fin 3, (z p.1 p.2 - mean z) * (z p.1 p.2 - mean z)) count

/-- The row of the gathered features of point `r`'s neighbour `k` of window `t`. -/
def row (r : Fin 16000) (t k : Fin 3) : Fin 144000 := ⟨r.val * 9 + (t.val * 3 + k.val), by omega⟩

/-- A channel among a weight's first half. -/
abbrev lo (d : Fin 128) : Fin 256 := ⟨d.val, by omega⟩

/-- A channel among a weight's second half. -/
abbrev hi (d : Fin 128) : Fin 256 := ⟨128 + d.val, by omega⟩

variable (f : FVec Ideal S16000x128 .f32) (g : FVec Ideal S144000x128 .f32) (w : FVec Ideal S128x256x1x3 .f32) (b : FVec Ideal S128 .f32)
  (g1 b1 : FVec Ideal S128 .f32) (w2 : FVec Ideal S128x128x1x3 .f32) (b2 : FVec Ideal S128 .f32)

/-- The first convolution at point `r`, window `t`, channel `l`. -/
def z (r : Fin 16000) (t : Fin 3) (l : Fin 128) : EReal :=
  ∑ k : Fin 3, (∑ d : Fin 128, f (ix2 r d) * w (ix4 l (lo d) 0 k) + ∑ d : Fin 128, (f (ix2 r d) - g (ix2 (row r t k) d)) * w (ix4 l (hi d) 0 k)) + b (ix1 l)

/-- The same, normalised over all windows, scaled and rectified. -/
def act (r : Fin 16000) (t : Fin 3) (l : Fin 128) : EReal :=
  PointsSpec.norm (z f g w b r t l) (mean fun n t => z f g w b n t l) (var fun n t => z f g w b n t l) (g1 (ix1 l)) (b1 (ix1 l))

/-- The second convolution at point `r`, channel `o`. -/
def out (r : Fin 16000) (o : Fin 128) : EReal :=
  ∑ t : Fin 3, ∑ l : Fin 128, act f g w b g1 b1 r t l * w2 (ix4 o l 0 t) + b2 (ix1 o)

theorem v7_at (r : Fin 16000) (t k : Fin 3) (l : Fin 256) :
    val_main_v7 (F := Ideal) f g (ix4 r t k l)
      = if h : l.val < 128 then f (ix2 r ⟨l.val, h⟩) else f (ix2 r ⟨l.val - 128, by omega⟩) - g (ix2 (row r t k) ⟨l.val - 128, by omega⟩) := by
  pointwise [val_main_v7, val_main_v4, val_main_v3, val_main_v2, val_main_v1, val_main_v0]
  split <;> rfl

theorem v6_at (k : Fin 3) (l : Fin 256) (o : Fin 128) : val_main_v6 (F := Ideal) w (ix3 k l o) = w (ix4 o l 0 k) := by
  pointwise [val_main_v6, val_main_v5]

theorem v8_at (r : Fin 16000) (t : Fin 3) (l : Fin 128) :
    val_main_v8 (F := Ideal) f g w (ix3 r t l)
      = ∑ x : Fin 256, ∑ k : Fin 3, val_main_v7 (F := Ideal) f g (ix4 r t k x) * val_main_v6 (F := Ideal) w (ix3 k x l) := by
  unfold val_main_v8
  generalize val_main_v7 (F := Ideal) f g = y
  generalize val_main_v6 (F := Ideal) w = q
  pointwise

theorem v11_at (r : Fin 16000) (t : Fin 3) (l : Fin 128) : val_main_v11 (F := Ideal) f g w b (ix3 r t l) = z f g w b r t l := by
  have e : val_main_v11 (F := Ideal) f g w b (ix3 r t l) = val_main_v8 (F := Ideal) f g w (ix3 r t l) + b (ix1 l) := by
    unfold val_main_v11
    generalize val_main_v8 (F := Ideal) f g w = q
    pointwise [val_main_v10, val_main_v9]
  rw [e, v8_at, Finset.sum_comm]
  unfold z
  congr 1
  refine Finset.sum_congr rfl fun k _ => ?_
  simp only [v7_at, v6_at]
  refine (Fin.sum_univ_add (a := 128) (b := 128) _).trans ?_
  congr 1

theorem v12_at (l : Fin 128) :
    val_main_v12 (F := Ideal) f g w b (ix1 l) = ∑ p : Fin 16000 × Fin 3, val_main_v11 (F := Ideal) f g w b (ix3 p.1 p.2 l) := by
  unfold val_main_v12
  generalize val_main_v11 (F := Ideal) f g w b = y
  refine (Blocks.hostReduceAdd_first_two _ _ _ l).trans ?_
  rw [show val_main_cst (F := Ideal) _ = (0 : EReal) from by pointwise [val_main_cst], zero_add]

theorem v14_at (l : Fin 128) : val_main_v14 (F := Ideal) f g w b (ix1 l) = mean fun n t => z f g w b n t l := by
  have e : val_main_v14 (F := Ideal) f g w b (ix1 l) = Ideal.div (val_main_v12 (F := Ideal) f g w b (ix1 l)) count := by
    unfold val_main_v14
    generalize val_main_v12 (F := Ideal) f g w b = q
    pointwise [val_main_v13, val_main_cst_0]
  rw [e, v12_at]
  simp only [v11_at]
  rfl

theorem v18_at (r : Fin 16000) (t : Fin 3) (l : Fin 128) :
    val_main_v18 (F := Ideal) f g w b (ix3 r t l)
      = (z f g w b r t l - mean fun n t => z f g w b n t l) * (z f g w b r t l - mean fun n t => z f g w b n t l) := by
  rw [← v11_at, ← v14_at]
  unfold val_main_v18 val_main_v17 val_main_v16 val_main_v15
  generalize val_main_v11 (F := Ideal) f g w b = q
  generalize val_main_v14 (F := Ideal) f g w b = p
  pointwise

theorem v19_at (l : Fin 128) :
    val_main_v19 (F := Ideal) f g w b (ix1 l) = ∑ p : Fin 16000 × Fin 3, val_main_v18 (F := Ideal) f g w b (ix3 p.1 p.2 l) := by
  unfold val_main_v19
  generalize val_main_v18 (F := Ideal) f g w b = y
  refine (Blocks.hostReduceAdd_first_two _ _ _ l).trans ?_
  rw [show val_main_cst_1 (F := Ideal) _ = (0 : EReal) from by pointwise [val_main_cst_1], zero_add]

theorem v21_at (l : Fin 128) : val_main_v21 (F := Ideal) f g w b (ix1 l) = var fun n t => z f g w b n t l := by
  have e : val_main_v21 (F := Ideal) f g w b (ix1 l) = Ideal.div (val_main_v19 (F := Ideal) f g w b (ix1 l)) count := by
    unfold val_main_v21
    generalize val_main_v19 (F := Ideal) f g w b = q
    pointwise [val_main_v20, val_main_cst_2]
  rw [e, v19_at]
  simp only [v18_at]
  rfl

theorem v37_at (r : Fin 16000) (t : Fin 3) (l : Fin 128) :
    val_main_v37 (F := Ideal) f g w b g1 b1 (ix3 r t l) = act f g w b g1 b1 r t l := by
  unfold act
  rw [← v11_at, ← v14_at, ← v21_at]
  unfold val_main_v37 val_main_v36 val_main_v33 val_main_v30 val_main_v29 val_main_v28 val_main_v27 val_main_v26 val_main_v24 val_main_v23 val_main_v22
  generalize val_main_v11 (F := Ideal) f g w b = q
  generalize val_main_v14 (F := Ideal) f g w b = p
  generalize val_main_v21 (F := Ideal) f g w b = u
  pointwise [val_main_call0_v0, val_main_call0_cst, val_main_v35, val_main_v34, val_main_v32, val_main_v31, val_main_v25, val_main_cst_3]
  rfl

theorem v39_at (t : Fin 3) (l o : Fin 128) : val_main_v39 (F := Ideal) w2 (ix3 t l o) = w2 (ix4 o l 0 t) := by
  pointwise [val_main_v39, val_main_v38]

theorem v40_at (r : Fin 16000) (o : Fin 128) :
    val_main_v40 (F := Ideal) f g w b g1 b1 w2 (ix2 r o)
      = ∑ l : Fin 128, ∑ t : Fin 3, val_main_v37 (F := Ideal) f g w b g1 b1 (ix3 r t l) * val_main_v39 (F := Ideal) w2 (ix3 t l o) := by
  unfold val_main_v40
  generalize val_main_v37 (F := Ideal) f g w b g1 b1 = y
  generalize val_main_v39 (F := Ideal) w2 = q
  pointwise

theorem v43_at (r : Fin 16000) (o : Fin 128) :
    val_main_v43 (F := Ideal) f g w b g1 b1 w2 b2 (ix2 r o) = out f g w b g1 b1 w2 b2 r o := by
  have e : val_main_v43 (F := Ideal) f g w b g1 b1 w2 b2 (ix2 r o) = val_main_v40 (F := Ideal) f g w b g1 b1 w2 (ix2 r o) + b2 (ix1 o) := by
    unfold val_main_v43
    generalize val_main_v40 (F := Ideal) f g w b g1 b1 w2 = q
    pointwise [val_main_v42, val_main_v41]
  rw [e, v40_at, Finset.sum_comm]
  simp only [v37_at, v39_at]
  rfl

theorem v46_at (o : Fin 128) :
    val_main_v46 (F := Ideal) f g w b g1 b1 w2 b2 (ix1 o) = PointsSpec.mean fun n => out f g w b g1 b1 w2 b2 n o := by
  unfold PointsSpec.mean
  simp only [← v43_at]
  unfold val_main_v46 val_main_v44
  generalize val_main_v43 (F := Ideal) f g w b g1 b1 w2 b2 = q
  pointwise [val_main_v45, val_main_cst_4, val_main_cst_5]

theorem v53_at (o : Fin 128) :
    val_main_v53 (F := Ideal) f g w b g1 b1 w2 b2 (ix1 o) = PointsSpec.var fun n => out f g w b g1 b1 w2 b2 n o := by
  unfold PointsSpec.var
  rw [← v46_at]
  simp only [← v43_at]
  unfold val_main_v53 val_main_v51 val_main_v50 val_main_v49 val_main_v48 val_main_v47
  generalize val_main_v43 (F := Ideal) f g w b g1 b1 w2 b2 = q
  generalize val_main_v46 (F := Ideal) f g w b g1 b1 w2 b2 = p
  pointwise [val_main_v52, val_main_cst_6, val_main_cst_7]

end Cert.Proof.AnnSpec

end
-- ==== Proof.AnnFirst.lean ====
module

public import proofs.«01_k».proof.Proof.AnnRun
public import proofs.«01_k».proof.Proof.AnnSpec
public import proofs.«01_k».proof.Proof.Rows

/-!
The aggregation's first two calls, entry by entry: the products with the first half of the weights, the first convolution
of each window, and the sums of its values and of their squares.
-/

@[expose] public section

set_option maxRecDepth 16384

noncomputable section

namespace Cert.Proof.AnnFirst

open Cert.AnnIdeal Cert.AnnIdeal.Gen
open Idealize.ShloMosaic Idealize.ShloMosaic.TcCoe Idealize.SL.Sem
open Idealize.ShloMosaic.Pipeline (Dat)

/-- The column of window `t`, channel `l`. -/
def col (t : Fin 3) (l : Fin 128) : Fin 384 := ⟨t.val * 128 + l.val, by omega⟩

/-- The place of neighbour `k` of window `t` among a point's nine. -/
def nb (t k : Fin 3) : Fin 9 := ⟨t.val * 3 + k.val, by omega⟩

theorem exists_col (j : Fin 384) : ∃ t l, j = col t l :=
  ⟨⟨j.val / 128, by omega⟩, ⟨j.val % 128, by omega⟩, Fin.ext (by show j.val = j.val / 128 * 128 + j.val % 128; omega)⟩

theorem pay01 (x : FVec Ideal S1000x128 .f32) (y : FVec Ideal S1x128x128 .f32) (r : Fin 1000) (l : Fin 128) :
    k0_pay1 (F := Ideal) x y (ix2 r l) = ∑ d : Fin 128, x (ix2 r d) * y (ix3 0 l d) := by
  pointwise [k0_pay1]

theorem pay02 (x : FVec Ideal S1000x128 .f32) (y : FVec Ideal S1x128x128 .f32) (r : Fin 1000) (l : Fin 128) :
    k0_pay2 (F := Ideal) x y (ix2 r l) = ∑ d : Fin 128, x (ix2 r d) * y (ix3 0 l d) := by
  pointwise [k0_pay2]

theorem pay03 (x : FVec Ideal S1000x128 .f32) (y : FVec Ideal S1x128x128 .f32) (r : Fin 1000) (l : Fin 128) :
    k0_pay3 (F := Ideal) x y (ix2 r l) = ∑ d : Fin 128, x (ix2 r d) * y (ix3 0 l d) := by
  pointwise [k0_pay3]

/-- The products of a block with the first half of the weights. -/
theorem out02_at (x0 : Vec Ideal S1000x128 .f32) (x1 : Vec Ideal S3x128x128 .f32) (r : Fin 1000) (t : Fin 3) (l : Fin 128) :
    out0_2 (F := Ideal) x0 x1 (ix2 r (col t l)) = ∑ d : Fin 128, x0 (ix2 r d) * x1 (ix3 t l d) := by
  unfold out0_2
  have e0 : ∀ d : Fin 128, View.ld x0 r0_0 (ix2 r d) = x0 (ix2 r d) := fun d =>
    Blocks.ld_at (R := 1000) (C := 128) (a := 0) (b := 0) (h := 1000) (w := 128) _ _ r d r d (Nat.zero_add _).symm (Nat.zero_add _).symm
  fin_cases t
  · refine (Blocks.canon_miss (R := 1000) (C := 384) (a := 0) (b := 256) (h := 1000) (w := 128) _ _ _ r _ (.inl (by simp [col]; omega))).trans ?_
    refine (Blocks.canon_miss (R := 1000) (C := 384) (a := 0) (b := 128) (h := 1000) (w := 128) _ _ _ r _ (.inl (by simp [col]))).trans ?_
    refine (Blocks.canon_hit (R := 1000) (C := 384) (a := 0) (b := 0) (h := 1000) (w := 128) _ _ _ r _ r l (Nat.zero_add _).symm (by simp [col])).trans ?_
    refine (pay01 _ _ r l).trans ?_
    refine Finset.sum_congr rfl fun d _ => ?_
    rw [e0]
    exact congrArg _ (Blocks.ld_first (P := 3) (R := 128) (C := 128) (a := 0) _ _ 0 l d rfl)
  · refine (Blocks.canon_miss (R := 1000) (C := 384) (a := 0) (b := 256) (h := 1000) (w := 128) _ _ _ r _ (.inl (by simp [col]; omega))).trans ?_
    refine (Blocks.canon_hit (R := 1000) (C := 384) (a := 0) (b := 128) (h := 1000) (w := 128) _ _ _ r _ r l (Nat.zero_add _).symm (by simp [col])).trans ?_
    refine (pay02 _ _ r l).trans ?_
    refine Finset.sum_congr rfl fun d _ => ?_
    rw [e0]
    exact congrArg _ (Blocks.ld_first (P := 3) (R := 128) (C := 128) (a := 1) _ _ 1 l d rfl)
  · refine (Blocks.canon_hit (R := 1000) (C := 384) (a := 0) (b := 256) (h := 1000) (w := 128) _ _ _ r _ r l (Nat.zero_add _).symm (by simp [col])).trans ?_
    refine (pay03 _ _ r l).trans ?_
    refine Finset.sum_congr rfl fun d _ => ?_
    rw [e0]
    exact congrArg _ (Blocks.ld_first (P := 3) (R := 128) (C := 128) (a := 2) _ _ 2 l d rfl)

/-- The running sum of one window's convolution. -/
def acc (f : FVec Ideal S1000x128 .f32) (p0 p1 p2 : FVec Ideal S1000x128 .f32) (n0 n1 n2 : FVec Ideal S1000x1x128 .f32)
    (u0 u1 u2 : FVec Ideal S1x128x128 .f32) (b : FVec Ideal S1x128 .f32) (r : Fin 1000) (l : Fin 128) : EReal :=
  p0 (ix2 r l) + ∑ d : Fin 128, (f (ix2 r d) - n0 (ix3 r 0 d)) * u0 (ix3 0 l d) + p1 (ix2 r l)
    + ∑ d : Fin 128, (f (ix2 r d) - n1 (ix3 r 0 d)) * u1 (ix3 0 l d) + p2 (ix2 r l)
    + ∑ d : Fin 128, (f (ix2 r d) - n2 (ix3 r 0 d)) * u2 (ix3 0 l d) + b (ix2 0 l)

section

variable (f : FVec Ideal S1000x128 .f32) (p0 p1 p2 : FVec Ideal S1000x128 .f32) (n0 n1 n2 : FVec Ideal S1000x1x128 .f32)
    (u0 u1 u2 : FVec Ideal S1x128x128 .f32) (b s : FVec Ideal S1x128 .f32)

theorem pay9 (r : Fin 1000) (l : Fin 128) :
    k1_pay9 (F := Ideal) (k1_pay5 p2) (k1_pay7 f p0 p1 n0 u0 n1 u1) (k1_pay8 f n2) u2 b (ix2 r l) = acc f p0 p1 p2 n0 n1 n2 u0 u1 u2 b r l := by
  pointwise [k1_pay9, k1_pay5, k1_pay7, k1_pay8, k1_pay3, k1_pay4]
  rfl

theorem pay14 (r : Fin 1000) (l : Fin 128) :
    k1_pay14 (F := Ideal) f (k1_pay4 p1) (k1_pay5 p2) (k1_pay12 f (k1_pay3 p0) n0 u0) (k1_pay13 n1) u1 n2 u2 b (ix2 r l)
      = acc f p0 p1 p2 n0 n1 n2 u0 u1 u2 b r l := by
  pointwise [k1_pay14, k1_pay5, k1_pay12, k1_pay13, k1_pay3, k1_pay4]
  rfl

theorem pay17 (r : Fin 1000) (l : Fin 128) :
    k1_pay17 (F := Ideal) f (k1_pay3 p0) (k1_pay4 p1) (k1_pay5 p2) n0 u0 n1 u1 n2 u2 b (ix2 r l)
      = acc f p0 p1 p2 n0 n1 n2 u0 u1 u2 b r l := by
  pointwise [k1_pay17, k1_pay5, k1_pay3, k1_pay4]
  rfl

theorem pay10 (l : Fin 128) :
    k1_pay10 (F := Ideal) (k1_pay5 p2) (k1_pay7 f p0 p1 n0 u0 n1 u1) (k1_pay8 f n2) u2 b s (ix2 0 l)
      = s (ix2 0 l) + ∑ r, acc f p0 p1 p2 n0 n1 n2 u0 u1 u2 b r l := by
  simp only [← pay9]
  unfold k1_pay10
  generalize k1_pay9 (F := Ideal) (k1_pay5 p2) (k1_pay7 f p0 p1 n0 u0 n1 u1) (k1_pay8 f n2) u2 b = q
  pointwise

theorem pay11 (l : Fin 128) :
    k1_pay11 (F := Ideal) (k1_pay5 p2) (k1_pay7 f p0 p1 n0 u0 n1 u1) (k1_pay8 f n2) u2 b s (ix2 0 l)
      = s (ix2 0 l) + ∑ r, acc f p0 p1 p2 n0 n1 n2 u0 u1 u2 b r l * acc f p0 p1 p2 n0 n1 n2 u0 u1 u2 b r l := by
  simp only [← pay9]
  unfold k1_pay11
  generalize k1_pay9 (F := Ideal) (k1_pay5 p2) (k1_pay7 f p0 p1 n0 u0 n1 u1) (k1_pay8 f n2) u2 b = q
  pointwise

theorem pay15 (l : Fin 128) :
    k1_pay15 (F := Ideal) f (k1_pay4 p1) (k1_pay5 p2) (k1_pay12 f (k1_pay3 p0) n0 u0) (k1_pay13 n1) u1 n2 u2 b s (ix2 0 l)
      = s (ix2 0 l) + ∑ r, acc f p0 p1 p2 n0 n1 n2 u0 u1 u2 b r l := by
  simp only [← pay14]
  unfold k1_pay15
  generalize k1_pay14 (F := Ideal) f (k1_pay4 p1) (k1_pay5 p2) (k1_pay12 f (k1_pay3 p0) n0 u0) (k1_pay13 n1) u1 n2 u2 b = q
  pointwise

theorem pay16 (l : Fin 128) :
    k1_pay16 (F := Ideal) f (k1_pay4 p1) (k1_pay5 p2) (k1_pay12 f (k1_pay3 p0) n0 u0) (k1_pay13 n1) u1 n2 u2 b s (ix2 0 l)
      = s (ix2 0 l) + ∑ r, acc f p0 p1 p2 n0 n1 n2 u0 u1 u2 b r l * acc f p0 p1 p2 n0 n1 n2 u0 u1 u2 b r l := by
  simp only [← pay14]
  unfold k1_pay16
  generalize k1_pay14 (F := Ideal) f (k1_pay4 p1) (k1_pay5 p2) (k1_pay12 f (k1_pay3 p0) n0 u0) (k1_pay13 n1) u1 n2 u2 b = q
  pointwise

theorem pay1 (l : Fin 128) :
    k1_pay1 (F := Ideal) (k1_pay18 s) (k1_pay19 f (k1_pay3 p0) (k1_pay4 p1) (k1_pay5 p2) n0 u0 n1 u1 n2 u2 b) (ix2 0 l)
      = s (ix2 0 l) + ∑ r, acc f p0 p1 p2 n0 n1 n2 u0 u1 u2 b r l := by
  simp only [← pay17]
  unfold k1_pay1 k1_pay18 k1_pay19
  generalize k1_pay17 (F := Ideal) f (k1_pay3 p0) (k1_pay4 p1) (k1_pay5 p2) n0 u0 n1 u1 n2 u2 b = q
  pointwise

theorem pay2 (l : Fin 128) :
    k1_pay2 (F := Ideal) (k1_pay17 f (k1_pay3 p0) (k1_pay4 p1) (k1_pay5 p2) n0 u0 n1 u1 n2 u2 b) s (ix2 0 l)
      = s (ix2 0 l) + ∑ r, acc f p0 p1 p2 n0 n1 n2 u0 u1 u2 b r l * acc f p0 p1 p2 n0 n1 n2 u0 u1 u2 b r l := by
  simp only [← pay17]
  unfold k1_pay2
  generalize k1_pay17 (F := Ideal) f (k1_pay3 p0) (k1_pay4 p1) (k1_pay5 p2) n0 u0 n1 u1 n2 u2 b = q
  pointwise

theorem pay6 (i : S2x384.Idx) : k1_pay6 (F := Ideal) i = (0 : EReal) := by
  pointwise [k1_pay6]

end

/-- One window's convolution over a block. -/
def zB (x0 : FVec Ideal S1000x128 .f32) (x1 : FVec Ideal S1000x9x128 .f32) (x2 : FVec Ideal S1000x384 .f32) (x3 : FVec Ideal S3x128x128 .f32)
    (x4 : FVec Ideal S1x128 .f32) (s : Fin 3) (r : Fin 1000) (l : Fin 128) : EReal :=
  x2 (ix2 r (col 0 l)) + ∑ d : Fin 128, (x0 (ix2 r d) - x1 (ix3 r (nb s 0) d)) * x3 (ix3 0 l d) + x2 (ix2 r (col 1 l))
    + ∑ d : Fin 128, (x0 (ix2 r d) - x1 (ix3 r (nb s 1) d)) * x3 (ix3 1 l d) + x2 (ix2 r (col 2 l))
    + ∑ d : Fin 128, (x0 (ix2 r d) - x1 (ix3 r (nb s 2) d)) * x3 (ix3 2 l d) + x4 (ix2 0 l)

theorem acc_eq (x0 : Vec Ideal S1000x128 .f32) (x1 : Vec Ideal S1000x9x128 .f32) (x2 : Vec Ideal S1000x384 .f32) (x3 : Vec Ideal S3x128x128 .f32)
    (x4 : Vec Ideal S1x128 .f32) (s : Fin 3) (a0 a1 a2 : Nat) (h0 : (nb s 0).val = a0) (h1 : (nb s 1).val = a1) (h2 : (nb s 2).val = a2)
    {i0 i1 i2 j0 j1 j2 k0 k1 k2} (r : Fin 1000) (l : Fin 128) :
    acc x0 (View.ld x2 (Rect.unit (s := S1000x384) ![0, 0] ![1000, 128] i0)) (View.ld x2 (Rect.unit (s := S1000x384) ![0, 128] ![1000, 128] i1))
      (View.ld x2 (Rect.unit (s := S1000x384) ![0, 256] ![1000, 128] i2)) (View.ld x1 (Rect.unit (s := S1000x9x128) ![0, a0, 0] ![1000, 1, 128] j0))
      (View.ld x1 (Rect.unit (s := S1000x9x128) ![0, a1, 0] ![1000, 1, 128] j1)) (View.ld x1 (Rect.unit (s := S1000x9x128) ![0, a2, 0] ![1000, 1, 128] j2))
      (View.ld x3 (Rect.unit (s := S3x128x128) ![0, 0, 0] ![1, 128, 128] k0)) (View.ld x3 (Rect.unit (s := S3x128x128) ![1, 0, 0] ![1, 128, 128] k1))
      (View.ld x3 (Rect.unit (s := S3x128x128) ![2, 0, 0] ![1, 128, 128] k2)) x4 r l = zB x0 x1 x2 x3 x4 s r l := by
  unfold acc zB
  have p0 := Blocks.ld_at (R := 1000) (C := 384) (a := 0) (b := 0) (h := 1000) (w := 128) x2 i0 r l r (col 0 l) (Nat.zero_add _).symm (by simp [col])
  have p1 := Blocks.ld_at (R := 1000) (C := 384) (a := 0) (b := 128) (h := 1000) (w := 128) x2 i1 r l r (col 1 l) (Nat.zero_add _).symm (by simp [col])
  have p2 := Blocks.ld_at (R := 1000) (C := 384) (a := 0) (b := 256) (h := 1000) (w := 128) x2 i2 r l r (col 2 l) (Nat.zero_add _).symm (by simp [col])
  have n0 := fun d => Blocks.ld_middle (P := 1000) (R := 9) (C := 128) (a := a0) x1 j0 r (nb s 0) d h0
  have n1 := fun d => Blocks.ld_middle (P := 1000) (R := 9) (C := 128) (a := a1) x1 j1 r (nb s 1) d h1
  have n2 := fun d => Blocks.ld_middle (P := 1000) (R := 9) (C := 128) (a := a2) x1 j2 r (nb s 2) d h2
  have u0 := fun d => Blocks.ld_first (P := 3) (R := 128) (C := 128) (a := 0) x3 k0 0 l d rfl
  have u1 := fun d => Blocks.ld_first (P := 3) (R := 128) (C := 128) (a := 1) x3 k1 1 l d rfl
  have u2 := fun d => Blocks.ld_first (P := 3) (R := 128) (C := 128) (a := 2) x3 k2 2 l d rfl
  rw [p0, p1, p2]
  simp only [n0, n1, n2, u0, u1, u2]

variable (V : (c : Dev nD) → (b : Ref sig .tc) → Buf (Elt Ideal) ((c : Thread nD τ).loc b))

/-- One window's convolution in the block of grid point `t`. -/
def zb (c : Dev nD) (t : Fin cfg1.N) (s : Fin 3) (r : Fin 1000) (l : Fin 128) : EReal :=
  zB (iblk1 V c 0 t) (iblk1 V c 1 t) (iblk1 V c 2 t) (iblk1 V c 3 t) (iblk1 V c 4 t) s r l

theorem blockA (c : Dev nD) (t : Fin cfg1.N) (h : t.val % 16 = 0) (s : Fin 3) (r : Fin 1000) (l : Fin 128) :
    (outsAt1 V c t.val t.isLt).1 (ix2 r (col s l)) = zb V c t s r l := by
  rw [outsAt1_A V c t h]; frame_out
  fin_cases s
  · refine (Blocks.canon_miss (R := 1000) (C := 384) (a := 0) (b := 256) (h := 1000) (w := 128) _ _ _ r _ (.inl (by simp [col]; try omega))).trans ?_
    refine (Blocks.canon_miss (R := 1000) (C := 384) (a := 0) (b := 128) (h := 1000) (w := 128) _ _ _ r _ (.inl (by simp [col]; try omega))).trans ?_
    refine (Blocks.canon_hit (R := 1000) (C := 384) (a := 0) (b := 0) (h := 1000) (w := 128) _ _ _ r _ r l (Nat.zero_add _).symm (by simp [col])).trans ?_
    refine (pay9 _ _ _ _ _ _ _ _ _ _ _ r l).trans ?_
    exact acc_eq _ _ _ _ _ 0 0 1 2 rfl rfl rfl r l
  · refine (Blocks.canon_miss (R := 1000) (C := 384) (a := 0) (b := 256) (h := 1000) (w := 128) _ _ _ r _ (.inl (by simp [col]; try omega))).trans ?_
    refine (Blocks.canon_hit (R := 1000) (C := 384) (a := 0) (b := 128) (h := 1000) (w := 128) _ _ _ r _ r l (Nat.zero_add _).symm (by simp [col])).trans ?_
    refine (pay14 _ _ _ _ _ _ _ _ _ _ _ r l).trans ?_
    exact acc_eq _ _ _ _ _ 1 3 4 5 rfl rfl rfl r l
  · refine (Blocks.canon_hit (R := 1000) (C := 384) (a := 0) (b := 256) (h := 1000) (w := 128) _ _ _ r _ r l (Nat.zero_add _).symm (by simp [col])).trans ?_
    refine (pay17 _ _ _ _ _ _ _ _ _ _ _ r l).trans ?_
    exact acc_eq _ _ _ _ _ 2 6 7 8 rfl rfl rfl r l

theorem blockB (c : Dev nD) (t : Fin cfg1.N) (h : ¬ t.val % 16 = 0) (s : Fin 3) (r : Fin 1000) (l : Fin 128) :
    (outsAt1 V c t.val t.isLt).1 (ix2 r (col s l)) = zb V c t s r l := by
  rw [outsAt1_B V c t h]; frame_out
  fin_cases s
  · refine (Blocks.canon_miss (R := 1000) (C := 384) (a := 0) (b := 256) (h := 1000) (w := 128) _ _ _ r _ (.inl (by simp [col]; try omega))).trans ?_
    refine (Blocks.canon_miss (R := 1000) (C := 384) (a := 0) (b := 128) (h := 1000) (w := 128) _ _ _ r _ (.inl (by simp [col]; try omega))).trans ?_
    refine (Blocks.canon_hit (R := 1000) (C := 384) (a := 0) (b := 0) (h := 1000) (w := 128) _ _ _ r _ r l (Nat.zero_add _).symm (by simp [col])).trans ?_
    refine (pay9 _ _ _ _ _ _ _ _ _ _ _ r l).trans ?_
    exact acc_eq _ _ _ _ _ 0 0 1 2 rfl rfl rfl r l
  · refine (Blocks.canon_miss (R := 1000) (C := 384) (a := 0) (b := 256) (h := 1000) (w := 128) _ _ _ r _ (.inl (by simp [col]; try omega))).trans ?_
    refine (Blocks.canon_hit (R := 1000) (C := 384) (a := 0) (b := 128) (h := 1000) (w := 128) _ _ _ r _ r l (Nat.zero_add _).symm (by simp [col])).trans ?_
    refine (pay14 _ _ _ _ _ _ _ _ _ _ _ r l).trans ?_
    exact acc_eq _ _ _ _ _ 1 3 4 5 rfl rfl rfl r l
  · refine (Blocks.canon_hit (R := 1000) (C := 384) (a := 0) (b := 256) (h := 1000) (w := 128) _ _ _ r _ r l (Nat.zero_add _).symm (by simp [col])).trans ?_
    refine (pay17 _ _ _ _ _ _ _ _ _ _ _ r l).trans ?_
    exact acc_eq _ _ _ _ _ 2 6 7 8 rfl rfl rfl r l

theorem block (c : Dev nD) (t : Fin cfg1.N) (s : Fin 3) (r : Fin 1000) (l : Fin 128) :
    (outsAt1 V c t.val t.isLt).1 (ix2 r (col s l)) = zb V c t s r l := by
  by_cases h : t.val % 16 = 0
  · exact blockA V c t h s r l
  · exact blockB V c t h s r l

theorem first0 (c : Dev nD) (t : Fin cfg1.N) (h : t.val % 16 = 0) (s : Fin 3) (l : Fin 128) :
    (outsAt1 V c t.val t.isLt).2 (ix2 0 (col s l)) = (0 : EReal) + ∑ r, zb V c t s r l := by
  rw [outsAt1_A V c t h]; frame_out
  fin_cases s
  · refine (Rows.canon_miss (R := 2) (C := 384) (a := 1) (b := 256) (w := 128) _ _ _ 0 _ (.inl (by decide))).trans ?_
    refine (Rows.canon_miss (R := 2) (C := 384) (a := 0) (b := 256) (w := 128) _ _ _ 0 _ (.inr (.inl (by simp [col]; try omega)))).trans ?_
    refine (Rows.canon_miss (R := 2) (C := 384) (a := 1) (b := 128) (w := 128) _ _ _ 0 _ (.inl (by decide))).trans ?_
    refine (Rows.canon_miss (R := 2) (C := 384) (a := 0) (b := 128) (w := 128) _ _ _ 0 _ (.inr (.inl (by simp [col]; try omega)))).trans ?_
    refine (Rows.canon_miss (R := 2) (C := 384) (a := 1) (b := 0) (w := 128) _ _ _ 0 _ (.inl (by decide))).trans ?_
    refine (Rows.canon_hit (R := 2) (C := 384) (a := 0) (b := 0) (w := 128) _ _ _ 0 _ l rfl (by simp [col])).trans ?_
    refine (pay10 _ _ _ _ _ _ _ _ _ _ _ _ l).trans ?_
    refine congrArg₂ (· + ·) ?_ (Finset.sum_congr rfl fun r _ => acc_eq _ _ _ _ _ 0 0 1 2 rfl rfl rfl r l)
    refine (Rows.readCov_at (R := 2) (C := 384) (a := 0) (b := 0) (w := 128) _ _ _ l 0 (col 0 l) rfl (by simp [col])).trans ?_
    rw [View.canon_cons_unit_lit]
    · exact pay6 _
    · intro a; fin_cases a <;> rfl
  · refine (Rows.canon_miss (R := 2) (C := 384) (a := 1) (b := 256) (w := 128) _ _ _ 0 _ (.inl (by decide))).trans ?_
    refine (Rows.canon_miss (R := 2) (C := 384) (a := 0) (b := 256) (w := 128) _ _ _ 0 _ (.inr (.inl (by simp [col]; try omega)))).trans ?_
    refine (Rows.canon_miss (R := 2) (C := 384) (a := 1) (b := 128) (w := 128) _ _ _ 0 _ (.inl (by decide))).trans ?_
    refine (Rows.canon_hit (R := 2) (C := 384) (a := 0) (b := 128) (w := 128) _ _ _ 0 _ l rfl (by simp [col])).trans ?_
    refine (pay15 _ _ _ _ _ _ _ _ _ _ _ _ l).trans ?_
    refine congrArg₂ (· + ·) ?_ (Finset.sum_congr rfl fun r _ => acc_eq _ _ _ _ _ 1 3 4 5 rfl rfl rfl r l)
    refine (Rows.readCov_at (R := 2) (C := 384) (a := 0) (b := 128) (w := 128) _ _ _ l 0 (col 1 l) rfl (by simp [col])).trans ?_
    refine (Rows.canon_miss (R := 2) (C := 384) (a := 1) (b := 0) (w := 128) _ _ _ 0 _ (.inl (by decide))).trans ?_
    refine (Rows.canon_miss (R := 2) (C := 384) (a := 0) (b := 0) (w := 128) _ _ _ 0 _ (.inr (.inr (by simp [col]; try omega)))).trans ?_
    rw [View.canon_cons_unit_lit]
    · exact pay6 _
    · intro a; fin_cases a <;> rfl
  · refine (Rows.canon_miss (R := 2) (C := 384) (a := 1) (b := 256) (w := 128) _ _ _ 0 _ (.inl (by decide))).trans ?_
    refine (Rows.canon_hit (R := 2) (C := 384) (a := 0) (b := 256) (w := 128) _ _ _ 0 _ l rfl (by simp [col])).trans ?_
    refine (pay1 _ _ _ _ _ _ _ _ _ _ _ _ l).trans ?_
    refine congrArg₂ (· + ·) ?_ (Finset.sum_congr rfl fun r _ => acc_eq _ _ _ _ _ 2 6 7 8 rfl rfl rfl r l)
    refine (Rows.readCov_at (R := 2) (C := 384) (a := 0) (b := 256) (w := 128) _ _ _ l 0 (col 2 l) rfl (by simp [col])).trans ?_
    refine (Rows.canon_miss (R := 2) (C := 384) (a := 1) (b := 128) (w := 128) _ _ _ 0 _ (.inl (by decide))).trans ?_
    refine (Rows.canon_miss (R := 2) (C := 384) (a := 0) (b := 128) (w := 128) _ _ _ 0 _ (.inr (.inr (by simp [col]; try omega)))).trans ?_
    refine (Rows.canon_miss (R := 2) (C := 384) (a := 1) (b := 0) (w := 128) _ _ _ 0 _ (.inl (by decide))).trans ?_
    refine (Rows.canon_miss (R := 2) (C := 384) (a := 0) (b := 0) (w := 128) _ _ _ 0 _ (.inr (.inr (by simp [col]; try omega)))).trans ?_
    rw [View.canon_cons_unit_lit]
    · exact pay6 _
    · intro a; fin_cases a <;> rfl

theorem first1 (c : Dev nD) (t : Fin cfg1.N) (h : t.val % 16 = 0) (s : Fin 3) (l : Fin 128) :
    (outsAt1 V c t.val t.isLt).2 (ix2 1 (col s l)) = (0 : EReal) + ∑ r, zb V c t s r l * zb V c t s r l := by
  rw [outsAt1_A V c t h]; frame_out
  fin_cases s
  · refine (Rows.canon_miss (R := 2) (C := 384) (a := 1) (b := 256) (w := 128) _ _ _ 1 _ (.inr (.inl (by simp [col]; try omega)))).trans ?_
    refine (Rows.canon_miss (R := 2) (C := 384) (a := 0) (b := 256) (w := 128) _ _ _ 1 _ (.inl (by decide))).trans ?_
    refine (Rows.canon_miss (R := 2) (C := 384) (a := 1) (b := 128) (w := 128) _ _ _ 1 _ (.inr (.inl (by simp [col]; try omega)))).trans ?_
    refine (Rows.canon_miss (R := 2) (C := 384) (a := 0) (b := 128) (w := 128) _ _ _ 1 _ (.inl (by decide))).trans ?_
    refine (Rows.canon_hit (R := 2) (C := 384) (a := 1) (b := 0) (w := 128) _ _ _ 1 _ l rfl (by simp [col])).trans ?_
    refine (pay11 _ _ _ _ _ _ _ _ _ _ _ _ l).trans ?_
    refine congrArg₂ (· + ·) ?_ (Finset.sum_congr rfl fun r _ => congrArg (fun e => e * e) (acc_eq _ _ _ _ _ 0 0 1 2 rfl rfl rfl r l))
    refine (Rows.readCov_at (R := 2) (C := 384) (a := 1) (b := 0) (w := 128) _ _ _ l 1 (col 0 l) rfl (by simp [col])).trans ?_
    refine (Rows.canon_miss (R := 2) (C := 384) (a := 0) (b := 0) (w := 128) _ _ _ 1 _ (.inl (by decide))).trans ?_
    rw [View.canon_cons_unit_lit]
    · exact pay6 _
    · intro a; fin_cases a <;> rfl
  · refine (Rows.canon_miss (R := 2) (C := 384) (a := 1) (b := 256) (w := 128) _ _ _ 1 _ (.inr (.inl (by simp [col]; try omega)))).trans ?_
    refine (Rows.canon_miss (R := 2) (C := 384) (a := 0) (b := 256) (w := 128) _ _ _ 1 _ (.inl (by decide))).trans ?_
    refine (Rows.canon_hit (R := 2) (C := 384) (a := 1) (b := 128) (w := 128) _ _ _ 1 _ l rfl (by simp [col])).trans ?_
    refine (pay16 _ _ _ _ _ _ _ _ _ _ _ _ l).trans ?_
    refine congrArg₂ (· + ·) ?_ (Finset.sum_congr rfl fun r _ => congrArg (fun e => e * e) (acc_eq _ _ _ _ _ 1 3 4 5 rfl rfl rfl r l))
    refine (Rows.readCov_at (R := 2) (C := 384) (a := 1) (b := 128) (w := 128) _ _ _ l 1 (col 1 l) rfl (by simp [col])).trans ?_
    refine (Rows.canon_miss (R := 2) (C := 384) (a := 0) (b := 128) (w := 128) _ _ _ 1 _ (.inl (by decide))).trans ?_
    refine (Rows.canon_miss (R := 2) (C := 384) (a := 1) (b := 0) (w := 128) _ _ _ 1 _ (.inr (.inr (by simp [col]; try omega)))).trans ?_
    refine (Rows.canon_miss (R := 2) (C := 384) (a := 0) (b := 0) (w := 128) _ _ _ 1 _ (.inl (by decide))).trans ?_
    rw [View.canon_cons_unit_lit]
    · exact pay6 _
    · intro a; fin_cases a <;> rfl
  · refine (Rows.canon_hit (R := 2) (C := 384) (a := 1) (b := 256) (w := 128) _ _ _ 1 _ l rfl (by simp [col])).trans ?_
    refine (pay2 _ _ _ _ _ _ _ _ _ _ _ _ l).trans ?_
    refine congrArg₂ (· + ·) ?_ (Finset.sum_congr rfl fun r _ => congrArg (fun e => e * e) (acc_eq _ _ _ _ _ 2 6 7 8 rfl rfl rfl r l))
    refine (Rows.readCov_at (R := 2) (C := 384) (a := 1) (b := 256) (w := 128) _ _ _ l 1 (col 2 l) rfl (by simp [col])).trans ?_
    refine (Rows.canon_miss (R := 2) (C := 384) (a := 0) (b := 256) (w := 128) _ _ _ 1 _ (.inl (by decide))).trans ?_
    refine (Rows.canon_miss (R := 2) (C := 384) (a := 1) (b := 128) (w := 128) _ _ _ 1 _ (.inr (.inr (by simp [col]; try omega)))).trans ?_
    refine (Rows.canon_miss (R := 2) (C := 384) (a := 0) (b := 128) (w := 128) _ _ _ 1 _ (.inl (by decide))).trans ?_
    refine (Rows.canon_miss (R := 2) (C := 384) (a := 1) (b := 0) (w := 128) _ _ _ 1 _ (.inr (.inr (by simp [col]; try omega)))).trans ?_
    refine (Rows.canon_miss (R := 2) (C := 384) (a := 0) (b := 0) (w := 128) _ _ _ 1 _ (.inl (by decide))).trans ?_
    rw [View.canon_cons_unit_lit]
    · exact pay6 _
    · intro a; fin_cases a <;> rfl

theorem next0 (c : Dev nD) (t : Fin cfg1.N) (h : ¬ t.val % 16 = 0) (s : Fin 3) (l : Fin 128) (hp : t.val - 1 < cfg1.N) :
    (outsAt1 V c t.val t.isLt).2 (ix2 0 (col s l)) = (outsAt1 V c (t.val - 1) hp).2 (ix2 0 (col s l)) + ∑ r, zb V c t s r l := by
  rw [outsAt1_B V c t h]; frame_out
  fin_cases s
  · refine (Rows.canon_miss (R := 2) (C := 384) (a := 1) (b := 256) (w := 128) _ _ _ 0 _ (.inl (by decide))).trans ?_
    refine (Rows.canon_miss (R := 2) (C := 384) (a := 0) (b := 256) (w := 128) _ _ _ 0 _ (.inr (.inl (by simp [col]; try omega)))).trans ?_
    refine (Rows.canon_miss (R := 2) (C := 384) (a := 1) (b := 128) (w := 128) _ _ _ 0 _ (.inl (by decide))).trans ?_
    refine (Rows.canon_miss (R := 2) (C := 384) (a := 0) (b := 128) (w := 128) _ _ _ 0 _ (.inr (.inl (by simp [col]; try omega)))).trans ?_
    refine (Rows.canon_miss (R := 2) (C := 384) (a := 1) (b := 0) (w := 128) _ _ _ 0 _ (.inl (by decide))).trans ?_
    refine (Rows.canon_hit (R := 2) (C := 384) (a := 0) (b := 0) (w := 128) _ _ _ 0 _ l rfl (by simp [col])).trans ?_
    refine (pay10 _ _ _ _ _ _ _ _ _ _ _ _ l).trans ?_
    refine congrArg₂ (· + ·) ?_ (Finset.sum_congr rfl fun r _ => acc_eq _ _ _ _ _ 0 0 1 2 rfl rfl rfl r l)
    exact Rows.ld_at (R := 2) (C := 384) (a := 0) (b := 0) (w := 128) _ _ l 0 _ rfl (by simp [col])
  · refine (Rows.canon_miss (R := 2) (C := 384) (a := 1) (b := 256) (w := 128) _ _ _ 0 _ (.inl (by decide))).trans ?_
    refine (Rows.canon_miss (R := 2) (C := 384) (a := 0) (b := 256) (w := 128) _ _ _ 0 _ (.inr (.inl (by simp [col]; try omega)))).trans ?_
    refine (Rows.canon_miss (R := 2) (C := 384) (a := 1) (b := 128) (w := 128) _ _ _ 0 _ (.inl (by decide))).trans ?_
    refine (Rows.canon_hit (R := 2) (C := 384) (a := 0) (b := 128) (w := 128) _ _ _ 0 _ l rfl (by simp [col])).trans ?_
    refine (pay15 _ _ _ _ _ _ _ _ _ _ _ _ l).trans ?_
    refine congrArg₂ (· + ·) ?_ (Finset.sum_congr rfl fun r _ => acc_eq _ _ _ _ _ 1 3 4 5 rfl rfl rfl r l)
    exact Rows.ld_at (R := 2) (C := 384) (a := 0) (b := 128) (w := 128) _ _ l 0 _ rfl (by simp [col])
  · refine (Rows.canon_miss (R := 2) (C := 384) (a := 1) (b := 256) (w := 128) _ _ _ 0 _ (.inl (by decide))).trans ?_
    refine (Rows.canon_hit (R := 2) (C := 384) (a := 0) (b := 256) (w := 128) _ _ _ 0 _ l rfl (by simp [col])).trans ?_
    refine (pay1 _ _ _ _ _ _ _ _ _ _ _ _ l).trans ?_
    refine congrArg₂ (· + ·) ?_ (Finset.sum_congr rfl fun r _ => acc_eq _ _ _ _ _ 2 6 7 8 rfl rfl rfl r l)
    exact Rows.ld_at (R := 2) (C := 384) (a := 0) (b := 256) (w := 128) _ _ l 0 _ rfl (by simp [col])

theorem next1 (c : Dev nD) (t : Fin cfg1.N) (h : ¬ t.val % 16 = 0) (s : Fin 3) (l : Fin 128) (hp : t.val - 1 < cfg1.N) :
    (outsAt1 V c t.val t.isLt).2 (ix2 1 (col s l)) = (outsAt1 V c (t.val - 1) hp).2 (ix2 1 (col s l)) + ∑ r, zb V c t s r l * zb V c t s r l := by
  rw [outsAt1_B V c t h]; frame_out
  fin_cases s
  · refine (Rows.canon_miss (R := 2) (C := 384) (a := 1) (b := 256) (w := 128) _ _ _ 1 _ (.inr (.inl (by simp [col]; try omega)))).trans ?_
    refine (Rows.canon_miss (R := 2) (C := 384) (a := 0) (b := 256) (w := 128) _ _ _ 1 _ (.inl (by decide))).trans ?_
    refine (Rows.canon_miss (R := 2) (C := 384) (a := 1) (b := 128) (w := 128) _ _ _ 1 _ (.inr (.inl (by simp [col]; try omega)))).trans ?_
    refine (Rows.canon_miss (R := 2) (C := 384) (a := 0) (b := 128) (w := 128) _ _ _ 1 _ (.inl (by decide))).trans ?_
    refine (Rows.canon_hit (R := 2) (C := 384) (a := 1) (b := 0) (w := 128) _ _ _ 1 _ l rfl (by simp [col])).trans ?_
    refine (pay11 _ _ _ _ _ _ _ _ _ _ _ _ l).trans ?_
    refine congrArg₂ (· + ·) ?_ (Finset.sum_congr rfl fun r _ => congrArg (fun e => e * e) (acc_eq _ _ _ _ _ 0 0 1 2 rfl rfl rfl r l))
    exact Rows.ld_at (R := 2) (C := 384) (a := 1) (b := 0) (w := 128) _ _ l 1 _ rfl (by simp [col])
  · refine (Rows.canon_miss (R := 2) (C := 384) (a := 1) (b := 256) (w := 128) _ _ _ 1 _ (.inr (.inl (by simp [col]; try omega)))).trans ?_
    refine (Rows.canon_miss (R := 2) (C := 384) (a := 0) (b := 256) (w := 128) _ _ _ 1 _ (.inl (by decide))).trans ?_
    refine (Rows.canon_hit (R := 2) (C := 384) (a := 1) (b := 128) (w := 128) _ _ _ 1 _ l rfl (by simp [col])).trans ?_
    refine (pay16 _ _ _ _ _ _ _ _ _ _ _ _ l).trans ?_
    refine congrArg₂ (· + ·) ?_ (Finset.sum_congr rfl fun r _ => congrArg (fun e => e * e) (acc_eq _ _ _ _ _ 1 3 4 5 rfl rfl rfl r l))
    exact Rows.ld_at (R := 2) (C := 384) (a := 1) (b := 128) (w := 128) _ _ l 1 _ rfl (by simp [col])
  · refine (Rows.canon_hit (R := 2) (C := 384) (a := 1) (b := 256) (w := 128) _ _ _ 1 _ l rfl (by simp [col])).trans ?_
    refine (pay2 _ _ _ _ _ _ _ _ _ _ _ _ l).trans ?_
    refine congrArg₂ (· + ·) ?_ (Finset.sum_congr rfl fun r _ => congrArg (fun e => e * e) (acc_eq _ _ _ _ _ 2 6 7 8 rfl rfl rfl r l))
    exact Rows.ld_at (R := 2) (C := 384) (a := 1) (b := 256) (w := 128) _ _ l 1 _ rfl (by simp [col])

end Cert.Proof.AnnFirst

end
-- ==== Proof.AnnArrays.lean ====
module

public import proofs.«01_k».proof.Proof.AnnFirst
public import proofs.«01_k».proof.Proof.Moments
public import Idealize.ShloMosaic.Lib.Pipeline.ValueKit
public import Idealize.ShloMosaic.Lib.Pointwise

/-!
What the aggregation's first two calls leave in their arrays: the first convolution at every point and window, and over all
points the sums of its values and of their squares.
-/

@[expose] public section

set_option maxRecDepth 16384

noncomputable section

namespace Cert.Proof.AnnArrays

open Cert.AnnIdeal Cert.AnnIdeal.Gen
open Idealize.ShloMosaic Idealize.ShloMosaic.TcCoe Idealize.SL.Sem
open Idealize.ShloMosaic.Pipeline (Dat)
open Cert.Proof.AnnFirst

/-- The window of a column. -/
def win (j : Fin 384) : Fin 3 := ⟨j.val / 128, by omega⟩

/-- The channel of a column. -/
def chan (j : Fin 384) : Fin 128 := ⟨j.val % 128, by omega⟩

theorem col_win_chan (j : Fin 384) : col (win j) (chan j) = j := Fin.ext (by simp only [col, win, chan]; omega)

theorem win_col (s : Fin 3) (l : Fin 128) : win (col s l) = s := Fin.ext (by simp only [col, win]; omega)

theorem chan_col (s : Fin 3) (l : Fin 128) : chan (col s l) = l := Fin.ext (by simp only [col, chan]; omega)

variable (V : (c : Dev nD) → (b : Ref sig .tc) → Buf (Elt Ideal) ((c : Thread nD τ).loc b))

theorem whole0 (c : Dev nD) (s : Fin 3) (l : Fin 128) :
    (dat1 V c).arrAt 6 cfg1.N (ix2 0 (col s l)) = ∑ t : Fin cfg1.N, ∑ r, zb V c t s r l := by
  have e : (dat1 V c).arrAt 6 cfg1.N = (outsAt1 V c t1_15.val t1_15.isLt).2 := by
    refine (dat1 V c).arrAt_eq_of_after_last 6 t1_15 (by decide +kernel) _ fun j => ?_
    blk_simp
    rw [after1_6]
  rw [e]
  refine (Pipeline.eq_sum_fin_of_reset_step_apply_last (fun n h (l : Fin 128) => ((outsAt1 V c n h).2 (ix2 0 (col s l)) : EReal)) 16 (fun _ => 0)
    (fun t l => ∑ r, zb V c t s r l) (fun t h l => first0 V c t h s l) (fun t h l => next0 V c t h s l _) (le_of_eq N_1) t1_15 rfl l).trans ?_
  exact zero_add _

theorem whole1 (c : Dev nD) (s : Fin 3) (l : Fin 128) :
    (dat1 V c).arrAt 6 cfg1.N (ix2 1 (col s l)) = ∑ t : Fin cfg1.N, ∑ r, zb V c t s r l * zb V c t s r l := by
  have e : (dat1 V c).arrAt 6 cfg1.N = (outsAt1 V c t1_15.val t1_15.isLt).2 := by
    refine (dat1 V c).arrAt_eq_of_after_last 6 t1_15 (by decide +kernel) _ fun j => ?_
    blk_simp
    rw [after1_6]
  rw [e]
  refine (Pipeline.eq_sum_fin_of_reset_step_apply_last (fun n h (l : Fin 128) => ((outsAt1 V c n h).2 (ix2 1 (col s l)) : EReal)) 16 (fun _ => 0)
    (fun t l => ∑ r, zb V c t s r l * zb V c t s r l) (fun t h l => first1 V c t h s l) (fun t h l => next1 V c t h s l _) (le_of_eq N_1) t1_15 rfl l).trans ?_
  exact zero_add _

theorem idx0 : ∀ t : Fin cfg0.N, win0_0.index t = ![t.val, 0] ∧ win0_1.index t = ![0, 0, 0] ∧ win0_2.index t = ![t.val, 0] :=
  (by decide +kernel : ∀ t : Fin grid0.N, _)

theorem idx1 : ∀ t : Fin cfg1.N, win1_0.index t = ![t.val, 0] ∧ win1_1.index t = ![t.val, 0, 0] ∧ win1_2.index t = ![t.val, 0]
    ∧ win1_3.index t = ![0, 0, 0] ∧ win1_4.index t = ![0, 0] ∧ win1_5.index t = ![t.val, 0] :=
  (by decide +kernel : ∀ t : Fin grid1.N, _)

/-- The row of point `r` of the first call's block `t`. -/
def rowOf0 (t : Fin cfg0.N) (r : Fin 1000) : Fin 16000 :=
  ⟨t.val * 1000 + r.val, by have := t.isLt; have e : cfg0.N = 16 := N_0; omega⟩

/-- The row of point `r` of the second call's block `t`. -/
def rowOf (t : Fin cfg1.N) (r : Fin 1000) : Fin 16000 :=
  ⟨t.val * 1000 + r.val, by have := t.isLt; have e : cfg1.N = 16 := N_1; omega⟩

/-- A point's product with one window's first half of the weights. -/
def part (f : FVec Ideal S16000x128 .f32) (wa : FVec Ideal S3x128x128 .f32) (n : Fin 16000) (j : Fin 384) : EReal :=
  ∑ d : Fin 128, f (ix2 n d) * wa (ix3 (win j) (chan j) d)

theorem block2 (c : Dev nD) (t : Fin cfg0.N) (y : S1000x384.Idx) :
    out0_2 (F := Ideal) (iblk0 V c 0 t) (iblk0 V c 1 t) y = part (V c main_arg0) (V c main_v2) (rowOf0 t (y 0)) (y 1) := by
  obtain ⟨i, j, rfl⟩ : ∃ (i : Fin 1000) (j : Fin 384), y = ix2 i j := ⟨y 0, y 1, eq_ix2 y⟩
  show _ = part (V c main_arg0) (V c main_v2) (rowOf0 t i) j
  have h := out02_at (iblk0 V c 0 t) (iblk0 V c 1 t) i (win j) (chan j)
  rw [col_win_chan] at h
  refine h.trans ?_
  unfold part
  have e0 : ∀ k : Fin 128, iblk0 V c 0 t (ix2 i k) = V c main_arg0 (ix2 (rowOf0 t i) k) := fun k => by blk_ext! [iblk0, idx0 t, rowOf0]
  have e1 : ∀ (p : Fin 3) (o k : Fin 128), iblk0 V c 1 t (ix3 p o k) = V c main_v2 (ix3 p o k) := fun p o k => by blk_ext! [iblk0, idx0 t]
  simp only [e0, e1]

theorem final2 (c : Dev nD) :
    (dat0 V c).arrAt 2 cfg0.N = fun i => part (V c main_arg0) (V c main_v2) (i 0) (i 1) := by
  refine (dat0 V c).arrAt_eq_of_covers 2 _ (by decide +kernel) fun t _ y => ?_
  blk_simp
  rw [after0_2]
  refine (block2 V c t y).trans ?_
  have e : ((View.whole main_v5).slice (win0_2.rect t)).emb y = ix2 (n0 := 16000) (n1 := 384) (rowOf0 t (y 0)) (y 1) := by
    blk_ext [idx0 t, rowOf0]
  rw [e]
  rfl

/-- One window's convolution at a point, over arrays. -/
def zrow (f : FVec Ideal S16000x128 .f32) (g : FVec Ideal S16000x9x128 .f32) (pa : FVec Ideal S16000x384 .f32) (wb : FVec Ideal S3x128x128 .f32)
    (b : FVec Ideal S1x128 .f32) (s : Fin 3) (n : Fin 16000) (l : Fin 128) : EReal :=
  pa (ix2 n (col 0 l)) + ∑ d : Fin 128, (f (ix2 n d) - g (ix3 n (nb s 0) d)) * wb (ix3 0 l d) + pa (ix2 n (col 1 l))
    + ∑ d : Fin 128, (f (ix2 n d) - g (ix3 n (nb s 1) d)) * wb (ix3 1 l d) + pa (ix2 n (col 2 l))
    + ∑ d : Fin 128, (f (ix2 n d) - g (ix3 n (nb s 2) d)) * wb (ix3 2 l d) + b (ix2 0 l)

theorem zb_eq (c : Dev nD) (t : Fin cfg1.N) (s : Fin 3) (r : Fin 1000) (l : Fin 128) :
    zb V c t s r l = zrow (V c main_arg0) (V c main_v6) (V c main_v5) (V c main_v4) (V c main_v7) s (rowOf t r) l := by
  unfold zb zB zrow
  have e0 : ∀ k : Fin 128, iblk1 V c 0 t (ix2 r k) = V c main_arg0 (ix2 (rowOf t r) k) := fun k => by blk_ext! [iblk1, idx1 t, rowOf]
  have e1 : ∀ (p : Fin 9) (k : Fin 128), iblk1 V c 1 t (ix3 r p k) = V c main_v6 (ix3 (rowOf t r) p k) := fun p k => by
    blk_ext! [iblk1, idx1 t, rowOf]
  have e2 : ∀ k : Fin 384, iblk1 V c 2 t (ix2 r k) = V c main_v5 (ix2 (rowOf t r) k) := fun k => by blk_ext! [iblk1, idx1 t, rowOf]
  have e3 : ∀ (p : Fin 3) (o k : Fin 128), iblk1 V c 3 t (ix3 p o k) = V c main_v4 (ix3 p o k) := fun p o k => by blk_ext! [iblk1, idx1 t]
  have e4 : iblk1 V c 4 t (ix2 0 l) = V c main_v7 (ix2 0 l) := by blk_ext! [iblk1, idx1 t]
  simp only [e0, e1, e2, e3, e4]

theorem final5 (c : Dev nD) : (dat1 V c).arrAt 5 cfg1.N
    = fun i => zrow (V c main_arg0) (V c main_v6) (V c main_v5) (V c main_v4) (V c main_v7) (win (i 1)) (i 0) (chan (i 1)) := by
  refine (dat1 V c).arrAt_eq_of_covers 5 _ (by decide +kernel) fun t _ y => ?_
  blk_simp
  rw [after1_5]
  have h : (outsAt1 V c t.val t.isLt).1 y
      = zrow (V c main_arg0) (V c main_v6) (V c main_v5) (V c main_v4) (V c main_v7) (win (y 1)) (rowOf t (y 0)) (chan (y 1)) := by
    obtain ⟨i, j, rfl⟩ : ∃ (i : Fin 1000) (j : Fin 384), y = ix2 i j := ⟨y 0, y 1, eq_ix2 y⟩
    have h := block V c t (win j) i (chan j)
    rw [col_win_chan] at h
    exact h.trans (zb_eq V c t (win j) i (chan j))
  refine h.trans ?_
  have e : ((View.whole main_v8_0).slice (win1_5.rect t)).emb y = ix2 (n0 := 16000) (n1 := 384) (rowOf t (y 0)) (y 1) := by
    blk_ext [idx1 t, rowOf]
  rw [e]
  rfl

variable (m : (ℓ : Loc nD τ sig) → Buf (Elt Ideal) ℓ) (ρ : Dev nD → PrngReg)

/-- The features, the gathered features, the first weights and the first bias. -/
abbrev fs (c : Dev nD) : FVec Ideal S16000x128 .f32 := m ((c : Thread nD τ).loc main_arg0)
@[inherit_doc fs] abbrev gs (c : Dev nD) : FVec Ideal S144000x128 .f32 := m ((c : Thread nD τ).loc main_arg1)
@[inherit_doc fs] abbrev ws (c : Dev nD) : FVec Ideal S128x256x1x3 .f32 := m ((c : Thread nD τ).loc main_arg2)
@[inherit_doc fs] abbrev bs (c : Dev nD) : FVec Ideal S128 .f32 := m ((c : Thread nD τ).loc main_arg3)

theorem V1_v2 (c : Dev nD) (p : Fin 3) (o d : Fin 128) :
    V1 m ρ c main_v2 (ix3 p o d) = m ((c : Thread nD τ).loc main_arg2) (ix4 o (AnnSpec.lo d) 0 p) := by
  have e : V1 m ρ c main_v2 = transpose S3x128x128 [2, 0, 1] (extractStridedSlice S128x128x3 ![0, 0, 0]
      (shapeCast S128x256x3 (m ((c : Thread nD τ).loc main_arg2)) shapeCasts_S128x256x1x3_S128x256x3) slices_S128x256x3_S128x128x3_0_0_0)
      transposes_S128x128x3_S3x128x128_2_0_1 := by
    show StableHlo.after hostOps0 _ (Proc.devRef .tc main_v2) = _
    simp only [hostOps0, StableHlo.after_cons, StableHlo.after_nil]
    rfl
  rw [e]
  generalize m ((c : Thread nD τ).loc main_arg2) = x
  pointwise

theorem V1_v4 (c : Dev nD) (p : Fin 3) (o d : Fin 128) :
    V1 m ρ c main_v4 (ix3 p o d) = m ((c : Thread nD τ).loc main_arg2) (ix4 o (AnnSpec.hi d) 0 p) := by
  have e : V1 m ρ c main_v4 = transpose S3x128x128 [2, 0, 1] (extractStridedSlice S128x128x3 ![0, 128, 0]
      (shapeCast S128x256x3 (m ((c : Thread nD τ).loc main_arg2)) shapeCasts_S128x256x1x3_S128x256x3) slices_S128x256x3_S128x128x3_0_128_0)
      transposes_S128x128x3_S3x128x128_2_0_1 := by
    show StableHlo.after hostOps0 _ (Proc.devRef .tc main_v4) = _
    simp only [hostOps0, StableHlo.after_cons, StableHlo.after_nil]
    rfl
  rw [e]
  generalize m ((c : Thread nD τ).loc main_arg2) = x
  pointwise

theorem V3_v4 (c : Dev nD) : V3 m ρ c main_v4 = V1 m ρ c main_v4 :=
  (W3_of m ρ c main_v4 (by decide)).trans (W2_of m ρ c main_v4 (by decide))

theorem V3_v5 (c : Dev nD) (n : Fin 16000) (s : Fin 3) (l : Fin 128) :
    V3 m ρ c main_v5 (ix2 n (col s l)) = (∑ d : Fin 128, fs m c (ix2 n d) * ws m c (ix4 l (AnnSpec.lo d) 0 s) : EReal) := by
  have e : V3 m ρ c main_v5 = (dat0 (V1 m ρ) c).arrAt 2 cfg0.N := (W3_of m ρ c main_v5 (by decide)).trans (W2_arr m ρ c 2)
  rw [e, final2]
  show part (V1 m ρ c main_arg0) (V1 m ρ c main_v2) n (col s l) = _
  unfold part
  rw [win_col, chan_col, show V1 m ρ c main_arg0 = m ((c : Thread nD τ).loc main_arg0) from W1_args m ρ c main_arg0 (by decide)]
  exact Finset.sum_congr rfl fun d _ => congrArg (fs m c (ix2 n d) * ·) (V1_v2 m ρ c s l d)

theorem nine (x : FVec Ideal S144000x128 .f32) (n : Fin 16000) (p : Fin 9) (d : Fin 128) :
    shapeCast S16000x9x128 x shapeCasts_S144000x128_S16000x9x128 (ix3 n p d) = x (ix2 ⟨n.val * 9 + p.val, by omega⟩ d) := by
  pointwise

theorem V3_v6 (c : Dev nD) (n : Fin 16000) (s k : Fin 3) (d : Fin 128) :
    V3 m ρ c main_v6 (ix3 n (nb s k) d) = m ((c : Thread nD τ).loc main_arg1) (ix2 (AnnSpec.row n s k) d) := by
  have e : V3 m ρ c main_v6 = shapeCast S16000x9x128 (m ((c : Thread nD τ).loc main_arg1)) shapeCasts_S144000x128_S16000x9x128 := by
    rw [← W2_args m ρ c main_arg1 (by decide)]
    show StableHlo.after hostOps1 _ (Proc.devRef .tc main_v6) = _
    simp only [hostOps1, StableHlo.after_cons, StableHlo.after_nil]
    rfl
  rw [e]
  exact nine _ n (nb s k) d

theorem V3_v7 (c : Dev nD) (l : Fin 128) : V3 m ρ c main_v7 (ix2 0 l) = m ((c : Thread nD τ).loc main_arg3) (ix1 l) := by
  have e : V3 m ρ c main_v7 = shapeCast S1x128 (m ((c : Thread nD τ).loc main_arg3)) shapeCasts_S128_S1x128 := by
    rw [← W2_args m ρ c main_arg3 (by decide)]
    show StableHlo.after hostOps1 _ (Proc.devRef .tc main_v7) = _
    simp only [hostOps1, StableHlo.after_cons, StableHlo.after_nil]
    rfl
  rw [e]
  generalize m ((c : Thread nD τ).loc main_arg3) = x
  pointwise

/-- The first convolution over the arguments. -/
abbrev zs (c : Dev nD) : Fin 16000 → Fin 3 → Fin 128 → EReal :=
  AnnSpec.z (fs m c) (gs m c) (ws m c) (bs m c)

theorem zrow_eq (c : Dev nD) (s : Fin 3) (n : Fin 16000) (l : Fin 128) :
    zrow (V3 m ρ c main_arg0) (V3 m ρ c main_v6) (V3 m ρ c main_v5) (V3 m ρ c main_v4) (V3 m ρ c main_v7) s n l = zs m c n s l := by
  unfold zrow
  rw [V3_v4, show V3 m ρ c main_arg0 = fs m c from W3_args m ρ c main_arg0 (by decide)]
  have e : ∀ k : Fin 3, (∑ d : Fin 128, (fs m c (ix2 n d) - (V3 m ρ c main_v6 : FVec Ideal S16000x9x128 .f32) (ix3 n (nb s k) d))
        * (V1 m ρ c main_v4 : FVec Ideal S3x128x128 .f32) (ix3 k l d) : EReal)
      = ∑ d : Fin 128, (fs m c (ix2 n d) - gs m c (ix2 (AnnSpec.row n s k) d)) * ws m c (ix4 l (AnnSpec.hi d) 0 k) := fun k =>
    Finset.sum_congr rfl fun d _ => congrArg₂ (fun x y : EReal => (fs m c (ix2 n d) - x) * y) (V3_v6 m ρ c n s k d) (V1_v4 m ρ c k l d)
  have a := fun k => V3_v5 m ρ c n k l
  refine (congrArg₂ (fun x y : EReal => x + y) (congrArg₂ (fun x y : EReal => x + y) (congrArg₂ (fun x y : EReal => x + y)
    (congrArg₂ (fun x y : EReal => x + y) (congrArg₂ (fun x y : EReal => x + y) (congrArg₂ (fun x y : EReal => x + y) (a 0) (e 0)) (a 1)) (e 1)) (a 2)) (e 2))
    (V3_v7 m ρ c l)).trans ?_
  show _ = AnnSpec.z _ _ _ _ n s l
  unfold AnnSpec.z
  rw [Fin.sum_univ_three]
  simp only [add_assoc]

/-- The two rows of sums the second call leaves. -/
def sums (c : Dev nD) : FVec Ideal S2x384 .f32 := (dat1 (V3 m ρ) c).arrAt 6 cfg1.N

theorem sums0 (c : Dev nD) (s : Fin 3) (l : Fin 128) : sums m ρ c (ix2 0 (col s l)) = ∑ n, zs m c n s l := by
  refine (whole0 (V3 m ρ) c s l).trans ?_
  refine Fin.sum_mul_add_congr (L := 16000) (S := cfg1.N) (n := 1000) fun t k hl => ?_
  exact (zb_eq (V3 m ρ) c t s k l).trans (zrow_eq m ρ c s _ l)

theorem sums1 (c : Dev nD) (s : Fin 3) (l : Fin 128) : sums m ρ c (ix2 1 (col s l)) = ∑ n, zs m c n s l * zs m c n s l := by
  refine (whole1 (V3 m ρ) c s l).trans ?_
  refine Fin.sum_mul_add_congr (L := 16000) (S := cfg1.N) (n := 1000) fun t k hl => ?_
  exact congrArg (fun e => e * e) ((zb_eq (V3 m ρ) c t s k l).trans (zrow_eq m ρ c s _ l))

theorem first_at (c : Dev nD) (n : Fin 16000) (s : Fin 3) (l : Fin 128) :
    (dat1 (V3 m ρ) c).arrAt 5 cfg1.N (ix2 n (col s l)) = zs m c n s l := by
  rw [final5]
  show zrow _ _ _ _ _ (win (col s l)) n (chan (col s l)) = _
  rw [win_col, chan_col]
  exact zrow_eq m ρ c s n l

end Cert.Proof.AnnArrays

end
-- ==== Proof.AnnSecond.lean ====
module

public import proofs.«01_k».proof.Proof.AnnArrays

/-!
The aggregation's last call, entry by entry: the normalisation by the host's moments of the first convolution, the second
convolution of the three windows, and the host's moments of its values.
-/

@[expose] public section

set_option maxRecDepth 16384

noncomputable section

namespace Cert.Proof.AnnSecond

open Cert.AnnIdeal Cert.AnnIdeal.Gen
open Idealize.ShloMosaic Idealize.ShloMosaic.TcCoe Idealize.SL.Sem
open Idealize.ShloMosaic.Pipeline (Dat)
open Cert.Proof.AnnFirst Cert.Proof.AnnArrays

theorem pay3_at (x : FVec Ideal S1000x384 .f32) (mm v g b : FVec Ideal S1x384 .f32) (w : FVec Ideal S384x128 .f32) (bb : FVec Ideal S1x128 .f32)
    (r : Fin 1000) (o : Fin 128) :
    k2_pay3 (F := Ideal) x mm v g b w bb (ix2 r o)
      = ∑ j : Fin 384, PointsSpec.norm (x (ix2 r j)) (mm (ix2 0 j)) (v (ix2 0 j)) (g (ix2 0 j)) (b (ix2 0 j)) * w (ix2 j o) + bb (ix2 0 o) := by
  pointwise [k2_pay3]
  rfl

theorem pay1_at (x : FVec Ideal S1000x128 .f32) (p : FVec Ideal S1x128 .f32) (l : Fin 128) :
    k2_pay1 (F := Ideal) x p (ix2 0 l) = p (ix2 0 l) + ∑ r : Fin 1000, x (ix2 r l) := by
  pointwise [k2_pay1]

theorem pay2_at (x : FVec Ideal S1000x128 .f32) (p : FVec Ideal S1x128 .f32) (l : Fin 128) :
    k2_pay2 (F := Ideal) x p (ix2 0 l) = p (ix2 0 l) + ∑ r : Fin 1000, x (ix2 r l) * x (ix2 r l) := by
  pointwise [k2_pay2]

theorem pay4_at (i : S2x128.Idx) : k2_pay4 (F := Ideal) i = (0 : EReal) := by
  pointwise [k2_pay4]

variable (V : (c : Dev nD) → (b : Ref sig .tc) → Buf (Elt Ideal) ((c : Thread nD τ).loc b))

/-- The second convolution in the block of grid point `t`. -/
def hb (c : Dev nD) (t : Fin cfg2.N) (r : Fin 1000) (o : Fin 128) : EReal :=
  k2_pay3 (F := Ideal) (iblk2 V c 0 t) (View.ld (iblk2 V c 1 t) (Rect.unit ![0, 0] ![1, 384] inb_S4x384_S1x384_0_0))
    (View.ld (iblk2 V c 1 t) (Rect.unit ![1, 0] ![1, 384] inb_S4x384_S1x384_1_0))
    (View.ld (iblk2 V c 1 t) (Rect.unit ![2, 0] ![1, 384] inb_S4x384_S1x384_2_0))
    (View.ld (iblk2 V c 1 t) (Rect.unit ![3, 0] ![1, 384] inb_S4x384_S1x384_3_0)) (iblk2 V c 2 t) (iblk2 V c 3 t) (ix2 r o)

theorem block (c : Dev nD) (t : Fin cfg2.N) (r : Fin 1000) (o : Fin 128) :
    (outsAt2 V c t.val t.isLt).1 (ix2 r o) = hb V c t r o := by
  by_cases h : t.val % 16 = 0
  · rw [outsAt2_A V c t h]; frame_out
    rfl
  · rw [outsAt2_B V c t h]; frame_out
    rfl

theorem first0 (c : Dev nD) (t : Fin cfg2.N) (h : t.val % 16 = 0) (l : Fin 128) :
    (outsAt2 V c t.val t.isLt).2 (ix2 0 l) = (0 : EReal) + ∑ r, hb V c t r l := by
  rw [outsAt2_A V c t h]; frame_out
  refine (Rows.canon_miss (R := 2) (C := 128) (a := 1) (b := 0) (w := 128) _ _ _ 0 l (.inl (by decide))).trans ?_
  refine (Rows.canon_hit (R := 2) (C := 128) (a := 0) (b := 0) (w := 128) _ _ _ 0 l l rfl (Nat.zero_add _).symm).trans ?_
  refine (pay1_at _ _ l).trans ?_
  refine congrArg₂ (· + ·) ?_ (Finset.sum_congr rfl fun r _ => rfl)
  refine (Rows.readCov_at (R := 2) (C := 128) (a := 0) (b := 0) (w := 128) _ _ _ l 0 l rfl (Nat.zero_add _).symm).trans ?_
  rw [View.canon_cons_unit_lit]
  · exact pay4_at _
  · intro a; fin_cases a <;> rfl

theorem first1 (c : Dev nD) (t : Fin cfg2.N) (h : t.val % 16 = 0) (l : Fin 128) :
    (outsAt2 V c t.val t.isLt).2 (ix2 1 l) = (0 : EReal) + ∑ r, hb V c t r l * hb V c t r l := by
  rw [outsAt2_A V c t h]; frame_out
  refine (Rows.canon_hit (R := 2) (C := 128) (a := 1) (b := 0) (w := 128) _ _ _ 1 l l rfl (Nat.zero_add _).symm).trans ?_
  refine (pay2_at _ _ l).trans ?_
  refine congrArg₂ (· + ·) ?_ (Finset.sum_congr rfl fun r _ => rfl)
  refine (Rows.readCov_at (R := 2) (C := 128) (a := 1) (b := 0) (w := 128) _ _ _ l 1 l rfl (Nat.zero_add _).symm).trans ?_
  refine (Rows.canon_miss (R := 2) (C := 128) (a := 0) (b := 0) (w := 128) _ _ _ 1 l (.inl (by decide))).trans ?_
  rw [View.canon_cons_unit_lit]
  · exact pay4_at _
  · intro a; fin_cases a <;> rfl

theorem next0 (c : Dev nD) (t : Fin cfg2.N) (h : ¬ t.val % 16 = 0) (l : Fin 128) (hp : t.val - 1 < cfg2.N) :
    (outsAt2 V c t.val t.isLt).2 (ix2 0 l) = (outsAt2 V c (t.val - 1) hp).2 (ix2 0 l) + ∑ r, hb V c t r l := by
  rw [outsAt2_B V c t h]; frame_out
  refine (Rows.canon_miss (R := 2) (C := 128) (a := 1) (b := 0) (w := 128) _ _ _ 0 l (.inl (by decide))).trans ?_
  refine (Rows.canon_hit (R := 2) (C := 128) (a := 0) (b := 0) (w := 128) _ _ _ 0 l l rfl (Nat.zero_add _).symm).trans ?_
  refine (pay1_at _ _ l).trans ?_
  refine congrArg₂ (· + ·) ?_ (Finset.sum_congr rfl fun r _ => rfl)
  exact Rows.ld_at (R := 2) (C := 128) (a := 0) (b := 0) (w := 128) _ _ l 0 l rfl (Nat.zero_add _).symm

theorem next1 (c : Dev nD) (t : Fin cfg2.N) (h : ¬ t.val % 16 = 0) (l : Fin 128) (hp : t.val - 1 < cfg2.N) :
    (outsAt2 V c t.val t.isLt).2 (ix2 1 l) = (outsAt2 V c (t.val - 1) hp).2 (ix2 1 l) + ∑ r, hb V c t r l * hb V c t r l := by
  rw [outsAt2_B V c t h]; frame_out
  refine (Rows.canon_hit (R := 2) (C := 128) (a := 1) (b := 0) (w := 128) _ _ _ 1 l l rfl (Nat.zero_add _).symm).trans ?_
  refine (pay2_at _ _ l).trans ?_
  refine congrArg₂ (· + ·) ?_ (Finset.sum_congr rfl fun r _ => rfl)
  exact Rows.ld_at (R := 2) (C := 128) (a := 1) (b := 0) (w := 128) _ _ l 1 l rfl (Nat.zero_add _).symm

theorem whole0 (c : Dev nD) (l : Fin 128) :
    (dat2 V c).arrAt 5 cfg2.N (ix2 0 l) = ∑ t : Fin cfg2.N, ∑ r, hb V c t r l := by
  have e : (dat2 V c).arrAt 5 cfg2.N = (outsAt2 V c t2_15.val t2_15.isLt).2 := by
    refine (dat2 V c).arrAt_eq_of_after_last 5 t2_15 (by decide +kernel) _ fun j => ?_
    blk_simp
    rw [after2_5]
  rw [e]
  refine (Pipeline.eq_sum_fin_of_reset_step_apply_last (fun n h (l : Fin 128) => ((outsAt2 V c n h).2 (ix2 0 l) : EReal)) 16 (fun _ => 0)
    (fun t l => ∑ r, hb V c t r l) (fun t h l => first0 V c t h l) (fun t h l => next0 V c t h l _) (le_of_eq N_2) t2_15 rfl l).trans ?_
  exact zero_add _

theorem whole1 (c : Dev nD) (l : Fin 128) :
    (dat2 V c).arrAt 5 cfg2.N (ix2 1 l) = ∑ t : Fin cfg2.N, ∑ r, hb V c t r l * hb V c t r l := by
  have e : (dat2 V c).arrAt 5 cfg2.N = (outsAt2 V c t2_15.val t2_15.isLt).2 := by
    refine (dat2 V c).arrAt_eq_of_after_last 5 t2_15 (by decide +kernel) _ fun j => ?_
    blk_simp
    rw [after2_5]
  rw [e]
  refine (Pipeline.eq_sum_fin_of_reset_step_apply_last (fun n h (l : Fin 128) => ((outsAt2 V c n h).2 (ix2 1 l) : EReal)) 16 (fun _ => 0)
    (fun t l => ∑ r, hb V c t r l * hb V c t r l) (fun t h l => first1 V c t h l) (fun t h l => next1 V c t h l _) (le_of_eq N_2) t2_15 rfl l).trans ?_
  exact zero_add _

theorem idx2 : ∀ t : Fin cfg2.N, win2_0.index t = ![t.val, 0] ∧ win2_1.index t = ![0, 0] ∧ win2_2.index t = ![0, 0]
    ∧ win2_3.index t = ![0, 0] ∧ win2_4.index t = ![t.val, 0] :=
  (by decide +kernel : ∀ t : Fin grid2.N, _)

/-- The row of point `r` of block `t`. -/
def rowOf2 (t : Fin cfg2.N) (r : Fin 1000) : Fin 16000 :=
  ⟨t.val * 1000 + r.val, by have := t.isLt; have e : cfg2.N = 16 := N_2; omega⟩

/-- The second convolution at a point, over arrays. -/
def hrow (x : FVec Ideal S16000x384 .f32) (p : FVec Ideal S4x384 .f32) (w : FVec Ideal S384x128 .f32) (bb : FVec Ideal S1x128 .f32)
    (n : Fin 16000) (o : Fin 128) : EReal :=
  ∑ j : Fin 384, PointsSpec.norm (x (ix2 n j)) (p (ix2 0 j)) (p (ix2 1 j)) (p (ix2 2 j)) (p (ix2 3 j)) * w (ix2 j o) + bb (ix2 0 o)

theorem hb_eq (c : Dev nD) (t : Fin cfg2.N) (r : Fin 1000) (o : Fin 128) :
    hb V c t r o = hrow (V c main_v8_0) (V c main_v39) (V c main_v42) (V c main_v43) (rowOf2 t r) o := by
  unfold hb hrow
  refine (pay3_at _ _ _ _ _ _ _ r o).trans ?_
  have e0 : ∀ j : Fin 384, iblk2 V c 0 t (ix2 r j) = V c main_v8_0 (ix2 (rowOf2 t r) j) := fun j => by blk_ext! [iblk2, idx2 t, rowOf2]
  have e1 : ∀ (i : Fin 4) (j : Fin 384), iblk2 V c 1 t (ix2 i j) = V c main_v39 (ix2 i j) := fun i j => by blk_ext! [iblk2, idx2 t]
  have e2 : ∀ j : Fin 384, iblk2 V c 2 t (ix2 j o) = V c main_v42 (ix2 j o) := fun j => by blk_ext! [iblk2, idx2 t]
  have e3 : iblk2 V c 3 t (ix2 0 o) = V c main_v43 (ix2 0 o) := by blk_ext! [iblk2, idx2 t]
  have p0 := fun j => (Rows.ld_at (R := 4) (C := 384) (a := 0) (b := 0) (w := 384) (iblk2 V c 1 t) inb_S4x384_S1x384_0_0 j 0 j rfl (Nat.zero_add _).symm).trans (e1 0 j)
  have p1 := fun j => (Rows.ld_at (R := 4) (C := 384) (a := 1) (b := 0) (w := 384) (iblk2 V c 1 t) inb_S4x384_S1x384_1_0 j 1 j rfl (Nat.zero_add _).symm).trans (e1 1 j)
  have p2 := fun j => (Rows.ld_at (R := 4) (C := 384) (a := 2) (b := 0) (w := 384) (iblk2 V c 1 t) inb_S4x384_S1x384_2_0 j 2 j rfl (Nat.zero_add _).symm).trans (e1 2 j)
  have p3 := fun j => (Rows.ld_at (R := 4) (C := 384) (a := 3) (b := 0) (w := 384) (iblk2 V c 1 t) inb_S4x384_S1x384_3_0 j 3 j rfl (Nat.zero_add _).symm).trans (e1 3 j)
  simp only [p0, p1, p2, p3, e0, e2, e3]

theorem final4 (c : Dev nD) : (dat2 V c).arrAt 4 cfg2.N
    = fun i => hrow (V c main_v8_0) (V c main_v39) (V c main_v42) (V c main_v43) (i 0) (i 1) := by
  refine (dat2 V c).arrAt_eq_of_covers 4 _ (by decide +kernel) fun t _ y => ?_
  blk_simp
  rw [after2_4]
  have h : (outsAt2 V c t.val t.isLt).1 y = hrow (V c main_v8_0) (V c main_v39) (V c main_v42) (V c main_v43) (rowOf2 t (y 0)) (y 1) := by
    obtain ⟨i, j, rfl⟩ : ∃ (i : Fin 1000) (j : Fin 128), y = ix2 i j := ⟨y 0, y 1, eq_ix2 y⟩
    exact (block V c t i j).trans (hb_eq V c t i j)
  refine h.trans ?_
  have e : ((View.whole main_v44_0).slice (win2_4.rect t)).emb y = ix2 (n0 := 16000) (n1 := 128) (rowOf2 t (y 0)) (y 1) := by
    blk_ext [idx2 t, rowOf2]
  rw [e]
  rfl

/-- The mean of each channel over points and windows, from the two rows of sums. -/
def meanRow (S : FVec Ideal S2x384 .f32) : FVec Ideal S128 .f32 :=
  Host.divf (Host.reduceAdd (shapeCast S3x128 (shapeCast S384 (extractStridedSlice S1x384 ![0, 0] S slices_S2x384_S1x384_0_0) shapeCasts_S1x384_S384)
    shapeCasts_S384_S3x128) (constant (F := Ideal) S_ .f32 0x00000000#32) reducesTo_S3x128_S128_d0 h_S_)
    (broadcastInDim S128 ![] bcast_S_S128 (constant (F := Ideal) S_ .f32 0x473B8000#32))

/-- The mean of each channel's squares. -/
def sqRow (S : FVec Ideal S2x384 .f32) : FVec Ideal S128 .f32 :=
  Host.divf (Host.reduceAdd (shapeCast S3x128 (shapeCast S384 (extractStridedSlice S1x384 ![1, 0] S slices_S2x384_S1x384_1_0) shapeCasts_S1x384_S384)
    shapeCasts_S384_S3x128) (constant (F := Ideal) S_ .f32 0x00000000#32) reducesTo_S3x128_S128_d0 h_S_)
    (broadcastInDim S128 ![] bcast_S_S128 (constant (F := Ideal) S_ .f32 0x473B8000#32))

/-- The mean of each channel's squares less the square of its mean. -/
def varRow (S : FVec Ideal S2x384 .f32) : FVec Ideal S128 .f32 := subf (sqRow S) (mulf (meanRow S) (meanRow S))

/-- A row of channels three times over. -/
def tile (v : FVec Ideal S128 .f32) : FVec Ideal S384 .f32 :=
  shapeCast S384 (broadcastInDim S3x128 ![0, 1] bcast_S1x128_S3x128_0_1 (shapeCast S1x128 v shapeCasts_S128_S1x128)) shapeCasts_S3x128_S384

/-- The four rows the last call reads. -/
def stack (a0 a1 a2 a3 : FVec Ideal S384 .f32) : FVec Ideal S4x384 .f32 :=
  concatenate S4x384 0 [⟨S1x384, broadcastInDim S1x384 ![1] bcast_S384_S1x384_1 a0⟩, ⟨S1x384, broadcastInDim S1x384 ![1] bcast_S384_S1x384_1 a1⟩,
    ⟨S1x384, broadcastInDim S1x384 ![1] bcast_S384_S1x384_1 a2⟩, ⟨S1x384, broadcastInDim S1x384 ![1] bcast_S384_S1x384_1 a3⟩]
    concatenates_S1x384_S1x384_S1x384_S1x384_S4x384_d0

theorem tile_at (v : FVec Ideal S128 .f32) (s : Fin 3) (l : Fin 128) : tile v (ix1 (col s l)) = v (ix1 l) := by
  have e : ∀ j : Fin 384, tile v (ix1 j) = v (ix1 ⟨j.val % 128, by omega⟩) := fun j => by pointwise [tile]
  rw [e]
  exact congrArg (fun k => v (ix1 k)) (chan_col s l)

theorem stack0 (a0 a1 a2 a3 : FVec Ideal S384 .f32) (j : Fin 384) : stack a0 a1 a2 a3 (ix2 0 j) = a0 (ix1 j) := by
  pointwise [stack]

theorem stack1 (a0 a1 a2 a3 : FVec Ideal S384 .f32) (j : Fin 384) : stack a0 a1 a2 a3 (ix2 1 j) = a1 (ix1 j) := by
  pointwise [stack]

theorem stack2 (a0 a1 a2 a3 : FVec Ideal S384 .f32) (j : Fin 384) : stack a0 a1 a2 a3 (ix2 2 j) = a2 (ix1 j) := by
  pointwise [stack]

theorem stack3 (a0 a1 a2 a3 : FVec Ideal S384 .f32) (j : Fin 384) : stack a0 a1 a2 a3 (ix2 3 j) = a3 (ix1 j) := by
  pointwise [stack]

theorem meanRow_at (S : FVec Ideal S2x384 .f32) (l : Fin 128) :
    meanRow S (ix1 l) = Ideal.div (∑ s : Fin 3, S (ix2 0 (col s l))) AnnSpec.count := by
  pointwise [meanRow, col]

theorem sqRow_at (S : FVec Ideal S2x384 .f32) (l : Fin 128) :
    sqRow S (ix1 l) = Ideal.div (∑ s : Fin 3, S (ix2 1 (col s l))) AnnSpec.count := by
  pointwise [sqRow, col]

theorem varRow_at (S : FVec Ideal S2x384 .f32) (l : Fin 128) : varRow S (ix1 l) = sqRow S (ix1 l) - meanRow S (ix1 l) * meanRow S (ix1 l) := by
  unfold varRow
  generalize meanRow S = q
  generalize sqRow S = p
  pointwise

theorem w2_at (x : FVec Ideal S128x128x1x3 .f32) (s : Fin 3) (l o : Fin 128) :
    shapeCast S384x128 (transpose S3x128x128 [2, 1, 0] (shapeCast S128x128x3 x shapeCasts_S128x128x1x3_S128x128x3)
      transposes_S128x128x3_S3x128x128_2_1_0) shapeCasts_S3x128x128_S384x128 (ix2 (col s l) o) = x (ix4 o l 0 s) := by
  have e : ∀ j : Fin 384, shapeCast S384x128 (transpose S3x128x128 [2, 1, 0] (shapeCast S128x128x3 x shapeCasts_S128x128x1x3_S128x128x3)
      transposes_S128x128x3_S3x128x128_2_1_0) shapeCasts_S3x128x128_S384x128 (ix2 j o) = x (ix4 o ⟨j.val % 128, by omega⟩ 0 ⟨j.val / 128, by omega⟩) :=
    fun j => by pointwise
  rw [e]
  exact congrArg₂ (fun a b => x (ix4 o a 0 b)) (chan_col s l) (win_col s l)

theorem row_at (b : FVec Ideal S128 .f32) (l : Fin 128) : shapeCast S1x128 b shapeCasts_S128_S1x128 (ix2 0 l) = b (ix1 l) := by
  pointwise

theorem after_v39 (W : Valuation τ sig (Elt Ideal)) : StableHlo.after hostOps2 W (Proc.devRef .tc main_v39)
    = stack (tile (meanRow (W (Proc.devRef .tc main_v8_1)))) (tile (varRow (W (Proc.devRef .tc main_v8_1))))
        (tile (W (Proc.devRef .tc main_arg4))) (tile (W (Proc.devRef .tc main_arg5))) := by
  simp only [hostOps2, StableHlo.after_cons, StableHlo.after_nil]
  rfl

theorem after_v42 (W : Valuation τ sig (Elt Ideal)) : StableHlo.after hostOps2 W (Proc.devRef .tc main_v42)
    = shapeCast S384x128 (transpose S3x128x128 [2, 1, 0] (shapeCast S128x128x3 (W (Proc.devRef .tc main_arg6)) shapeCasts_S128x128x1x3_S128x128x3)
      transposes_S128x128x3_S3x128x128_2_1_0) shapeCasts_S3x128x128_S384x128 := by
  simp only [hostOps2, StableHlo.after_cons, StableHlo.after_nil]
  rfl

theorem after_v43 (W : Valuation τ sig (Elt Ideal)) : StableHlo.after hostOps2 W (Proc.devRef .tc main_v43)
    = shapeCast S1x128 (W (Proc.devRef .tc main_arg7)) shapeCasts_S128_S1x128 := by
  simp only [hostOps2, StableHlo.after_cons, StableHlo.after_nil]
  rfl

end Cert.Proof.AnnSecond

end
-- ==== Proof.AnnReal.lean ====
module

public import proofs.«01_k».proof.Proof.AnnSpec
public import proofs.«01_k».proof.Proof.Moments

/-!
Over finite arguments the aggregation's convolutions, its normalised values and its outputs are finite, so that the two
ways to write their variances agree.
-/

@[expose] public section

noncomputable section

namespace Cert.Proof.AnnReal

open Idealize.ShloMosaic
open Cert.AnnRefIdeal
open Cert.Proof.Moments (IsReal)

/-- The constant under the root is a positive real number. -/
theorem eps_pos : ∃ e : ℝ, 0 < e ∧ PointsSpec.eps = (e : EReal) := by
  refine ⟨(8388608 + 2606508 : ℝ) * 2 ^ (-40 : ℤ), by positivity, ?_⟩
  simp [Ideal.ofBits, Ideal.ieee, -EReal.coe_mul]
  norm_num

theorem count_eq : AnnSpec.count = ((48000 : ℝ) : EReal) := by
  simp [Ideal.ofBits, Ideal.ieee, -EReal.coe_mul]; norm_num

/-- A normalised value is finite where the variance is finite and not negative. -/
theorem norm_real {z m v g b : EReal} (hz : IsReal z) (hm : IsReal m) (hv : ∃ r : ℝ, 0 ≤ r ∧ v = (r : EReal)) (hg : IsReal g) (hb : IsReal b) :
    IsReal (PointsSpec.norm z m v g b) := by
  obtain ⟨r, hr, rfl⟩ := hv
  obtain ⟨e, he, h⟩ := eps_pos
  unfold PointsSpec.norm
  rw [h, ← EReal.coe_add, Ideal.sqrt_coe, if_neg (by linarith)]
  exact (((hz.sub hm).div (Real.sqrt_ne_zero'.mpr (by linarith))).mul hg).add hb |>.max IsReal.zero

variable (f : FVec Ideal S16000x128 .f32) (g : FVec Ideal S144000x128 .f32) (w : FVec Ideal S128x256x1x3 .f32) (b : FVec Ideal S128 .f32)
  (g1 b1 : FVec Ideal S128 .f32) (w2 : FVec Ideal S128x128x1x3 .f32) (b2 : FVec Ideal S128 .f32)

theorem z_real (hf : ∀ i, IsReal (f i)) (hg : ∀ i, IsReal (g i)) (hw : ∀ i, IsReal (w i)) (hb : ∀ i, IsReal (b i))
    (n : Fin 16000) (t : Fin 3) (l : Fin 128) : IsReal (AnnSpec.z f g w b n t l) :=
  (IsReal.sum fun _ _ => (IsReal.sum fun _ _ => (hf _).mul (hw _)).add (IsReal.sum fun _ _ => ((hf _).sub (hg _)).mul (hw _))).add (hb _)

/-- The two ways to write the variance over points and windows agree. -/
theorem var_eq (z : Fin 16000 → Fin 3 → EReal) (hz : ∀ n t, IsReal (z n t)) :
    Ideal.div (∑ s : Fin 3, ∑ n, z n s * z n s) AnnSpec.count
      - Ideal.div (∑ s : Fin 3, ∑ n, z n s) AnnSpec.count * Ideal.div (∑ s : Fin 3, ∑ n, z n s) AnnSpec.count = AnnSpec.var z := by
  have e : ∀ u : Fin 16000 → Fin 3 → EReal, ∑ s : Fin 3, ∑ n, u n s = ∑ p : Fin 16000 × Fin 3, u p.1 p.2 := fun u => by
    rw [Fintype.sum_prod_type, Finset.sum_comm]
  rw [e z, e fun n s => z n s * z n s]
  unfold AnnSpec.var AnnSpec.mean
  rw [count_eq]
  exact Moments.var_eq (fun p : Fin 16000 × Fin 3 => z p.1 p.2) (fun p => hz p.1 p.2) 48000 (by norm_num) (by simp)

theorem mean_eq (z : Fin 16000 → Fin 3 → EReal) : Ideal.div (∑ s : Fin 3, ∑ n, z n s) AnnSpec.count = AnnSpec.mean z := by
  unfold AnnSpec.mean
  rw [Fintype.sum_prod_type, Finset.sum_comm]

theorem out_real (hf : ∀ i, IsReal (f i)) (hg : ∀ i, IsReal (g i)) (hw : ∀ i, IsReal (w i)) (hb : ∀ i, IsReal (b i))
    (hg1 : ∀ i, IsReal (g1 i)) (hb1 : ∀ i, IsReal (b1 i)) (hw2 : ∀ i, IsReal (w2 i)) (hb2 : ∀ i, IsReal (b2 i))
    (n : Fin 16000) (o : Fin 128) : IsReal (AnnSpec.out f g w b g1 b1 w2 b2 n o) := by
  have hz := z_real f g w b hf hg hw hb
  have hm : ∀ l, IsReal (AnnSpec.mean fun n t => AnnSpec.z f g w b n t l) := fun l => by
    unfold AnnSpec.mean
    rw [count_eq]
    exact (IsReal.sum fun p _ => hz p.1 p.2 l).div (by norm_num)
  have hv : ∀ l, ∃ r : ℝ, 0 ≤ r ∧ (AnnSpec.var fun n t => AnnSpec.z f g w b n t l) = (r : EReal) := fun l => by
    unfold AnnSpec.var
    rw [count_eq]
    exact Moments.dev_nonneg (fun p : Fin 16000 × Fin 3 => AnnSpec.z f g w b p.1 p.2 l) (fun p => hz p.1 p.2 l) _ (hm l) 48000 (by norm_num)
  exact (IsReal.sum fun t _ => IsReal.sum fun l _ => (norm_real (hz n t l) (hm l) (hv l) (hg1 _) (hb1 _)).mul (hw2 _)).add (hb2 _)

end Cert.Proof.AnnReal

end
-- ==== Proof.AnnValue.lean ====
module

public import proofs.«01_k».proof.Proof.AnnSecond
public import proofs.«01_k».proof.Proof.AnnReal

/-!
The aggregation's three results over its arguments: the second convolution, and its mean and variance over the points.
-/

@[expose] public section

set_option maxRecDepth 16384

noncomputable section

namespace Cert.Proof.AnnValue

open Cert.AnnIdeal Cert.AnnIdeal.Gen
open Idealize.ShloMosaic Idealize.ShloMosaic.TcCoe Idealize.SL.Sem
open Idealize.ShloMosaic.Pipeline (Dat)
open Cert.Proof.AnnFirst Cert.Proof.AnnArrays Cert.Proof.AnnSecond
open Cert.Proof.Moments (IsReal)

variable (m : (ℓ : Loc nD τ sig) → Buf (Elt Ideal) ℓ) (ρ : Dev nD → PrngReg)

/-- The scale and shift of the normalisation, the second weights and the second bias. -/
abbrev g1s (c : Dev nD) : FVec Ideal S128 .f32 := m ((c : Thread nD τ).loc main_arg4)
@[inherit_doc g1s] abbrev b1s (c : Dev nD) : FVec Ideal S128 .f32 := m ((c : Thread nD τ).loc main_arg5)
@[inherit_doc g1s] abbrev w2s (c : Dev nD) : FVec Ideal S128x128x1x3 .f32 := m ((c : Thread nD τ).loc main_arg6)
@[inherit_doc g1s] abbrev b2s (c : Dev nD) : FVec Ideal S128 .f32 := m ((c : Thread nD τ).loc main_arg7)

/-- The second convolution over the arguments. -/
abbrev outs (c : Dev nD) : Fin 16000 → Fin 128 → EReal :=
  AnnSpec.out (fs m c) (gs m c) (ws m c) (bs m c) (g1s m c) (b1s m c) (w2s m c) (b2s m c)

theorem mean_eq (c : Dev nD) (l : Fin 128) : meanRow (sums m ρ c) (ix1 l) = AnnSpec.mean fun n t => zs m c n t l := by
  rw [meanRow_at]
  simp only [sums0]
  exact AnnReal.mean_eq fun n t => zs m c n t l

theorem var_eq (c : Dev nD) (hz : ∀ n t l, IsReal (zs m c n t l)) (l : Fin 128) :
    varRow (sums m ρ c) (ix1 l) = AnnSpec.var fun n t => zs m c n t l := by
  rw [varRow_at, sqRow_at, meanRow_at]
  simp only [sums0, sums1]
  exact AnnReal.var_eq (fun n t => zs m c n t l) fun n t => hz n t l

theorem V5_v39 (c : Dev nD) : V5 m ρ c main_v39
    = stack (tile (meanRow (sums m ρ c))) (tile (varRow (sums m ρ c))) (tile (g1s m c)) (tile (b1s m c)) := by
  refine (after_v39 _).trans ?_
  rw [W4_args m ρ c main_arg4 (by decide), W4_args m ρ c main_arg5 (by decide)]
  rw [show W4 m ρ c (Proc.devRef .tc main_v8_1) = sums m ρ c from W4_arr m ρ c 6]

theorem V5_v42 (c : Dev nD) (s : Fin 3) (l o : Fin 128) : V5 m ρ c main_v42 (ix2 (col s l) o) = w2s m c (ix4 o l 0 s) := by
  have e := after_v42 (W4 m ρ c)
  rw [W4_args m ρ c main_arg6 (by decide)] at e
  exact (congrFun e _).trans (w2_at _ s l o)

theorem V5_v43 (c : Dev nD) (o : Fin 128) : V5 m ρ c main_v43 (ix2 0 o) = b2s m c (ix1 o) := by
  have e := after_v43 (W4 m ρ c)
  rw [W4_args m ρ c main_arg7 (by decide)] at e
  exact (congrFun e _).trans (row_at _ o)

theorem V5_v8 (c : Dev nD) (n : Fin 16000) (s : Fin 3) (l : Fin 128) : V5 m ρ c main_v8_0 (ix2 n (col s l)) = zs m c n s l := by
  have e : V5 m ρ c main_v8_0 = (dat1 (V3 m ρ) c).arrAt 5 cfg1.N := (W5_of m ρ c main_v8_0 (by decide)).trans (W4_arr m ρ c 5)
  rw [e]
  exact first_at m ρ c n s l

theorem hrow_eq (c : Dev nD) (hz : ∀ n t l, IsReal (zs m c n t l)) (n : Fin 16000) (o : Fin 128) :
    hrow (V5 m ρ c main_v8_0) (V5 m ρ c main_v39) (V5 m ρ c main_v42) (V5 m ρ c main_v43) n o = outs m c n o := by
  unfold hrow
  refine congrArg₂ (fun x y : EReal => x + y) ?_ (V5_v43 m ρ c o)
  refine (Fin.sum_mul_add_congr (L := 384) (S := 3) (n := 128) fun s l hl => ?_).symm
  show _ = PointsSpec.norm (V5 m ρ c main_v8_0 (ix2 n (col s l))) (V5 m ρ c main_v39 (ix2 0 (col s l))) (V5 m ρ c main_v39 (ix2 1 (col s l)))
    (V5 m ρ c main_v39 (ix2 2 (col s l))) (V5 m ρ c main_v39 (ix2 3 (col s l))) * V5 m ρ c main_v42 (ix2 (col s l) o)
  rw [V5_v39, stack0, stack1, stack2, stack3, tile_at, tile_at, tile_at, tile_at, mean_eq, var_eq m ρ c hz, V5_v8, V5_v42]
  rfl

/-- The two rows of sums the last call leaves. -/
def sums2 (c : Dev nD) : FVec Ideal S2x128 .f32 := (dat2 (V5 m ρ) c).arrAt 5 cfg2.N

theorem sums2_0 (c : Dev nD) (hz : ∀ n t l, IsReal (zs m c n t l)) (o : Fin 128) : sums2 m ρ c (ix2 0 o) = ∑ n, outs m c n o := by
  refine (whole0 (V5 m ρ) c o).trans ?_
  refine Fin.sum_mul_add_congr (L := 16000) (S := cfg2.N) (n := 1000) fun t k hl => ?_
  exact (hb_eq (V5 m ρ) c t k o).trans (hrow_eq m ρ c hz _ o)

theorem sums2_1 (c : Dev nD) (hz : ∀ n t l, IsReal (zs m c n t l)) (o : Fin 128) :
    sums2 m ρ c (ix2 1 o) = ∑ n, outs m c n o * outs m c n o := by
  refine (whole1 (V5 m ρ) c o).trans ?_
  refine Fin.sum_mul_add_congr (L := 16000) (S := cfg2.N) (n := 1000) fun t k hl => ?_
  exact congrArg (fun e => e * e) ((hb_eq (V5 m ρ) c t k o).trans (hrow_eq m ρ c hz _ o))

/-- The mean of each channel over the points, from the two rows of sums. -/
def meanRow2 (S : FVec Ideal S2x128 .f32) : FVec Ideal S128 .f32 :=
  Host.divf (shapeCast S128 (extractStridedSlice S1x128 ![0, 0] S slices_S2x128_S1x128_0_0) shapeCasts_S1x128_S128)
    (broadcastInDim S128 ![] bcast_S_S128 (constant (F := Ideal) S_ .f32 0x467A0000#32))

/-- The mean of each channel's squares less the square of its mean. -/
def varRow2 (S : FVec Ideal S2x128 .f32) : FVec Ideal S128 .f32 :=
  subf (Host.divf (shapeCast S128 (extractStridedSlice S1x128 ![1, 0] S slices_S2x128_S1x128_1_0) shapeCasts_S1x128_S128)
    (broadcastInDim S128 ![] bcast_S_S128 (constant (F := Ideal) S_ .f32 0x467A0000#32))) (mulf (meanRow2 S) (meanRow2 S))

theorem meanRow2_at (S : FVec Ideal S2x128 .f32) (l : Fin 128) :
    meanRow2 S (ix1 l) = Ideal.div (S (ix2 0 l)) PointsSpec.count := by
  pointwise [meanRow2]

theorem varRow2_at (S : FVec Ideal S2x128 .f32) (l : Fin 128) :
    varRow2 S (ix1 l) = Ideal.div (S (ix2 1 l)) PointsSpec.count - meanRow2 S (ix1 l) * meanRow2 S (ix1 l) := by
  unfold varRow2
  generalize meanRow2 S = q
  pointwise

theorem after_v48 (W : Valuation τ sig (Elt Ideal)) : StableHlo.after hostOps3 W (Proc.devRef .tc main_v48)
    = meanRow2 (W (Proc.devRef .tc main_v44_1)) := by
  simp only [hostOps3, StableHlo.after_cons, StableHlo.after_nil]
  rfl

theorem after_v54 (W : Valuation τ sig (Elt Ideal)) : StableHlo.after hostOps3 W (Proc.devRef .tc main_v54)
    = varRow2 (W (Proc.devRef .tc main_v44_1)) := by
  simp only [hostOps3, StableHlo.after_cons, StableHlo.after_nil]
  rfl

theorem v44_at (c : Dev nD) (hz : ∀ n t l, IsReal (zs m c n t l)) (n : Fin 16000) (o : Fin 128) :
    W7 m ρ c (Proc.devRef .tc main_v44_0) (ix2 n o) = outs m c n o := by
  have e : W7 m ρ c (Proc.devRef .tc main_v44_0) = (dat2 (V5 m ρ) c).arrAt 4 cfg2.N :=
    (W7_of m ρ c main_v44_0 (by decide)).trans (W6_arr m ρ c 4)
  rw [e, final4]
  exact hrow_eq m ρ c hz n o

theorem v48_at (c : Dev nD) (hz : ∀ n t l, IsReal (zs m c n t l)) (o : Fin 128) :
    W7 m ρ c (Proc.devRef .tc main_v48) (ix1 o) = PointsSpec.mean fun n => outs m c n o := by
  have e : W7 m ρ c (Proc.devRef .tc main_v48) = meanRow2 (sums2 m ρ c) := by
    refine (after_v48 _).trans ?_
    rw [show W6 m ρ c (Proc.devRef .tc main_v44_1) = sums2 m ρ c from W6_arr m ρ c 5]
  rw [e, meanRow2_at, sums2_0 m ρ c hz]
  rfl

theorem v54_at (c : Dev nD) (hz : ∀ n t l, IsReal (zs m c n t l)) (ho : ∀ n o, IsReal (outs m c n o)) (o : Fin 128) :
    W7 m ρ c (Proc.devRef .tc main_v54) (ix1 o) = PointsSpec.var fun n => outs m c n o := by
  have e : W7 m ρ c (Proc.devRef .tc main_v54) = varRow2 (sums2 m ρ c) := by
    refine (after_v54 _).trans ?_
    rw [show W6 m ρ c (Proc.devRef .tc main_v44_1) = sums2 m ρ c from W6_arr m ρ c 5]
  rw [e, varRow2_at, meanRow2_at, sums2_0 m ρ c hz, sums2_1 m ρ c hz]
  have hc : PointsSpec.count = ((16000 : ℝ) : EReal) := by
    simp [Ideal.ofBits, Ideal.ieee, -EReal.coe_mul]; norm_num
  unfold PointsSpec.var PointsSpec.mean
  rw [hc]
  exact Moments.var_eq (fun n => outs m c n o) (fun n => ho n o) 16000 (by norm_num) (by simp)

end Cert.Proof.AnnValue

end
-- ==== Proof.AnnClaims.lean ====
module

public import proofs.«01_k».proof.Proof.AnnValue
public import proofs.«01_k».proof.Proof.Gen.AnnRefIdeal.Run
public import proofs.«01_k».proof.Proof.Gen.Pre_ann_finite
public import proofs.«01_k».proof.Defs

/-!
The claims about the aggregation: its reference runs and leaves its arguments alone, and, over finite arguments, they end
with the same second convolution, means and variances.
-/

@[expose] public section

set_option maxRecDepth 16384

noncomputable section

namespace Cert.Proof.AnnClaims

open Idealize.ShloMosaic Idealize.ShloMosaic.TcCoe Idealize.SL.Sem
open Cert.Proof.Moments (IsReal)

/-- The reference runs, leaves its arguments as they were, and has no semaphore. -/
theorem frame_ri : Cert.quiescent_AnnRefIdeal := fun m ρ _ =>
  (θ_run Cert.AnnRefIdeal.defs _ _).mono (fun r h => ⟨fun c => (h c).2.2.2, sem_eq_zero_of_no_sems (by decide) r.2⟩)
    (Cert.AnnRefIdeal.Value.run (F := Ideal) m ρ)

/-- The same from the memories of the precondition. -/
theorem frame_ri_pre : Cert.quiescent_AnnRefIdeal_pre_ann_finite := fun m ρ _ => frame_ri m ρ trivial

section

open Cert.AnnIdeal Cert.AnnIdeal.Gen
open Cert.Proof.AnnArrays Cert.Proof.AnnValue

variable (m : (ℓ : Loc nD τ sig) → Buf (Elt Ideal) ℓ)

/-- Under the precondition every argument is an array of real numbers. -/
theorem args_real (h : Cert.Pre_AnnIdeal_ann_finite m) (c : Dev nD) :
    (∀ i, IsReal (fs m c i)) ∧ (∀ i, IsReal (gs m c i)) ∧ (∀ i, IsReal (ws m c i)) ∧ (∀ i, IsReal (bs m c i))
      ∧ (∀ i, IsReal (g1s m c i)) ∧ (∀ i, IsReal (b1s m c i)) ∧ (∀ i, IsReal (w2s m c i)) ∧ (∀ i, IsReal (b2s m c i)) := by
  have e := congrFun (h c) ValueIdx.ix0
  have key : ∀ u v : BitVec 1, IntOp.andi u v = 1#1 → u = 1#1 ∧ v = 1#1 := by decide
  obtain ⟨e, e7⟩ := key _ _ e
  obtain ⟨e, e6⟩ := key _ _ e
  obtain ⟨e, e5⟩ := key _ _ e
  obtain ⟨e, e4⟩ := key _ _ e
  obtain ⟨e, e3⟩ := key _ _ e
  obtain ⟨e, e2⟩ := key _ _ e
  obtain ⟨e0, e1⟩ := key _ _ e
  have hs : ∀ j j' : Cert.Pre_ann_finite.S_.Idx, j = j' := fun j j' => funext fun a => a.elim0
  exact ⟨fun i => Moments.isReal_of_cmp _ (Moments.of_reduce_andi _ _ _ _ hs _ e0 i),
    fun i => Moments.isReal_of_cmp _ (Moments.of_reduce_andi _ _ _ _ hs _ e1 i),
    fun i => Moments.isReal_of_cmp _ (Moments.of_reduce_andi _ _ _ _ hs _ e2 i),
    fun i => Moments.isReal_of_cmp _ (Moments.of_reduce_andi _ _ _ _ hs _ e3 i),
    fun i => Moments.isReal_of_cmp _ (Moments.of_reduce_andi _ _ _ _ hs _ e4 i),
    fun i => Moments.isReal_of_cmp _ (Moments.of_reduce_andi _ _ _ _ hs _ e5 i),
    fun i => Moments.isReal_of_cmp _ (Moments.of_reduce_andi _ _ _ _ hs _ e6 i),
    fun i => Moments.isReal_of_cmp _ (Moments.of_reduce_andi _ _ _ _ hs _ e7 i)⟩

theorem zs_real (h : Cert.Pre_AnnIdeal_ann_finite m) (c : Dev nD) (n : Fin 16000) (t : Fin 3) (l : Fin 128) : IsReal (zs m c n t l) := by
  obtain ⟨h0, h1, h2, h3, -⟩ := args_real m h c
  exact AnnReal.z_real _ _ _ _ h0 h1 h2 h3 n t l

theorem outs_real (h : Cert.Pre_AnnIdeal_ann_finite m) (c : Dev nD) (n : Fin 16000) (o : Fin 128) : IsReal (outs m c n o) := by
  obtain ⟨h0, h1, h2, h3, h4, h5, h6, h7⟩ := args_real m h c
  exact AnnReal.out_real _ _ _ _ _ _ _ _ h0 h1 h2 h3 h4 h5 h6 h7 n o

end

/-- The three calls and the reference end with the same second convolution, means and variances. -/
theorem algebraic : Cert.algebraic_AnnIdeal_AnnRefIdeal_pre_ann_finite := by
  intro m ρ m' ρ' hpre hagree
  refine ⟨fun c => Cert.AnnIdeal.Gen.W7 m ρ c (Proc.devRef .tc Cert.AnnIdeal.main_v44_0),
    fun c => Cert.AnnIdeal.Gen.W7 m ρ c (Proc.devRef .tc Cert.AnnIdeal.main_v48),
    fun c => Cert.AnnIdeal.Gen.W7 m ρ c (Proc.devRef .tc Cert.AnnIdeal.main_v54),
    AnnRun.run (F := Ideal) m ρ, ?_⟩
  refine (θ_run Cert.AnnRefIdeal.defs _ _).mono (fun r h c => ⟨(h c).1.trans ?_, (h c).2.1.trans ?_, (h c).2.2.1.trans ?_, (h c).2.2.2⟩)
    (Cert.AnnRefIdeal.Value.run (F := Ideal) m' ρ')
  · obtain ⟨h0, h1, h2, h3, h4, h5, h6, h7⟩ := hagree c
    rw [Cert.AnnRefIdeal.Read.val_main_v43_eq, h0, h1, h2, h3, h4, h5, h6, h7]
    funext i
    obtain ⟨a, b, rfl⟩ : ∃ (a : Fin 16000) (b : Fin 128), i = ix2 a b := ⟨i 0, i 1, eq_ix2 i⟩
    exact (AnnSpec.v43_at _ _ _ _ _ _ _ _ a b).trans (AnnValue.v44_at m ρ c (zs_real m hpre c) a b).symm
  · obtain ⟨h0, h1, h2, h3, h4, h5, h6, h7⟩ := hagree c
    rw [Cert.AnnRefIdeal.Read.val_main_v46_eq, h0, h1, h2, h3, h4, h5, h6, h7]
    funext i
    obtain ⟨a, rfl⟩ : ∃ a : Fin 128, i = ix1 a := ⟨i 0, eq_ix1 i⟩
    exact (AnnSpec.v46_at _ _ _ _ _ _ _ _ a).trans (AnnValue.v48_at m ρ c (zs_real m hpre c) a).symm
  · obtain ⟨h0, h1, h2, h3, h4, h5, h6, h7⟩ := hagree c
    rw [Cert.AnnRefIdeal.Read.val_main_v53_eq, h0, h1, h2, h3, h4, h5, h6, h7]
    funext i
    obtain ⟨a, rfl⟩ : ∃ a : Fin 128, i = ix1 a := ⟨i 0, eq_ix1 i⟩
    exact (AnnSpec.v53_at _ _ _ _ _ _ _ _ a).trans (AnnValue.v54_at m ρ c (zs_real m hpre c) (outs_real m hpre c) a).symm

end Cert.Proof.AnnClaims

end
-- ==== Proof.FinalSpec.lean ====
module

public import proofs.«01_k».proof.Proof.Gen.FinalRefIdeal.Read
public import Idealize.ShloMosaic.Lib.Pipeline.ValueKit
public import Idealize.ShloMosaic.Lib.Pointwise

/-!
The last call's result written as a sum over the points of a cloud, and its reference read as that sum.
-/

@[expose] public section

set_option maxRecDepth 16384

noncomputable section

namespace Cert.Proof.FinalSpec

open Idealize.ShloMosaic

/-- The constant added under the root and to the weights' total. -/
abbrev eps : EReal := Ideal.ofBits FTy.f32 925353388#32

/-- One entry of the two-channel head: the normalised, rectified features of a point against one row of weights. -/
def logit (h m v g b w : Fin 128 → EReal) (bl : EReal) : EReal :=
  ∑ x, max (Ideal.div (h x - m x) (Ideal.sqrt (v x + eps)) * g x + b x) 0 * w x + bl

/-- A point's weight before it is divided by the cloud's total. -/
def weight (l0 l1 : EReal) : EReal := Ideal.exp l1 * Ideal.logistic l0

/-- The nine monomials of a correspondence `(x₀, x₁, x₂, x₃)`. -/
def mono (x : Fin 4 → EReal) (i : Fin 9) : EReal :=
  if i.val = 0 then x 2 * x 0 else if i.val = 1 then x 2 * x 1 else if i.val = 2 then x 2
  else if i.val = 3 then x 3 * x 0 else if i.val = 4 then x 3 * x 1 else if i.val = 5 then x 3
  else if i.val = 6 then x 0 else if i.val = 7 then x 1 else 1

/-- The weighted second moments of the monomials over a cloud of 2000 points. -/
def moment (w : Fin 2000 → EReal) (x : Fin 2000 → Fin 4 → EReal) (i j : Fin 9) : EReal :=
  ∑ n, mono (x n) i * (Ideal.div (w n) (∑ k, w k + eps) * mono (x n) j)

/-- The row of point `n` of cloud `c` among all points. -/
def rowOf (c : Fin 8) (n : Fin 2000) : Fin 16000 := ⟨c.val * 2000 + n.val, by omega⟩

open Cert.FinalRefIdeal Cert.FinalRefIdeal.Gen Cert.FinalRefIdeal.Read

variable (h2 : FVec Ideal S16000x128 .f32) (m v g b : FVec Ideal S128 .f32) (w : FVec Ideal S2x128x1x1 .f32)
  (bl : FVec Ideal S2 .f32) (x : FVec Ideal S8x1x2000x4 .f32)

/-- The head's entry `o` at row `r`, over the arguments. -/
def lg (r : Fin 16000) (o : Fin 2) : EReal :=
  logit (fun k => h2 (ix2 r k)) (fun k => m (ix1 k)) (fun k => v (ix1 k)) (fun k => g (ix1 k)) (fun k => b (ix1 k))
    (fun k => w (ix4 o k 0 0)) (bl (ix1 o))

/-- The weight of point `n` of cloud `c`. -/
def wt (c : Fin 8) (n : Fin 2000) : EReal :=
  weight (lg h2 m v g b w bl (rowOf c n) 0) (lg h2 m v g b w bl (rowOf c n) 1)

/-- The whole result, over the arguments. -/
def result (c : Fin 8) (i j : Fin 9) : EReal :=
  moment (wt h2 m v g b w bl c) (fun n q => x (ix4 c 0 n q)) i j

theorem v64_at (c : Fin 8) (n : Fin 2000) (i : Fin 9) :
    val_main_v64 (F := Ideal) x (ix3 c n i) = mono (fun q => x (ix4 c 0 n q)) i := by
  pointwise [val_main_v64, val_main_v55, val_main_v56, val_main_v57, val_main_v58, val_main_v59, val_main_v60, val_main_v61, val_main_v62, val_main_v63,
    val_main_v50, val_main_v51, val_main_v52, val_main_v53, val_main_v54, val_main_cst_4, val_main_v49, val_main_v48, val_main_v47, val_main_v46, val_main_v45, val_main_v44,
    val_main_v43, val_main_v42, val_main_v41]
  unfold mono
  fin_cases i <;> rfl

theorem v21_at (r : Fin 16000) (o : Fin 2) : val_main_v21 (F := Ideal) h2 m v g b w bl (ix2 r o) = lg h2 m v g b w bl r o := by
  pointwise [val_main_v21, val_main_v20, val_main_v19, val_main_v18, val_main_v17, val_main_v16, val_main_v15, val_main_v14, val_main_v13, val_main_v12,
    val_main_v11, val_main_v10, val_main_v9, val_main_v8, val_main_v7, val_main_v6, val_main_v5, val_main_v4, val_main_v3, val_main_v2, val_main_v1, val_main_v0,
    val_main_cst, val_main_call0_cst, val_main_call0_v0]
  rfl

theorem v34_at (c : Fin 8) (n : Fin 2000) : val_main_v34 (F := Ideal) h2 m v g b w bl (ix2 c n) = wt h2 m v g b w bl c n := by
  pointwise [val_main_v34, val_main_v33, val_main_v32, val_main_v31, val_main_v30, val_main_v29, val_main_v28, val_main_v27, val_main_v26, val_main_v25,
    val_main_v24, val_main_v23, val_main_v22, val_main_cst_0, val_main_cst_1]
  rw [v21_at, v21_at]
  rfl

theorem v40_at (c : Fin 8) (n : Fin 2000) : val_main_v40 (F := Ideal) h2 m v g b w bl (ix2 c n)
    = Ideal.div (wt h2 m v g b w bl c n) (∑ k, wt h2 m v g b w bl c k + eps) := by
  pointwise [val_main_v40, val_main_v39, val_main_v38, val_main_v37, val_main_v36, val_main_v35, val_main_cst_3, val_main_cst_2]
  simp only [v34_at]

/-- The reference's result is that sum. -/
theorem v69_at (c : Fin 8) (i j : Fin 9) :
    val_main_v69 (F := Ideal) h2 m v g b w bl x (ix3 c i j) = result h2 m v g b w bl x c i j := by
  pointwise [val_main_v69, val_main_v68, val_main_v67, val_main_v66, val_main_v65]
  simp only [v40_at, v64_at]
  rfl

end Cert.Proof.FinalSpec

end
-- ==== Proof.FinalValue.lean ====
module

public import proofs.«01_k».proof.Proof.Gen.FinalIdeal.Value
public import proofs.«01_k».proof.Proof.FinalSpec

/-!
The last call's block at a grid point, read entry by entry, is the sum of `FinalSpec`.
-/

@[expose] public section

set_option maxRecDepth 16384

noncomputable section

namespace Cert.Proof.FinalValue

open Cert.FinalIdeal Cert.FinalIdeal.Gen
open Idealize.ShloMosaic Idealize.ShloMosaic.TcCoe Idealize.SL.Sem
open Idealize.ShloMosaic.Pipeline (Dat)
open Cert.Proof.FinalSpec (logit weight mono moment rowOf eps)

theorem pay2_at (h : FVec Ideal S2000x128 .f32) (m v g b : FVec Ideal S1x128 .f32) (w : FVec Ideal S128x2 .f32) (bl : FVec Ideal S1x2 .f32)
    (r : Fin 2000) (l : Fin 1) : k0_pay2 (F := Ideal) h m v g b w bl (ix2 r l)
      = weight
          (logit (fun k => h (ix2 r k)) (fun k => m (ix2 0 k)) (fun k => v (ix2 0 k)) (fun k => g (ix2 0 k)) (fun k => b (ix2 0 k))
            (fun k => w (ix2 k 0)) (bl (ix2 0 0)))
          (logit (fun k => h (ix2 r k)) (fun k => m (ix2 0 k)) (fun k => v (ix2 0 k)) (fun k => g (ix2 0 k)) (fun k => b (ix2 0 k))
            (fun k => w (ix2 k 1)) (bl (ix2 0 1))) := by
  pointwise [k0_pay2]
  rfl

theorem pay3_at (h : FVec Ideal S2000x128 .f32) (m v g b : FVec Ideal S1x128 .f32) (w : FVec Ideal S128x2 .f32) (bl : FVec Ideal S1x2 .f32)
    (r : Fin 2000) (l : Fin 1) : k0_pay3 (F := Ideal) h m v g b w bl (ix2 r l)
      = ∑ n : Fin 2000, k0_pay2 (F := Ideal) h m v g b w bl (ix2 n 0) + eps := by
  unfold k0_pay3
  generalize k0_pay2 (F := Ideal) h m v g b w bl = q
  pointwise
  simp

theorem pay1_at (w s : FVec Ideal S2000x1 .f32) (x : FVec Ideal S2000x4 .f32) (l : Fin 1)
    (i j : Fin 9) : k0_pay1 (F := Ideal) w s x (ix3 l i j)
      = ∑ n : Fin 2000, mono (fun q => x (ix2 n q)) i * (Ideal.div (w (ix2 n 0)) (s (ix2 n 0)) * mono (fun q => x (ix2 n q)) j) := by
  pointwise [k0_pay1]
  refine Finset.sum_congr rfl fun n _ => ?_
  congr 1
  · unfold mono; fin_cases i <;> rfl
  · congr 1
    unfold mono; fin_cases j <;> rfl

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0, 0] :=
  (by decide +kernel : ∀ t : Fin grid0.N, _)

theorem rd0 (c : Dev nD) (t : Fin cfg0.N) (r : Fin 2000) (k : Fin 128) :
    iblk m c 0 t (ix2 r k) = m ((c : Thread nD τ).loc main_arg0) (ix2 (rowOf t r) k) := by
  blk_ext! [iblk, V, idx t, rowOf]

/-- The four rows of the stacked parameters as the host leaves them. -/
theorem v5_eq (c : Dev nD) : V m c main_v5 = concatenate S4x128 0
    [⟨S1x128, broadcastInDim S1x128 ![1] bcast_S128_S1x128_1 (m ((c : Thread nD τ).loc main_arg1))⟩,
     ⟨S1x128, broadcastInDim S1x128 ![1] bcast_S128_S1x128_1 (m ((c : Thread nD τ).loc main_arg2))⟩,
     ⟨S1x128, broadcastInDim S1x128 ![1] bcast_S128_S1x128_1 (m ((c : Thread nD τ).loc main_arg3))⟩,
     ⟨S1x128, broadcastInDim S1x128 ![1] bcast_S128_S1x128_1 (m ((c : Thread nD τ).loc main_arg4))⟩] concatenates_S1x128_S1x128_S1x128_S1x128_S4x128_d0 := by
  show StableHlo.after hostOps0 _ (Proc.devRef .tc main_v5) = _
  simp only [hostOps0, StableHlo.after_cons, StableHlo.after_nil]
  rfl

theorem rd1 (c : Dev nD) (t : Fin cfg0.N) (k : Fin 128) :
    View.ld (iblk m c 1 t) r0_1 (ix2 0 k) = m ((c : Thread nD τ).loc main_arg1) (ix1 k) := by
  have e : View.ld (iblk m c 1 t) r0_1 (ix2 0 k) = V m c main_v5 (ix2 0 k) := by
    unfold iblk
    generalize V m c = W
    refine congrArg (W main_v5) (?_ : _ = ix2 _ k)
    blk_ext [idx t]
    all_goals (rw [Rect.idx_unit_val]; first | rfl | exact Nat.zero_add _)
  rw [e, v5_eq]
  pointwise

theorem rd2 (c : Dev nD) (t : Fin cfg0.N) (k : Fin 128) :
    View.ld (iblk m c 1 t) r0_2 (ix2 0 k) = m ((c : Thread nD τ).loc main_arg2) (ix1 k) := by
  have e : View.ld (iblk m c 1 t) r0_2 (ix2 0 k) = V m c main_v5 (ix2 1 k) := by
    unfold iblk
    generalize V m c = W
    refine congrArg (W main_v5) (?_ : _ = ix2 _ k)
    blk_ext [idx t]
    all_goals (rw [Rect.idx_unit_val]; first | rfl | exact Nat.zero_add _)
  rw [e, v5_eq]
  pointwise

theorem rd3 (c : Dev nD) (t : Fin cfg0.N) (k : Fin 128) :
    View.ld (iblk m c 1 t) r0_3 (ix2 0 k) = m ((c : Thread nD τ).loc main_arg3) (ix1 k) := by
  have e : View.ld (iblk m c 1 t) r0_3 (ix2 0 k) = V m c main_v5 (ix2 2 k) := by
    unfold iblk
    generalize V m c = W
    refine congrArg (W main_v5) (?_ : _ = ix2 _ k)
    blk_ext [idx t]
    all_goals (rw [Rect.idx_unit_val]; first | rfl | exact Nat.zero_add _)
  rw [e, v5_eq]
  pointwise

theorem rd4 (c : Dev nD) (t : Fin cfg0.N) (k : Fin 128) :
    View.ld (iblk m c 1 t) r0_4 (ix2 0 k) = m ((c : Thread nD τ).loc main_arg4) (ix1 k) := by
  have e : View.ld (iblk m c 1 t) r0_4 (ix2 0 k) = V m c main_v5 (ix2 3 k) := by
    unfold iblk
    generalize V m c = W
    refine congrArg (W main_v5) (?_ : _ = ix2 _ k)
    blk_ext [idx t]
    all_goals (rw [Rect.idx_unit_val]; first | rfl | exact Nat.zero_add _)
  rw [e, v5_eq]
  pointwise

theorem rd5 (c : Dev nD) (t : Fin cfg0.N) (k : Fin 128) (o : Fin 2) :
    iblk m c 2 t (ix2 k o) = m ((c : Thread nD τ).loc main_arg5) (ix4 o k 0 0) := by
  blk_ext! [iblk, V, idx t]

theorem rd6 (c : Dev nD) (t : Fin cfg0.N) (o : Fin 2) :
    iblk m c 3 t (ix2 0 o) = m ((c : Thread nD τ).loc main_arg6) (ix1 o) := by
  blk_ext! [iblk, V, idx t]

theorem rd7 (c : Dev nD) (t : Fin cfg0.N) (n : Fin 2000) (q : Fin 4) :
    iblk m c 4 t (ix2 n q) = m ((c : Thread nD τ).loc main_arg7) (ix4 t 0 n q) := by
  blk_ext! [iblk, V, idx t]

/-- What a grid point writes, entry by entry. -/
theorem block_at (c : Dev nD) (t : Fin cfg0.N) (y : S1x9x9.Idx) :
    out0_5 (iblk m c 0 t) (iblk m c 1 t) (iblk m c 2 t) (iblk m c 3 t) (iblk m c 4 t) y
      = FinalSpec.result (m ((c : Thread nD τ).loc main_arg0))
          (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) t (y 1) (y 2) := by
  frame_out
  obtain ⟨l, i, j, rfl⟩ : ∃ (l : Fin 1) (i j : Fin 9), y = ix3 l i j := ⟨y 0, y 1, y 2, eq_ix3 y⟩
  rw [pay1_at]
  simp only [pay3_at, pay2_at, rd0, rd1, rd2, rd3, rd4, rd5, rd6, rd7]
  rfl

/-- The last call's result array is the sum of `FinalSpec` over its arguments. -/
theorem final (c : Dev nD) : (dats m 0 c).arrAt 5 cfg0.N = fun i => FinalSpec.result (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (i 0) (i 1) (i 2) := by
  refine (dats m 0 c).arrAt_eq_of_covers 5 _ (by decide +kernel) fun t _ y => ?_
  blk_simp
  rw [after0_5]
  refine (block_at m c t y).trans ?_
  have e : ((View.whole main_v9).slice (win0_5.rect t)).emb y = ix3 (n0 := 8) (n1 := 9) (n2 := 9) t (y 1) (y 2) := by
    blk_ext [idx t]
  rw [e]
  rfl

end Cert.Proof.FinalValue

end
-- ==== Proof.FinalClaims.lean ====
module

public import proofs.«01_k».proof.Proof.FinalValue
public import proofs.«01_k».proof.Proof.Gen.FinalRefIdeal.Run
public import proofs.«01_k».proof.Proof.Gen.Final.Frame
public import proofs.«01_k».proof.Defs

/-!
The claims about the last call: it and its reference run and leave their arguments alone, and end with the same result.
-/

@[expose] public section

noncomputable section

namespace Cert.Proof.FinalClaims

open Idealize.ShloMosaic Idealize.ShloMosaic.TcCoe Idealize.SL.Sem

/-- The reference runs, leaves its arguments as they were, and has no semaphore. -/
theorem frame_ri : Cert.quiescent_FinalRefIdeal := fun m ρ _ =>
  (θ_run Cert.FinalRefIdeal.defs _ _).mono (fun r h => ⟨fun c => (h c).2, sem_eq_zero_of_no_sems (by decide) r.2⟩)
    (Cert.FinalRefIdeal.Value.run (F := Ideal) m ρ)

/-- The call and the reference end with the same weighted moments. -/
theorem algebraic : Cert.algebraic_FinalIdeal_FinalRefIdeal := by
  intro m ρ m' ρ' hpre hagree
  refine ⟨fun c => (Cert.FinalIdeal.Gen.dats m 0 c).arrAt 5 Cert.FinalIdeal.cfg0.N,
    Cert.FinalIdeal.Value.run_blocks (F := Ideal) m ρ, ?_⟩
  refine (θ_run Cert.FinalRefIdeal.defs _ _).mono (fun r h c => ⟨(h c).1.trans ?_, (h c).2⟩)
    (Cert.FinalRefIdeal.Value.run (F := Ideal) m' ρ')
  obtain ⟨h0, h1, h2, h3, h4, h5, h6, h7⟩ := hagree c
  rw [Cert.FinalRefIdeal.Read.val_main_v69_eq, h0, h1, h2, h3, h4, h5, h6, h7]
  refine Eq.trans ?_ (FinalValue.final m c).symm
  funext i
  obtain ⟨a, b, e, rfl⟩ : ∃ (a : Fin 8) (b e : Fin 9), i = ix3 a b e := ⟨i 0, i 1, i 2, eq_ix3 i⟩
  exact FinalSpec.v69_at _ _ _ _ _ _ _ _ a b e

end Cert.Proof.FinalClaims

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Points
public import proofs.«01_k».proof.Proof.Gen.Points.Skeleton
public import proofs.«01_k».proof.Proof.Gen.Points.Launch
public import proofs.«01_k».proof.Proof.Gen.Points.Points
public import proofs.«01_k».proof.Proof.Gen.Points.Frame
public import proofs.«01_k».proof.Proof.Gen.PointsIdeal
public import proofs.«01_k».proof.Proof.Gen.PointsIdeal.Skeleton
public import proofs.«01_k».proof.Proof.Gen.PointsIdeal.Launch
public import proofs.«01_k».proof.Proof.Gen.PointsIdeal.Points
public import proofs.«01_k».proof.Proof.Gen.PointsIdeal.Frame
public import proofs.«01_k».proof.Proof.Gen.PointsRefIdeal
public import proofs.«01_k».proof.Proof.Gen.PointsRefIdeal.Run
public import proofs.«01_k».proof.Proof.Gen.PointsRefIdeal.Read
public import proofs.«01_k».proof.Proof.Gen.Knn
public import proofs.«01_k».proof.Proof.Gen.Knn.Skeleton
public import proofs.«01_k».proof.Proof.Gen.Knn.Launch
public import proofs.«01_k».proof.Proof.Gen.Knn.Points
public import proofs.«01_k».proof.Proof.Gen.Knn.Frame
public import proofs.«01_k».proof.Proof.Gen.KnnIdeal
public import proofs.«01_k».proof.Proof.Gen.KnnIdeal.Skeleton
public import proofs.«01_k».proof.Proof.Gen.KnnIdeal.Launch
public import proofs.«01_k».proof.Proof.Gen.KnnIdeal.Points
public import proofs.«01_k».proof.Proof.Gen.KnnIdeal.Frame
public import proofs.«01_k».proof.Proof.Gen.KnnRefIdeal
public import proofs.«01_k».proof.Proof.Gen.KnnRefIdeal.Run
public import proofs.«01_k».proof.Proof.Gen.KnnRefIdeal.Read
public import proofs.«01_k».proof.Proof.Gen.Ann
public import proofs.«01_k».proof.Proof.Gen.Ann.Skeleton
public import proofs.«01_k».proof.Proof.Gen.Ann.Launch
public import proofs.«01_k».proof.Proof.Gen.Ann.Points
public import proofs.«01_k».proof.Proof.Gen.Ann.Frame
public import proofs.«01_k».proof.Proof.Gen.AnnIdeal
public import proofs.«01_k».proof.Proof.Gen.AnnIdeal.Skeleton
public import proofs.«01_k».proof.Proof.Gen.AnnIdeal.Launch
public import proofs.«01_k».proof.Proof.Gen.AnnIdeal.Points
public import proofs.«01_k».proof.Proof.Gen.AnnIdeal.Frame
public import proofs.«01_k».proof.Proof.Gen.AnnRefIdeal
public import proofs.«01_k».proof.Proof.Gen.AnnRefIdeal.Run
public import proofs.«01_k».proof.Proof.Gen.AnnRefIdeal.Read
public import proofs.«01_k».proof.Proof.Gen.Final
public import proofs.«01_k».proof.Proof.Gen.Final.Skeleton
public import proofs.«01_k».proof.Proof.Gen.Final.Launch
public import proofs.«01_k».proof.Proof.Gen.Final.Points
public import proofs.«01_k».proof.Proof.Gen.Final.Frame
public import proofs.«01_k».proof.Proof.Gen.FinalIdeal
public import proofs.«01_k».proof.Proof.Gen.FinalIdeal.Skeleton
public import proofs.«01_k».proof.Proof.Gen.FinalIdeal.Launch
public import proofs.«01_k».proof.Proof.Gen.FinalIdeal.Points
public import proofs.«01_k».proof.Proof.Gen.FinalIdeal.Frame
public import proofs.«01_k».proof.Proof.Gen.FinalIdeal.Value
public import proofs.«01_k».proof.Proof.Gen.FinalRefIdeal
public import proofs.«01_k».proof.Proof.Gen.FinalRefIdeal.Run
public import proofs.«01_k».proof.Proof.Gen.FinalRefIdeal.Read
public import proofs.«01_k».proof.Proof.Gen.Pre_idx_in_rows
public import proofs.«01_k».proof.Proof.Gen.Pre_points_finite
public import proofs.«01_k».proof.Proof.Gen.Pre_knn_finite
public import proofs.«01_k».proof.Proof.Gen.Pre_ann_finite
public import proofs.«01_k».proof.Proof.Claims
public import proofs.«01_k».proof.Proof.PointsClaims
public import proofs.«01_k».proof.Proof.KnnClaims
public import proofs.«01_k».proof.Proof.AnnClaims
public import proofs.«01_k».proof.Proof.FinalClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Points.Gen.facts, Cert.PointsIdeal.Gen.facts, Cert.PointsRefIdeal.Gen.facts,
  Cert.Knn.Gen.facts, Cert.KnnIdeal.Gen.facts, Cert.KnnRefIdeal.Gen.facts,
  Cert.Ann.Gen.facts, Cert.AnnIdeal.Gen.facts, Cert.AnnRefIdeal.Gen.facts,
  Cert.Final.Gen.facts, Cert.FinalIdeal.Gen.facts, Cert.FinalRefIdeal.Gen.facts,
  Cert.Pre_idx_in_rows.Gen.facts, Cert.Pre_points_finite.Gen.facts, Cert.Pre_knn_finite.Gen.facts, Cert.Pre_ann_finite.Gen.facts, by
  exact ⟨Claims.frame_p, Claims.frame_pi, Claims.frame_ri, Claims.frame_ri_pre,
    fun m ρ _ => Cert.Points.Gen.frame m ρ, fun m ρ _ => Cert.PointsIdeal.Gen.frame m ρ, fun m ρ _ => Cert.PointsIdeal.Gen.frame m ρ,
    PointsClaims.frame_ri, PointsClaims.frame_ri_pre,
    fun m ρ _ => Cert.Knn.Gen.frame m ρ, fun m ρ _ => Cert.KnnIdeal.Gen.frame m ρ, fun m ρ _ => Cert.KnnIdeal.Gen.frame m ρ,
    KnnClaims.frame_ri, KnnClaims.frame_ri_pre,
    fun m ρ _ => Cert.Ann.Gen.frame m ρ, fun m ρ _ => Cert.AnnIdeal.Gen.frame m ρ, fun m ρ _ => Cert.AnnIdeal.Gen.frame m ρ,
    AnnClaims.frame_ri, AnnClaims.frame_ri_pre,
    fun m ρ _ => Cert.Final.Gen.frame m ρ, fun m ρ _ => Cert.FinalIdeal.Gen.frame m ρ, FinalClaims.frame_ri,
    trivial, Claims.algebraic, trivial, PointsClaims.algebraic, trivial, KnnClaims.algebraic, trivial, AnnClaims.algebraic, trivial, FinalClaims.algebraic⟩⟩

end Cert.Proof

end
